-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S4096x2048 : Shape := ⟨2, ![4096, 2048]⟩
abbrev S8x128 : Shape := ⟨2, ![8, 128]⟩
abbrev S4096x1024 : Shape := ⟨2, ![4096, 1024]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S4x1024x2048 : Shape := ⟨3, ![4, 1024, 2048]⟩
abbrev S3x1024x2048 : Shape := ⟨3, ![3, 1024, 2048]⟩
abbrev S4x8x128 : Shape := ⟨3, ![4, 8, 128]⟩
abbrev S4x4 : Shape := ⟨2, ![4, 4]⟩
abbrev S4 : Shape := ⟨1, ![4]⟩
abbrev S_ : Shape := ⟨0, ![]⟩
abbrev S1x8x128 : Shape := ⟨3, ![1, 8, 128]⟩
abbrev S1x1 : Shape := ⟨2, ![1, 1]⟩
abbrev S1x256x2048 : Shape := ⟨3, ![1, 256, 2048]⟩
abbrev S256x2048 : Shape := ⟨2, ![256, 2048]⟩
abbrev S1x4x8x128 : Shape := ⟨4, ![1, 4, 8, 128]⟩
abbrev S1x1x1x1 : Shape := ⟨4, ![1, 1, 1, 1]⟩

abbrev nBuf : Space → Nat
  | .hbm => 5
  | .vmem => 11
  | .smem => 0
  | _ => 0

abbrev bufTy : (tb : Table) → Fin (tcTables nBuf tb) → BufTy
  | .hbm, ⟨0, _⟩ => ⟨S1024x4096, .f32⟩
  | .hbm, ⟨1, _⟩ => ⟨S4096x8192, .f32⟩
  | .hbm, ⟨2, _⟩ => ⟨S4096x2048, .f32⟩
  | .hbm, ⟨3, _⟩ => ⟨S8x128, .f32⟩
  | .hbm, ⟨4, _⟩ => ⟨S4096x2048, .f32⟩
  | .local _ .vmem, ⟨0, _⟩ => ⟨S1024x4096, .f32⟩
  | .local _ .vmem, ⟨1, _⟩ => ⟨S4096x1024, .f32⟩
  | .local _ .vmem, ⟨2, _⟩ => ⟨S4096x1024, .f32⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | .local _ .vmem, ⟨6, _⟩ => ⟨S8x128, .f32⟩
  | .local _ .vmem, ⟨7, _⟩ => ⟨S4x1024x2048, .f32⟩
  | .local _ .vmem, ⟨8, _⟩ => ⟨S3x1024x2048, .i8⟩
  | .local _ .vmem, ⟨9, _⟩ => ⟨S3x1024x2048, .i8⟩
  | .local _ .vmem, ⟨10, _⟩ => ⟨S4x8x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  (ofTc nBuf bufTy 1 79 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_scratch0 : Ref sig .tc := ⟨.vmem, 7, rfl⟩
abbrev cc1_scratch1 : Ref sig .tc := ⟨.vmem, 8, rfl⟩
abbrev cc1_scratch2 : Ref sig .tc := ⟨.vmem, 9, rfl⟩
abbrev cc1_scratch3 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_7 : BitVec 32 := 0#32
  let v15 : BitVec 1 := Scalar.cmpi .ne v14 c0_i32_7
  v15

def k0_cond2 (i : grid0.Coords) : BitVec 1 :=
  let arg0 : BitVec 32 := BitVec.ofNat 32 (i 0).val
  let c0_i32_8 : BitVec 32 := 0#32
  let v16 : BitVec 1 := Scalar.cmpi .ne arg0 c0_i32_8
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k1_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k1_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k1_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v21 : BitVec 32 := Scalar.addi v2 c1_i32_17
  let c4_i32_18 : BitVec 32 := 4#32
  let v22 : BitVec 32 := Scalar.remsi v21 c4_i32_18
  let c1_i32_23 : BitVec 32 := 1#32
  let v23 : BitVec 32 := Scalar.muli v22 c1_i32_23
  let v24 : BitVec 32 := Scalar.addi c0_i32_24 v23
  v24.toNat
def k1_dev5 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_29 : BitVec 32 := 2#32
  let v33 : BitVec 32 := Scalar.addi v2 c2_i32_29
  let c4_i32_30 : BitVec 32 := 4#32
  let v34 : BitVec 32 := Scalar.remsi v33 c4_i32_30
  let c1_i32_35 : BitVec 32 := 1#32
  let v35 : BitVec 32 := Scalar.muli v34 c1_i32_35
  let v36 : BitVec 32 := Scalar.addi c0_i32_36 v35
  v36.toNat
def k1_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_41 : BitVec 32 := 3#32
  let v45 : BitVec 32 := Scalar.addi v2 c3_i32_41
  let c4_i32_42 : BitVec 32 := 4#32
  let v46 : BitVec 32 := Scalar.remsi v45 c4_i32_42
  let c1_i32_47 : BitVec 32 := 1#32
  let v47 : BitVec 32 := Scalar.muli v46 c1_i32_47
  let v48 : BitVec 32 := Scalar.addi c0_i32_48 v47
  v48.toNat
def k1_off1 (d0 : Dev nD) (c1_i32_53 : BitVec 32) (c0_i32_55 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v57 : BitVec 32 := Scalar.addi v2 c1_i32_53
  let c4_i32_54 : BitVec 32 := 4#32
  let v58 : BitVec 32 := Scalar.remsi v57 c4_i32_54
  let c1024_i32 : BitVec 32 := 1024#32
  let v59 : BitVec 32 := Scalar.muli v58 c1024_i32
  let v60 : BitVec 32 := Scalar.addi v59 c0_i32_55
  let c0_i32_61 : BitVec 32 := 0#32
  ![v60.toNat, 0]
def k1_dev7 (d0 : Dev nD) : Nat :=
  let c0_i32_241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_219 : BitVec 32 := 1#32
  let v207 : BitVec 32 := Scalar.addi v2 c1_i32_219
  let c4_i32_220 : BitVec 32 := 4#32
  let v208 : BitVec 32 := Scalar.remsi v207 c4_i32_220
  let c1_i32_240 : BitVec 32 := 1#32
  let v227 : BitVec 32 := Scalar.muli v208 c1_i32_240
  let v228 : BitVec 32 := Scalar.addi c0_i32_241 v227
  v228.toNat
def k1_dev8 (d0 : Dev nD) : Nat :=
  let c0_i32_266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_219 : BitVec 32 := 1#32
  let v207 : BitVec 32 := Scalar.addi v2 c1_i32_219
  let c4_i32_220 : BitVec 32 := 4#32
  let v208 : BitVec 32 := Scalar.remsi v207 c4_i32_220
  let c1_i32_265 : BitVec 32 := 1#32
  let v255 : BitVec 32 := Scalar.muli v208 c1_i32_265
  let v256 : BitVec 32 := Scalar.addi c0_i32_266 v255
  v256.toNat
def k1_dev9 (d0 : Dev nD) : Nat :=
  let c0_i32_291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_219 : BitVec 32 := 1#32
  let v207 : BitVec 32 := Scalar.addi v2 c1_i32_219
  let c4_i32_220 : BitVec 32 := 4#32
  let v208 : BitVec 32 := Scalar.remsi v207 c4_i32_220
  let c1_i32_290 : BitVec 32 := 1#32
  let v283 : BitVec 32 := Scalar.muli v208 c1_i32_290
  let v284 : BitVec 32 := Scalar.addi c0_i32_291 v283
  v284.toNat
def k1_dev10 (d0 : Dev nD) : Nat :=
  let c0_i32_316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_219 : BitVec 32 := 1#32
  let v207 : BitVec 32 := Scalar.addi v2 c1_i32_219
  let c4_i32_220 : BitVec 32 := 4#32
  let v208 : BitVec 32 := Scalar.remsi v207 c4_i32_220
  let c1_i32_315 : BitVec 32 := 1#32
  let v311 : BitVec 32 := Scalar.muli v208 c1_i32_315
  let v312 : BitVec 32 := Scalar.addi c0_i32_316 v311
  v312.toNat
def k1_dev11 (d0 : Dev nD) : Nat :=
  let c0_i32_343 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_321 : BitVec 32 := 2#32
  let v321 : BitVec 32 := Scalar.addi v2 c2_i32_321
  let c4_i32_322 : BitVec 32 := 4#32
  let v322 : BitVec 32 := Scalar.remsi v321 c4_i32_322
  let c1_i32_342 : BitVec 32 := 1#32
  let v341 : BitVec 32 := Scalar.muli v322 c1_i32_342
  let v342 : BitVec 32 := Scalar.addi c0_i32_343 v341
  v342.toNat
def k1_dev12 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_321 : BitVec 32 := 2#32
  let v321 : BitVec 32 := Scalar.addi v2 c2_i32_321
  let c4_i32_322 : BitVec 32 := 4#32
  let v322 : BitVec 32 := Scalar.remsi v321 c4_i32_322
  let c1_i32_368 : BitVec 32 := 1#32
  let v369 : BitVec 32 := Scalar.muli v322 c1_i32_368
  let v370 : BitVec 32 := Scalar.addi c0_i32_369 v369
  v370.toNat
def k1_dev13 (d0 : Dev nD) : Nat :=
  let c0_i32_395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_321 : BitVec 32 := 2#32
  let v321 : BitVec 32 := Scalar.addi v2 c2_i32_321
  let c4_i32_322 : BitVec 32 := 4#32
  let v322 : BitVec 32 := Scalar.remsi v321 c4_i32_322
  let c1_i32_394 : BitVec 32 := 1#32
  let v397 : BitVec 32 := Scalar.muli v322 c1_i32_394
  let v398 : BitVec 32 := Scalar.addi c0_i32_395 v397
  v398.toNat
def k1_dev14 (d0 : Dev nD) : Nat :=
  let c0_i32_421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_321 : BitVec 32 := 2#32
  let v321 : BitVec 32 := Scalar.addi v2 c2_i32_321
  let c4_i32_322 : BitVec 32 := 4#32
  let v322 : BitVec 32 := Scalar.remsi v321 c4_i32_322
  let c1_i32_420 : BitVec 32 := 1#32
  let v425 : BitVec 32 := Scalar.muli v322 c1_i32_420
  let v426 : BitVec 32 := Scalar.addi c0_i32_421 v425
  v426.toNat
def k1_dev15 (d0 : Dev nD) : Nat :=
  let c0_i32_448 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_426 : BitVec 32 := 3#32
  let v435 : BitVec 32 := Scalar.addi v2 c3_i32_426
  let c4_i32_427 : BitVec 32 := 4#32
  let v436 : BitVec 32 := Scalar.remsi v435 c4_i32_427
  let c1_i32_447 : BitVec 32 := 1#32
  let v455 : BitVec 32 := Scalar.muli v436 c1_i32_447
  let v456 : BitVec 32 := Scalar.addi c0_i32_448 v455
  v456.toNat
def k1_dev16 (d0 : Dev nD) : Nat :=
  let c0_i32_474 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_426 : BitVec 32 := 3#32
  let v435 : BitVec 32 := Scalar.addi v2 c3_i32_426
  let c4_i32_427 : BitVec 32 := 4#32
  let v436 : BitVec 32 := Scalar.remsi v435 c4_i32_427
  let c1_i32_473 : BitVec 32 := 1#32
  let v483 : BitVec 32 := Scalar.muli v436 c1_i32_473
  let v484 : BitVec 32 := Scalar.addi c0_i32_474 v483
  v484.toNat
def k1_dev17 (d0 : Dev nD) : Nat :=
  let c0_i32_500 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_426 : BitVec 32 := 3#32
  let v435 : BitVec 32 := Scalar.addi v2 c3_i32_426
  let c4_i32_427 : BitVec 32 := 4#32
  let v436 : BitVec 32 := Scalar.remsi v435 c4_i32_427
  let c1_i32_499 : BitVec 32 := 1#32
  let v511 : BitVec 32 := Scalar.muli v436 c1_i32_499
  let v512 : BitVec 32 := Scalar.addi c0_i32_500 v511
  v512.toNat
def k1_dev18 (d0 : Dev nD) : Nat :=
  let c0_i32_526 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_426 : BitVec 32 := 3#32
  let v435 : BitVec 32 := Scalar.addi v2 c3_i32_426
  let c4_i32_427 : BitVec 32 := 4#32
  let v436 : BitVec 32 := Scalar.remsi v435 c4_i32_427
  let c1_i32_525 : BitVec 32 := 1#32
  let v539 : BitVec 32 := Scalar.muli v436 c1_i32_525
  let v540 : BitVec 32 := Scalar.addi c0_i32_526 v539
  v540.toNat
def k1_off2 (d0 : Dev nD) (c0_i32_546 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_545 : BitVec 32 := 1024#32
  let v568 : BitVec 32 := Scalar.muli v2 c1024_i32_545
  let v569 : BitVec 32 := Scalar.addi v568 c0_i32_546
  let c0_i32_550 : BitVec 32 := 0#32
  ![v569.toNat, 0]
def k1_off3 (d0 : Dev nD) (c1_i32_619 : BitVec 32) (c0_i32_641 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v653 : BitVec 32 := Scalar.subi v2 c1_i32_619
  let c4_i32_620 : BitVec 32 := 4#32
  let v654 : BitVec 32 := Scalar.addi v653 c4_i32_620
  let c4_i32_621 : BitVec 32 := 4#32
  let v655 : BitVec 32 := Scalar.remsi v654 c4_i32_621
  let c1024_i32_640 : BitVec 32 := 1024#32
  let v672 : BitVec 32 := Scalar.muli v655 c1024_i32_640
  let v673 : BitVec 32 := Scalar.addi v672 c0_i32_641
  let c0_i32_645 : BitVec 32 := 0#32
  ![v673.toNat, 0]
abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.A2a.Views.lean ====
/-
  The pieces of the exchange kernel's buffers and what each is to hold.

  A device's bounce buffer is cut in sixteen pieces, one for each distance (the number of devices to the
  right that the piece is for, or came from) and each quarter of 256 rows; the send and receive buffers
  likewise, less the distance zero; the table of maxima in four. Piece `i` is the quarter `i % 4` of the
  distance `i / 4`.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.Lib.ValueLayout

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Where the pieces sit -/

/-- Piece `i` of the bounce buffer: distance `i / 4`, rows from `i % 4 * 256`. -/
def bOff (i : Fin 16) : Fin 3 → ℕ := ![i.val / 4, i.val % 4 * 256, 0]
/-- Piece `i` of the send or receive buffer, whose first entry is for distance one. -/
def qOff (i : Fin 16) : Fin 3 → ℕ := ![i.val / 4 - 1, i.val % 4 * 256, 0]
/-- The rows of a device's own array for the device at distance `j / 4`, quarter `j % 4`. -/
def yOff (c : Fin 4) (j : Fin 16) : Fin 2 → ℕ := ![(c.val + j.val / 4) % 4 * 1024 + j.val % 4 * 256, 0]
/-- Entry `d` of the table of maxima. -/
def aOff (d : Fin 4) : Fin 3 → ℕ := ![d.val, 0, 0]

theorem bOff_inb (i : Fin 16) : ∀ a, bOff i a + S1x256x2048.size a ≤ S4x1024x2048.size a := by
  have := i.isLt
  refine Fin.forall_fin_succ.mpr ⟨?_, Fin.forall_fin_succ.mpr ⟨?_, Fin.forall_fin_succ.mpr ⟨?_, fun a => a.elim0⟩⟩⟩
  · show i.val / 4 + 1 ≤ 4; omega
  · show i.val % 4 * 256 + 256 ≤ 1024; omega
  · show 0 + 2048 ≤ 2048; omega
theorem qOff_inb (i : Fin 16) : ∀ a, qOff i a + S1x256x2048.size a ≤ S3x1024x2048.size a := by
  have := i.isLt
  refine Fin.forall_fin_succ.mpr ⟨?_, Fin.forall_fin_succ.mpr ⟨?_, Fin.forall_fin_succ.mpr ⟨?_, fun a => a.elim0⟩⟩⟩
  · show i.val / 4 - 1 + 1 ≤ 3; omega
  · show i.val % 4 * 256 + 256 ≤ 1024; omega
  · show 0 + 2048 ≤ 2048; omega
theorem yOff_inb (c : Fin 4) (j : Fin 16) : ∀ a, yOff c j a + S256x2048.size a ≤ S4096x2048.size a := by
  have := c.isLt
  have := j.isLt
  refine Fin.forall_fin_succ.mpr ⟨?_, Fin.forall_fin_succ.mpr ⟨?_, fun a => a.elim0⟩⟩
  · show (c.val + j.val / 4) % 4 * 1024 + j.val % 4 * 256 + 256 ≤ 4096; omega
  · show 0 + 2048 ≤ 2048; omega
theorem aOff_inb (d : Fin 4) : ∀ a, aOff d a + S1x8x128.size a ≤ S4x8x128.size a := by
  have := d.isLt
  refine Fin.forall_fin_succ.mpr ⟨?_, Fin.forall_fin_succ.mpr ⟨?_, Fin.forall_fin_succ.mpr ⟨?_, fun a => a.elim0⟩⟩⟩
  · show d.val + 1 ≤ 4; omega
  · show 0 + 8 ≤ 8; omega
  · show 0 + 128 ≤ 128; omega

abbrev bufB : Memref sig .tc .vmem S4x1024x2048 .f32 := Memref.whole cc1_scratch0
abbrev bufQ : Memref sig .tc .vmem S3x1024x2048 .i8 := Memref.whole cc1_scratch1
abbrev bufR : Memref sig .tc .vmem S3x1024x2048 .i8 := Memref.whole cc1_scratch2
abbrev bufA : Memref sig .tc .vmem S4x8x128 .f32 := Memref.whole cc1_scratch3
abbrev bufY : Memref sig .tc .hbm S4096x2048 .f32 := Memref.whole main_v2

abbrev bRect (i : Fin 16) : Rect S4x1024x2048 := Rect.unit (s := S4x1024x2048) (bOff i) S1x256x2048.size (bOff_inb i)
abbrev qRect (i : Fin 16) : Rect S3x1024x2048 := Rect.unit (s := S3x1024x2048) (qOff i) S1x256x2048.size (qOff_inb i)
abbrev yRect (c : Fin 4) (j : Fin 16) : Rect S4096x2048 := Rect.unit (s := S4096x2048) (yOff c j) S256x2048.size (yOff_inb c j)
abbrev aRect (d : Fin 4) : Rect S4x8x128 := Rect.unit (s := S4x8x128) (aOff d) S1x8x128.size (aOff_inb d)

/-- The pieces as the transfers name them. -/
abbrev bV (i : Fin 16) : Memref sig .tc .vmem S256x2048 .f32 := (bufB.slice (bRect i) (fun _ => rfl)).squeeze S256x2048 squeezes_S1x256x2048_S256x2048
abbrev qV (i : Fin 16) : Memref sig .tc .vmem S256x2048 .i8 := (bufQ.slice (qRect i) (fun _ => rfl)).squeeze S256x2048 squeezes_S1x256x2048_S256x2048
abbrev rV (i : Fin 16) : Memref sig .tc .vmem S256x2048 .i8 := (bufR.slice (qRect i) (fun _ => rfl)).squeeze S256x2048 squeezes_S1x256x2048_S256x2048
abbrev yV (c : Fin 4) (j : Fin 16) : Memref sig .tc .hbm S256x2048 .f32 := bufY.slice (yRect c j) (fun _ => rfl)
abbrev aV (d : Fin 4) : Memref sig .tc .vmem S8x128 .f32 := (bufA.slice (aRect d) (fun _ => rfl)).squeeze S8x128 squeezes_S1x8x128_S8x128

/-! ## Indices under the pieces -/

theorem exRow (x : S256x2048.Idx) : ∃ (r : Fin 256) (l : Fin 2048), x = ix2 r l := ⟨x 0, x 1, eq_ix2 x⟩
theorem exTab (x : S8x128.Idx) : ∃ (r : Fin 8) (l : Fin 128), x = ix2 r l := ⟨x 0, x 1, eq_ix2 x⟩

theorem emb_row3 {N : ℕ} (off : Fin 3 → ℕ) (inb : ∀ a, off a + S1x256x2048.size a ≤ (⟨3, ![N, 1024, 2048]⟩ : Shape).size a)
    (h : (⟨2, ![256, 2048]⟩ : Shape).numel = (⟨3, ![1, 256, 2048]⟩ : Shape).numel) (r : Fin 256) (l : Fin 2048) (a : Fin 3) :
    ((Rect.unit (s := (⟨3, ![N, 1024, 2048]⟩ : Shape)) off S1x256x2048.size inb).emb (Shape.reshapeEquiv h (ix2 r l)) a : ℕ)
      = off a + (ix3 (0 : Fin 1) r l a : ℕ) := by
  rw [reshapeEquiv_ix2_1ab h r l, Rect.emb_apply]
  show off a + 1 * _ = _
  rw [Nat.one_mul]
  rfl

theorem emb_row3a (off : Fin 3 → ℕ) (inb : ∀ a, off a + S1x8x128.size a ≤ S4x8x128.size a)
    (h : (⟨2, ![8, 128]⟩ : Shape).numel = (⟨3, ![1, 8, 128]⟩ : Shape).numel) (r : Fin 8) (l : Fin 128) (a : Fin 3) :
    ((Rect.unit (s := S4x8x128) off S1x8x128.size inb).emb (Shape.reshapeEquiv h (ix2 r l)) a : ℕ)
      = off a + (ix3 (0 : Fin 1) r l a : ℕ) := by
  rw [reshapeEquiv_ix2_1ab h r l, Rect.emb_apply]
  show off a + 1 * _ = _
  rw [Nat.one_mul]
  rfl

theorem bV_emb (i : Fin 16) (r : Fin 256) (l : Fin 2048) :
    (bV i).view.emb (ix2 r l) = (ix3 ⟨i.val / 4, by have := i.isLt; omega⟩ ⟨i.val % 4 * 256 + r.val, by have := r.isLt; omega⟩ l : S4x1024x2048.Idx) := by
  funext a
  apply Fin.ext
  refine (emb_row3 (N := 4) (bOff i) (bOff_inb i) _ r l a).trans ?_
  match a with
  | ⟨0, _⟩ => rfl
  | ⟨1, _⟩ => rfl
  | ⟨2, _⟩ => exact Nat.zero_add _
theorem qV_emb (i : Fin 16) (r : Fin 256) (l : Fin 2048) :
    (qV i).view.emb (ix2 r l) = (ix3 ⟨i.val / 4 - 1, by have := i.isLt; omega⟩ ⟨i.val % 4 * 256 + r.val, by have := r.isLt; omega⟩ l : S3x1024x2048.Idx) := by
  funext a
  apply Fin.ext
  refine (emb_row3 (N := 3) (qOff i) (qOff_inb i) _ r l a).trans ?_
  match a with
  | ⟨0, _⟩ => rfl
  | ⟨1, _⟩ => rfl
  | ⟨2, _⟩ => exact Nat.zero_add _
theorem rV_emb (i : Fin 16) (r : Fin 256) (l : Fin 2048) :
    (rV i).view.emb (ix2 r l) = (ix3 ⟨i.val / 4 - 1, by have := i.isLt; omega⟩ ⟨i.val % 4 * 256 + r.val, by have := r.isLt; omega⟩ l : S3x1024x2048.Idx) := by
  funext a
  apply Fin.ext
  refine (emb_row3 (N := 3) (qOff i) (qOff_inb i) _ r l a).trans ?_
  match a with
  | ⟨0, _⟩ => rfl
  | ⟨1, _⟩ => rfl
  | ⟨2, _⟩ => exact Nat.zero_add _
theorem aV_emb (d : Fin 4) (r : Fin 8) (l : Fin 128) : (aV d).view.emb (ix2 r l) = (ix3 d r l : S4x8x128.Idx) := by
  funext a
  apply Fin.ext
  refine (emb_row3a (aOff d) (aOff_inb d) _ r l a).trans ?_
  match a with
  | ⟨0, _⟩ => rfl
  | ⟨1, _⟩ => exact Nat.zero_add _
  | ⟨2, _⟩ => exact Nat.zero_add _
theorem yV_emb (c : Fin 4) (j : Fin 16) (r : Fin 256) (l : Fin 2048) :
    (yV c j).view.emb (ix2 r l) = (ix2 ⟨(c.val + j.val / 4) % 4 * 1024 + j.val % 4 * 256 + r.val, by have := r.isLt; have := j.isLt; omega⟩ l : S4096x2048.Idx) := by
  funext a
  apply Fin.ext
  refine (Rect.emb_apply (yRect c j) (ix2 r l) a).trans ?_
  match a with
  | ⟨0, _⟩ => show yOff c j 0 + 1 * r.val = _; rw [Nat.one_mul]; rfl
  | ⟨1, _⟩ => show 0 + 1 * l.val = _; rw [Nat.one_mul, Nat.zero_add]

/-! ## The pieces make up the buffers -/

theorem mem_bV (i : Fin 16) (k : S4x1024x2048.Idx) :
    k ∈ (bV i).view.set ↔ (k 0 : ℕ) = i.val / 4 ∧ (k 1 : ℕ) / 256 = i.val % 4 := by
  have hk1 : (k 1 : ℕ) < 1024 := (k 1).isLt
  constructor
  · intro h
    obtain ⟨x, -, rfl⟩ := Finset.mem_map.mp h
    obtain ⟨r, l, rfl⟩ := exRow x
    rw [bV_emb]
    have h1 : r.val < 256 := r.isLt
    exact ⟨rfl, by show (i.val % 4 * 256 + r.val) / 256 = _; omega⟩
  · rintro ⟨h0, h1⟩
    refine Finset.mem_map.mpr ⟨ix2 ⟨(k 1 : ℕ) % 256, Nat.mod_lt _ (by decide)⟩ (k 2), Finset.mem_univ _, ?_⟩
    refine (bV_emb i _ _).trans ?_
    funext a
    apply Fin.ext
    match a with
    | ⟨0, _⟩ => exact h0.symm
    | ⟨1, _⟩ => show i.val % 4 * 256 + (k 1 : ℕ) % 256 = (k 1 : ℕ); omega
    | ⟨2, _⟩ => rfl
theorem mem_qV (i : Fin 16) (k : S3x1024x2048.Idx) :
    k ∈ (qV i).view.set ↔ (k 0 : ℕ) = i.val / 4 - 1 ∧ (k 1 : ℕ) / 256 = i.val % 4 := by
  have hk1 : (k 1 : ℕ) < 1024 := (k 1).isLt
  constructor
  · intro h
    obtain ⟨x, -, rfl⟩ := Finset.mem_map.mp h
    obtain ⟨r, l, rfl⟩ := exRow x
    rw [qV_emb]
    have h1 : r.val < 256 := r.isLt
    exact ⟨rfl, by show (i.val % 4 * 256 + r.val) / 256 = _; omega⟩
  · rintro ⟨h0, h1⟩
    refine Finset.mem_map.mpr ⟨ix2 ⟨(k 1 : ℕ) % 256, Nat.mod_lt _ (by decide)⟩ (k 2), Finset.mem_univ _, ?_⟩
    refine (qV_emb i _ _).trans ?_
    funext a
    apply Fin.ext
    match a with
    | ⟨0, _⟩ => exact h0.symm
    | ⟨1, _⟩ => show i.val % 4 * 256 + (k 1 : ℕ) % 256 = (k 1 : ℕ); omega
    | ⟨2, _⟩ => rfl
theorem rV_set (i : Fin 16) : ((rV i).view.set : Finset S3x1024x2048.Idx) = (qV i).view.set := by
  ext k
  constructor <;> intro h <;> obtain ⟨x, -, rfl⟩ := Finset.mem_map.mp h
  · exact Finset.mem_map.mpr ⟨x, Finset.mem_univ _, rfl⟩
  · exact Finset.mem_map.mpr ⟨x, Finset.mem_univ _, rfl⟩
theorem mem_rV (i : Fin 16) (k : S3x1024x2048.Idx) :
    k ∈ (rV i).view.set ↔ (k 0 : ℕ) = i.val / 4 - 1 ∧ (k 1 : ℕ) / 256 = i.val % 4 := by
  rw [← mem_qV]; exact Finset.ext_iff.mp (rV_set i) k
theorem mem_aV (d : Fin 4) (k : S4x8x128.Idx) : k ∈ (aV d).view.set ↔ (k 0 : ℕ) = d.val := by
  constructor
  · intro h
    obtain ⟨x, -, rfl⟩ := Finset.mem_map.mp h
    obtain ⟨r, l, rfl⟩ := exTab x
    rw [aV_emb]
  · intro h0
    refine Finset.mem_map.mpr ⟨ix2 (k 1) (k 2), Finset.mem_univ _, ?_⟩
    refine (aV_emb d _ _).trans ?_
    funext a
    apply Fin.ext
    match a with
    | ⟨0, _⟩ => exact h0.symm
    | ⟨1, _⟩ => rfl
    | ⟨2, _⟩ => rfl
theorem mem_yV (c : Fin 4) (j : Fin 16) (k : S4096x2048.Idx) :
    k ∈ (yV c j).view.set ↔ (k 0 : ℕ) / 256 = (c.val + j.val / 4) % 4 * 4 + j.val % 4 := by
  have hk0 : (k 0 : ℕ) < 4096 := (k 0).isLt
  constructor
  · intro h
    obtain ⟨x, -, rfl⟩ := Finset.mem_map.mp h
    obtain ⟨r, l, rfl⟩ := exRow x
    rw [yV_emb]
    have h1 : r.val < 256 := r.isLt
    show ((c.val + j.val / 4) % 4 * 1024 + j.val % 4 * 256 + r.val) / 256 = _
    omega
  · intro h0
    refine Finset.mem_map.mpr ⟨ix2 ⟨(k 0 : ℕ) % 256, Nat.mod_lt _ (by decide)⟩ (k 1), Finset.mem_univ _, ?_⟩
    refine (yV_emb c j _ _).trans ?_
    funext a
    apply Fin.ext
    match a with
    | ⟨0, _⟩ => show (c.val + j.val / 4) % 4 * 1024 + j.val % 4 * 256 + (k 0 : ℕ) % 256 = (k 0 : ℕ); omega
    | ⟨1, _⟩ => rfl

/-! ## What the pieces hold

`Y c` is device `c`'s own array, `M c` its block of maxima. -/

variable (Y : Fin 4 → Vec F S4096x2048 .f32) (M : Fin 4 → Vec F S8x128 .f32)

/-- The table of maxima on device `c`: entry `d` from the device `d` to the left. -/
def tabA (c : Fin 4) : Vec F S4x8x128 .f32 := fun k => M (c - (show Fin 4 from k 0)) (ix2 (k 1) (k 2))
/-- The scale device `c` computes from its table. -/
def scaleOf (c : Fin 4) : F .f32 := k1_pay2 (tabA M c)
/-- What device `c` reads into its bounce buffer. -/
def readB (c : Fin 4) : Vec F S4x1024x2048 .f32 := fun k =>
  Y c (ix2 ⟨(c.val + (k 0 : Fin 4).val) % 4 * 1024 + (k 1 : Fin 1024).val, by have : (k 1 : Fin 1024).val < 1024 := (k 1 : Fin 1024).isLt; omega⟩ (k 2))
/-- A scaled value rounded and clamped. -/
def clampQ (s x : F .f32) : F .f32 :=
  FloatOps.minimumf (Scalar.ofBits .f32 0x42FE0000#32) (FloatOps.maximumf (Scalar.ofBits .f32 0xC2FE0000#32) (FloatOps.roundeven (FloatOps.divf x s)))
/-- What device `c` sends. -/
def sendQ (c : Fin 4) : Vec F S3x1024x2048 .i8 := fun k =>
  FloatOps.fptosi 8 (clampQ (scaleOf M c) (readB Y c (ix3 ⟨(k 0 : Fin 3).val + 1, by have : (k 0 : Fin 3).val < 3 := (k 0 : Fin 3).isLt; omega⟩ (k 1) (k 2))))
/-- What device `c` receives. -/
def recvQ (c : Fin 4) : Vec F S3x1024x2048 .i8 := fun k =>
  sendQ Y M (c - ⟨(k 0 : Fin 3).val + 1, by have : (k 0 : Fin 3).val < 3 := (k 0 : Fin 3).isLt; omega⟩) k
/-- What device `c` puts in its bounce buffer to write out. -/
def writeB (c : Fin 4) : Vec F S4x1024x2048 .f32 := fun k =>
  if (k 0 : Fin 4).val = 0 then FloatOps.mulf (clampQ (scaleOf M c) (readB Y c k)) (scaleOf M c)
  else FloatOps.mulf (FloatOps.sitofp .f32 (recvQ Y M c (ix3 ⟨(k 0 : Fin 4).val - 1, by have : (k 0 : Fin 4).val < 4 := (k 0 : Fin 4).isLt; omega⟩ (k 1) (k 2)))) (scaleOf M c)
/-- The result on device `c`. -/
def outY (c : Fin 4) : Vec F S4096x2048 .f32 := fun k =>
  writeB Y M c (ix3 (c - ⟨(k 0 : Fin 4096).val / 1024, by have : (k 0 : Fin 4096).val < 4096 := (k 0 : Fin 4096).isLt; omega⟩)
    ⟨(k 0 : Fin 4096).val % 1024, Nat.mod_lt _ (by decide)⟩ (k 1))

end Cert.KernelIdeal.A2a

end
-- ==== Proof.A2a.Contents.lean ====
/-
  How the named contents of the pieces fit together: what a copy or a store leaves in a piece is what the
  next one finds there.
-/
module

public import proofs.«01_k».proof.Proof.A2a.Views

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The distance of a piece. -/
def dOf (i : Fin 16) : Fin 4 := ⟨i.val / 4, by have := i.isLt; omega⟩
/-- The rows written back from a piece: those of the device the same distance to the left. -/
def refl (i : Fin 16) : Fin 16 := ⟨(4 - i.val / 4) % 4 * 4 + i.val % 4, by have := i.isLt; omega⟩

theorem add_sub4 : ∀ c d : Fin 4, c + d - d = c := by decide
theorem sub_zero4 : ∀ c : Fin 4, c - 0 = c := by decide

/-- What a whole write through a view leaves agrees with any contents that read the same through it. -/
theorem write_agree {κ : Kind} {sp : Space} {s : Shape} {e : EltTy} {Val : EltTy → Type} (v : View sig κ sp s e) (f g : v.ty.Contents Val)
    (w : s.Idx → Val e) (h : ∀ x, v.read Val g x = w x) : ∀ i ∈ v.set, v.write Val f w Finset.univ i = g i := by
  intro i hi
  obtain ⟨x, -, rfl⟩ := Finset.mem_map.mp hi
  rw [View.write_emb_of_mem _ _ (Finset.mem_univ x), ← h x, View.read_apply, cast_cast, cast_eq]

variable (Y : Fin 4 → Vec F S4096x2048 .f32) (M : Fin 4 → Vec F S8x128 .f32)

theorem readB_at (c : Fin 4) (i : Fin 16) (x : S256x2048.Idx) :
    (bV i).view.read (Elt F) (readB Y c) x = (yV c i).view.read (Elt F) (Y c) x := by
  obtain ⟨r, l, rfl⟩ := exRow x
  show readB Y c ((bV i).view.emb (ix2 r l)) = Y c ((yV c i).view.emb (ix2 r l))
  rw [bV_emb, yV_emb]
  show Y c (ix2 _ _) = Y c (ix2 _ _)
  congr 2
  apply Fin.ext
  show (c.val + i.val / 4) % 4 * 1024 + (i.val % 4 * 256 + r.val) = (c.val + i.val / 4) % 4 * 1024 + i.val % 4 * 256 + r.val
  omega

/-- The quantised value at a piece's index. -/
theorem sendQ_at (c : Fin 4) (i : Fin 16) (hi : 4 ≤ i.val) (r : Fin 256) (l : Fin 2048) :
    sendQ Y M c ((qV i).view.emb (ix2 r l)) = FloatOps.fptosi 8 (clampQ (scaleOf M c) (readB Y c ((bV i).view.emb (ix2 r l)))) := by
  rw [bV_emb, qV_emb]
  show FloatOps.fptosi 8 (clampQ (scaleOf M c) (readB Y c (ix3 _ _ _))) = FloatOps.fptosi 8 (clampQ (scaleOf M c) (readB Y c (ix3 _ _ _)))
  congr 4
  apply Fin.ext
  show i.val / 4 - 1 + 1 = i.val / 4
  omega

theorem recvQ_at (c : Fin 4) (i : Fin 16) (hi : 4 ≤ i.val) (x : S256x2048.Idx) :
    (rV i).view.read (Elt F) (recvQ Y M (c + dOf i)) x = (qV i).view.read (Elt F) (sendQ Y M c) x := by
  obtain ⟨r, l, rfl⟩ := exRow x
  show recvQ Y M (c + dOf i) ((rV i).view.emb (ix2 r l)) = sendQ Y M c ((qV i).view.emb (ix2 r l))
  rw [rV_emb, qV_emb]
  show sendQ Y M (c + dOf i - _) _ = sendQ Y M c _
  congr 1
  have h : dOf i = ⟨i.val / 4 - 1 + 1, by have := i.isLt; omega⟩ := Fin.ext (by show i.val / 4 = i.val / 4 - 1 + 1; omega)
  rw [h]
  exact add_sub4 c ⟨i.val / 4 - 1 + 1, _⟩

theorem writeB_own (c : Fin 4) (i : Fin 16) (hi : i.val < 4) (r : Fin 256) (l : Fin 2048) :
    writeB Y M c ((bV i).view.emb (ix2 r l)) = FloatOps.mulf (clampQ (scaleOf M c) (readB Y c ((bV i).view.emb (ix2 r l)))) (scaleOf M c) := by
  rw [bV_emb]
  unfold writeB
  rw [if_pos (by show i.val / 4 = 0; omega)]

theorem writeB_far (c : Fin 4) (i : Fin 16) (hi : 4 ≤ i.val) (r : Fin 256) (l : Fin 2048) :
    writeB Y M c ((bV i).view.emb (ix2 r l)) = FloatOps.mulf (FloatOps.sitofp .f32 (recvQ Y M c ((rV i).view.emb (ix2 r l)))) (scaleOf M c) := by
  rw [bV_emb, rV_emb]
  unfold writeB
  rw [if_neg (by show ¬ i.val / 4 = 0; omega)]

theorem outY_at (c : Fin 4) (i : Fin 16) (x : S256x2048.Idx) :
    (yV c (refl i)).view.read (Elt F) (outY Y M c) x = (bV i).view.read (Elt F) (writeB Y M c) x := by
  obtain ⟨r, l, rfl⟩ := exRow x
  show outY Y M c ((yV c (refl i)).view.emb (ix2 r l)) = writeB Y M c ((bV i).view.emb (ix2 r l))
  rw [yV_emb, bV_emb]
  show writeB Y M c (ix3 _ _ _) = writeB Y M c (ix3 _ _ _)
  have hi := i.isLt
  have hr := r.isLt
  have hc := c.isLt
  have e1 : (refl i).val / 4 = (4 - i.val / 4) % 4 := by show ((4 - i.val / 4) % 4 * 4 + i.val % 4) / 4 = _; omega
  have e2 : (refl i).val % 4 = i.val % 4 := by show ((4 - i.val / 4) % 4 * 4 + i.val % 4) % 4 = _; omega
  congr 2
  · apply Fin.ext
    rw [Fin.sub_def]
    show (4 - ((c.val + (refl i).val / 4) % 4 * 1024 + (refl i).val % 4 * 256 + r.val) / 1024 + c.val) % 4 = i.val / 4
    rw [e1, e2]; omega
  · apply Fin.ext
    show ((c.val + (refl i).val / 4) % 4 * 1024 + (refl i).val % 4 * 256 + r.val) % 1024 = i.val % 4 * 256 + r.val
    rw [e1, e2]; omega

theorem tabA_far (c d : Fin 4) (x : S8x128.Idx) :
    (aV d).view.read (Elt F) (tabA M (c + d)) x = (aV 0).view.read (Elt F) (tabA M c) x := by
  obtain ⟨r, l, rfl⟩ := exTab x
  show tabA M (c + d) ((aV d).view.emb (ix2 r l)) = tabA M c ((aV 0).view.emb (ix2 r l))
  rw [aV_emb, aV_emb]
  show M (c + d - d) (ix2 r l) = M (c - 0) (ix2 r l)
  rw [add_sub4, sub_zero4]

theorem tabA_own (c : Fin 4) (r : Fin 8) (l : Fin 128) : tabA M c ((aV 0).view.emb (ix2 r l)) = M c (ix2 r l) := by
  rw [aV_emb]
  show M (c - 0) (ix2 r l) = M c (ix2 r l)
  rw [sub_zero4]

end Cert.KernelIdeal.A2a

end
-- ==== Proof.A2a.Protocol.lean ====
/-
  The rounds of the exchange kernel's semaphores: who pays each, with what, and what a device holds of its
  pieces between two operations.

  Every semaphore has one round. The barrier cell of a device takes one unit from each other device, which
  comes with the places on that device this one will write: its entry of the table of maxima and its pieces of
  the receive buffer. Every other semaphore takes one transfer's credit, which comes with the transfer's pieces.
-/
module

public import proofs.«01_k».proof.Proof.A2a.Contents
public import Idealize.ShloMosaic.Lib.ShareLeaves
public import Idealize.ShloMosaic.Lib.Pipeline.Kit
public import Idealize.ShloMosaic.Lib.Pipeline.RegionTalk

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- The pipeline library's rounds and the exchange's. -/
abbrev UU : Type := UR sig nD τ × Rounds.URounds (GSem nD τ sig) (Fin 4)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 4)) (MT nD τ sig Unit (Elt F) ℕ UU ℕ) := embR

/-! ## The semaphores -/

abbrev barS : Sem sig := barrier0
def copyS (i : Fin 16) : DmaSem sig := ⟨7 + i.val, by have := i.isLt; show 7 + i.val < 79; omega⟩
def wrS (i : Fin 16) : DmaSem sig := ⟨23 + i.val, by have := i.isLt; show 23 + i.val < 79; omega⟩
def dsS (i : Fin 16) : DmaSem sig := ⟨39 + i.val, by have := i.isLt; show 39 + i.val < 79; omega⟩
def drS (i : Fin 16) : DmaSem sig := ⟨55 + i.val, by have := i.isLt; show 55 + i.val < 79; omega⟩
def asS (d : Fin 4) : DmaSem sig := ⟨71 + d.val, by have := d.isLt; show 71 + d.val < 79; omega⟩
def arS (d : Fin 4) : DmaSem sig := ⟨75 + d.val, by have := d.isLt; show 75 + d.val < 79; omega⟩

/-- What a semaphore is for. -/
inductive Role where
  | bar
  | copy (i : Fin 16)
  | wr (i : Fin 16)
  | ds (i : Fin 16)
  | dr (i : Fin 16)
  | asnd (d : Fin 4)
  | arcv (d : Fin 4)
  | other
deriving DecidableEq

def roleOf : SemLoc sig → Role
  | .reg _ => .bar
  | .dma s =>
    if s.val < 7 then .other
    else if s.val < 23 then .copy (Fin.ofNat 16 (s.val - 7))
    else if s.val < 39 then .wr (Fin.ofNat 16 (s.val - 23))
    else if s.val < 55 then .ds (Fin.ofNat 16 (s.val - 39))
    else if s.val < 71 then .dr (Fin.ofNat 16 (s.val - 55))
    else if s.val < 75 then .asnd (Fin.ofNat 4 (s.val - 71))
    else .arcv (Fin.ofNat 4 (s.val - 75))

theorem role_bar : roleOf (.reg barS) = .bar := rfl
theorem role_copy : ∀ i, roleOf (.dma (copyS i)) = .copy i := by decide
theorem role_wr : ∀ i, roleOf (.dma (wrS i)) = .wr i := by decide
theorem role_ds : ∀ i, roleOf (.dma (dsS i)) = .ds i := by decide
theorem role_dr : ∀ i, roleOf (.dma (drS i)) = .dr i := by decide
theorem role_as : ∀ d, roleOf (.dma (asS d)) = .asnd d := by decide
theorem role_ar : ∀ d, roleOf (.dma (arS d)) = .arcv d := by decide

abbrev barCell (c : Dev nD) : GSem nD τ sig := ((c : Thread nD τ), .reg barS)
abbrev copyCell (c : Dev nD) (i : Fin 16) : GSem nD τ sig := ((c : Thread nD τ), .dma (copyS i))
abbrev wrCell (c : Dev nD) (i : Fin 16) : GSem nD τ sig := ((c : Thread nD τ), .dma (wrS i))
abbrev dsCell (c : Dev nD) (i : Fin 16) : GSem nD τ sig := ((c : Thread nD τ), .dma (dsS i))
abbrev drCell (c : Dev nD) (i : Fin 16) : GSem nD τ sig := ((c : Thread nD τ), .dma (drS i))
abbrev asCell (c : Dev nD) (d : Fin 4) : GSem nD τ sig := ((c : Thread nD τ), .dma (asS d))
abbrev arCell (c : Dev nD) (d : Fin 4) : GSem nD τ sig := ((c : Thread nD τ), .dma (arS d))

/-- The credit of one transfer of rows, of quantised rows, of a block of maxima. -/
def NB : ℕ := (bV 0).view.dmaCredit
def NQ : ℕ := (qV 0).view.dmaCredit
def NA : ℕ := (aV 0).view.dmaCredit
theorem NB_pos : 0 < NB := View.dmaCredit_pos _ (by decide)
theorem NQ_pos : 0 < NQ := View.dmaCredit_pos _ (by decide)
theorem NA_pos : 0 < NA := View.dmaCredit_pos _ (by decide)

/-! ## The pieces as held -/

abbrev bPt (c : Dev nD) (i : Fin 16) (f : Vec F S4x1024x2048 .f32) : sProp 𝕄 :=
  (bV i).view.loc (c : Thread nD τ) ↦[(bV i).view.set]{fullShare} (f : Buf (Elt F) ((bV i).view.loc (c : Thread nD τ)))
abbrev qPt (c : Dev nD) (i : Fin 16) (f : Vec F S3x1024x2048 .i8) : sProp 𝕄 :=
  (qV i).view.loc (c : Thread nD τ) ↦[(qV i).view.set]{fullShare} (f : Buf (Elt F) ((qV i).view.loc (c : Thread nD τ)))
abbrev rPt (c : Dev nD) (i : Fin 16) (f : Vec F S3x1024x2048 .i8) : sProp 𝕄 :=
  (rV i).view.loc (c : Thread nD τ) ↦[(rV i).view.set]{fullShare} (f : Buf (Elt F) ((rV i).view.loc (c : Thread nD τ)))
abbrev yPt (c : Dev nD) (j : Fin 16) (f : Vec F S4096x2048 .f32) : sProp 𝕄 :=
  (yV c j).view.loc (c : Thread nD τ) ↦[(yV c j).view.set]{fullShare} (f : Buf (Elt F) ((yV c j).view.loc (c : Thread nD τ)))
abbrev aPt (c : Dev nD) (d : Fin 4) (q : PosShare TreeShare) (f : Vec F S4x8x128 .f32) : sProp 𝕄 :=
  (aV d).view.loc (c : Thread nD τ) ↦[(aV d).view.set]{q} (f : Buf (Elt F) ((aV d).view.loc (c : Thread nD τ)))

/-- A quarter of the whole share: entry zero of the table is read by three transfers and the device itself. -/
def quarter (d : Fin 4) : PosShare TreeShare := ShareLeaves.leaf 2 fullShare d

/-! ## The schedule -/

variable (Y : Fin 4 → Vec F S4096x2048 .f32) (M : Fin 4 → Vec F S8x128 .f32)

/-- What device `p + e` gives device `p` with its barrier unit: its places for what `p` will send it. -/
def barPay (p : Dev nD) (e : Fin 4) : sProp 𝕄 :=
  iprop(((∃ f, aPt (F := F) (p + e) e fullShare f) ∗ reached ER (arCell (p + e) e) 0)
    ∗ bigSep Finset.univ fun i : Fin 16 => if dOf i = e then iprop((∃ f, rPt (F := F) (p + e) i f) ∗ reached ER (drCell (p + e) i) 0) else iprop(emp))

def pay (c : Dev nD) (e : Fin 4) : Role → sProp 𝕄
  | .bar => barPay (F := F) c e
  | .copy i => iprop(bPt c i (readB Y c) ∗ yPt c i (Y c))
  | .wr i => iprop(yPt c (refl i) (outY Y M c) ∗ bPt c i (writeB Y M c))
  | .ds i => qPt c i (sendQ Y M c)
  | .dr i => rPt c i (recvQ Y M c)
  | .asnd d => aPt c 0 (quarter d) (tabA M c)
  | .arcv d => aPt c d fullShare (tabA M c)
  | .other => iprop(emp)

def dutiesOf : Role → Finset (Fin 4)
  | .bar => {1, 2, 3}
  | .copy _ => {0}
  | .wr _ => {0}
  | .ds i => if 4 ≤ i.val then {0} else ∅
  | .dr i => if 4 ≤ i.val then {0} else ∅
  | .asnd d => if d ≠ 0 then {0} else ∅
  | .arcv d => if d ≠ 0 then {0} else ∅
  | .other => ∅

def amountOf : Role → ℕ
  | .bar => 1
  | .copy _ => NB
  | .wr _ => NB
  | .ds _ => NQ
  | .dr _ => NQ
  | .asnd _ => NA
  | .arcv _ => NA
  | .other => 1

def sched : Rounds.Schedule (GSem nD τ sig) (Fin 4) 𝕄 where
  duties g r := if r = 0 ∧ g.1.2 = .tc then dutiesOf (roleOf g.2) else ∅
  unitless _ := False
  amount g _ _ := amountOf (roleOf g.2)
  payload g _ e := pay Y M g.1.1 e (roleOf g.2)
  amount_pos g _ _ _ := by
    cases roleOf g.2 <;> first | exact NB_pos | exact NQ_pos | exact NA_pos | exact Nat.one_pos

instance barPay_storable (p : Dev nD) (e : Fin 4) : BI.Storable (upEmb : UEmb _ 𝕄) (barPay (F := F) p e) := by
  unfold barPay
  haveI h : ∀ i : Fin 16, BI.Storable (upEmb : UEmb _ 𝕄) (if dOf i = e then iprop((∃ f, rPt (F := F) (p + e) i f) ∗ reached ER (drCell (p + e) i) 0) else iprop(emp)) := by
    intro i; split <;> infer_instance
  infer_instance

instance sched_payload_storable (g : GSem nD τ sig) (r : ℕ) (d : Fin 4) :
    BI.Storable (upEmb : UEmb _ 𝕄) ((sched Y M).payload g r d) := by
  show BI.Storable upEmb (pay Y M g.1.1 d (roleOf g.2))
  cases roleOf g.2 <;> unfold pay <;> infer_instance

theorem sched_duties (c : Dev nD) (sm : SemLoc sig) : (sched Y M).duties ((c : Thread nD τ), sm) 0 = dutiesOf (roleOf sm) := by
  dsimp only [sched]; exact if_pos ⟨rfl, rfl⟩
theorem sched_later (g : GSem nD τ sig) : ∀ r, 1 ≤ r → (sched Y M).duties g r = ∅ :=
  fun r hr => by dsimp only [sched]; rw [if_neg (fun h => by omega)]
/-- A semaphore no duty pays. -/
theorem sched_none (c : Dev nD) (sm : SemLoc sig) (h : dutiesOf (roleOf sm) = ∅) : ∀ r, 0 ≤ r → (sched Y M).duties ((c : Thread nD τ), sm) r = ∅ := by
  intro r _
  rcases Nat.eq_zero_or_pos r with rfl | hr
  · rw [sched_duties, h]
  · exact sched_later Y M _ r hr
theorem sched_amount (g : GSem nD τ sig) (r : ℕ) (e : Fin 4) : (sched Y M).amount g r e = amountOf (roleOf g.2) := rfl
theorem sched_payload (c : Dev nD) (sm : SemLoc sig) (r : ℕ) (e : Fin 4) :
    (sched Y M).payload ((c : Thread nD τ), sm) r e = pay Y M c e (roleOf sm) := rfl
theorem sched_expect (c : Dev nD) (sm : SemLoc sig) (N : ℕ) (hd : dutiesOf (roleOf sm) = {0}) (hN : amountOf (roleOf sm) = N) :
    (sched Y M).expect ((c : Thread nD τ), sm) 0 = N := by
  unfold Schedule.expect Schedule.amountOf
  rw [sched_duties, hd, Finset.sum_singleton, sched_amount, hN]
theorem sched_expect_bar (c : Dev nD) : (sched Y M).expect (barCell c) 0 = 3 := by
  unfold Schedule.expect Schedule.amountOf
  rw [sched_duties]
  rfl
theorem sched_rest (c : Dev nD) (sm : SemLoc sig) (hd : dutiesOf (roleOf sm) = {0}) :
    bigSep ((sched Y M).duties ((c : Thread nD τ), sm) 0 \ ∅) (fun e => (sched Y M).payload ((c : Thread nD τ), sm) 0 e) = pay Y M c 0 (roleOf sm) := by
  rw [Finset.sdiff_empty, sched_duties, hd, bigSep_singleton, sched_payload]
theorem sched_rest_bar (c : Dev nD) :
    bigSep ((sched Y M).duties (barCell c) 0 \ ∅) (fun e => (sched Y M).payload (barCell c) 0 e)
      = bigSep ({1, 2, 3} : Finset (Fin 4)) fun e => barPay (F := F) c e := by
  rw [Finset.sdiff_empty, sched_duties]
  rfl

/-! ## What a device owes, and the levels -/

abbrev cBar (c : Dev nD) : CellTallies nD τ sig Unit := tallyAt (barCell c) () 1

def L (g : GSem nD τ sig) : Finset Unit := if g.1.2 = .tc then {()} else ∅
def lvOf : Role → ℕ
  | .bar => 1
  | .arcv _ => 2
  | .dr _ => 3
  | _ => 0
/-- The barrier cells first, then the maxima received, then the rows received; the rest are never owed. -/
def lv (g : GSem nD τ sig) (_ : Unit) : ℕ := lvOf (roleOf g.2)
theorem L_of_ne (g : GSem nD τ sig) (h : g.1.2 ≠ .tc) : L g = ∅ := if_neg h
theorem L_tc (c : Dev nD) (sm : SemLoc sig) : L ((c : Thread nD τ), sm) = {()} := if_pos rfl

/-! ## The state between two operations -/

/-- The slots: pieces of the bounce buffer, of the device's rows, of the send and of the receive buffer,
    blocks of maxima sent and received. -/
abbrev Slot : Type := ((Fin 16 ⊕ Fin 16) ⊕ (Fin 16 ⊕ Fin 16)) ⊕ (Fin 4 ⊕ Fin 4)
abbrev kb (i : Fin 16) : Slot := .inl (.inl (.inl i))
abbrev ky (i : Fin 16) : Slot := .inl (.inl (.inr i))
abbrev kq (i : Fin 16) : Slot := .inl (.inr (.inl i))
abbrev kr (i : Fin 16) : Slot := .inl (.inr (.inr i))
abbrev ka (d : Fin 4) : Slot := .inr (.inl d)
abbrev ke (d : Fin 4) : Slot := .inr (.inr d)
/-- How far each slot has come. -/
abbrev State : Type := Slot → ℕ

/-- A piece of the bounce buffer: free; being read into; read; ready to write; being written; written. -/
def resB (c : Dev nD) (i : Fin 16) : ℕ → sProp 𝕄
  | 0 => iprop((∃ f, bPt (F := F) c i f) ∗ dutyTok ER (copyCell c i) 0 0 ∗ atPos ER (copyCell c i) 0 ∅ 0 ∗ dutyTok ER (wrCell c i) 0 0 ∗ atPos ER (wrCell c i) 0 ∅ 0)
  | 1 => iprop(cred (tallyAt (copyCell c i) () NB) ∗ atPos ER (copyCell c i) 0 ∅ 0 ∗ dutyTok ER (wrCell c i) 0 0 ∗ atPos ER (wrCell c i) 0 ∅ 0)
  | 2 => iprop(bPt c i (readB Y c) ∗ atPos ER (copyCell c i) 1 ∅ 0 ∗ dutyTok ER (wrCell c i) 0 0 ∗ atPos ER (wrCell c i) 0 ∅ 0)
  | 3 => iprop(bPt c i (writeB Y M c) ∗ atPos ER (copyCell c i) 1 ∅ 0 ∗ dutyTok ER (wrCell c i) 0 0 ∗ atPos ER (wrCell c i) 0 ∅ 0)
  | 4 => iprop(cred (tallyAt (wrCell c i) () NB) ∗ atPos ER (copyCell c i) 1 ∅ 0 ∗ atPos ER (wrCell c i) 0 ∅ 0)
  | _ => iprop(bPt c i (writeB Y M c) ∗ atPos ER (copyCell c i) 1 ∅ 0 ∗ atPos ER (wrCell c i) 1 ∅ 0)
/-- A piece of the device's rows: as given; lent to the reading copy; back; lent to the writing copy; the result. -/
def resY (c : Dev nD) (j : Fin 16) : ℕ → sProp 𝕄
  | 0 => yPt c j (Y c)
  | 1 => iprop(emp)
  | 2 => yPt c j (Y c)
  | 3 => iprop(emp)
  | _ => yPt c j (outY Y M c)
/-- A piece sent: free; quantised; in flight; sent. Nothing is sent at distance zero. -/
def resQ (c : Dev nD) (i : Fin 16) (p : ℕ) : sProp 𝕄 :=
  if 4 ≤ i.val then
    match p with
    | 0 => iprop((∃ f, qPt (F := F) c i f) ∗ ((∃ f, rPt (F := F) (c + dOf i) i f) ∗ reached ER (drCell (c + dOf i) i) 0)
        ∗ dutyTok ER (dsCell c i) 0 0 ∗ dutyTok ER (drCell (c + dOf i) i) 0 0 ∗ atPos ER (dsCell c i) 0 ∅ 0)
    | 1 => iprop(qPt c i (sendQ Y M c) ∗ ((∃ f, rPt (F := F) (c + dOf i) i f) ∗ reached ER (drCell (c + dOf i) i) 0)
        ∗ dutyTok ER (dsCell c i) 0 0 ∗ dutyTok ER (drCell (c + dOf i) i) 0 0 ∗ atPos ER (dsCell c i) 0 ∅ 0)
    | 2 => iprop(cred (tallyAt (dsCell c i) () NQ) ∗ atPos ER (dsCell c i) 0 ∅ 0)
    | _ => iprop(qPt c i (sendQ Y M c) ∗ atPos ER (dsCell c i) 1 ∅ 0)
  else atPos ER (dsCell c i) 0 ∅ 0
/-- A piece received: awaited; here. -/
def resR (c : Dev nD) (i : Fin 16) (p : ℕ) : sProp 𝕄 :=
  if 4 ≤ i.val then
    match p with
    | 0 => iprop(cred (tallyAt (drCell c i) () NQ) ∗ atPos ER (drCell c i) 0 ∅ 0)
    | _ => iprop(rPt c i (recvQ Y M c) ∗ atPos ER (drCell c i) 1 ∅ 0)
  else atPos ER (drCell c i) 0 ∅ 0
/-- A block of maxima sent: to send; in flight; sent. -/
def resA (c : Dev nD) (d : Fin 4) (p : ℕ) : sProp 𝕄 :=
  if d ≠ 0 then
    match p with
    | 0 => iprop(aPt c 0 (quarter d) (tabA M c) ∗ ((∃ f, aPt (F := F) (c + d) d fullShare f) ∗ reached ER (arCell (c + d) d) 0)
        ∗ dutyTok ER (asCell c d) 0 0 ∗ dutyTok ER (arCell (c + d) d) 0 0 ∗ atPos ER (asCell c d) 0 ∅ 0)
    | 1 => iprop(cred (tallyAt (asCell c d) () NA) ∗ atPos ER (asCell c d) 0 ∅ 0)
    | _ => iprop(aPt c 0 (quarter d) (tabA M c) ∗ atPos ER (asCell c d) 1 ∅ 0)
  else atPos ER (asCell c d) 0 ∅ 0
/-- A block of maxima received: awaited; here. At distance zero it is the device's own, of which it keeps a share. -/
def resE (c : Dev nD) (d : Fin 4) (p : ℕ) : sProp 𝕄 :=
  if d ≠ 0 then
    match p with
    | 0 => iprop(cred (tallyAt (arCell c d) () NA) ∗ atPos ER (arCell c d) 0 ∅ 0)
    | _ => iprop(aPt c d fullShare (tabA M c) ∗ atPos ER (arCell c d) 1 ∅ 0)
  else iprop(aPt c 0 (quarter 0) (tabA M c) ∗ atPos ER (arCell c d) 0 ∅ 0)

def res (c : Dev nD) : Slot → ℕ → sProp 𝕄
  | .inl (.inl (.inl i)) => resB Y M c i
  | .inl (.inl (.inr i)) => resY Y M c i
  | .inl (.inr (.inl i)) => resQ Y M c i
  | .inl (.inr (.inr i)) => resR Y M c i
  | .inr (.inl d) => resA M c d
  | .inr (.inr d) => resE M c d

/-- What the device still owes for a slot: the credit of a transfer not yet issued. -/
def due (c : Dev nD) : Slot → ℕ → CellTallies nD τ sig Unit
  | .inl (.inr (.inl i)), p => if 4 ≤ i.val ∧ p ≤ 1 then tallyAt (drCell (c + dOf i) i) () NQ else 0
  | .inr (.inl d), p => if d ≠ 0 ∧ p = 0 then tallyAt (arCell (c + d) d) () NA else 0
  | _, _ => 0
def owed (c : Dev nD) (s : State) : CellTallies nD τ sig Unit := ∑ k, due c k (s k)

def held (c : Dev nD) (s : State) : sProp 𝕄 :=
  iprop((bigSep Finset.univ fun k => res Y M c k (s k)) ∗ ∃ W, owes (c : Thread nD τ) (owed c s) W)

/-- All the semaphores the exchange uses, save the barrier. -/
abbrev osem1 : Fin 72 → SemLoc sig := fun k => .dma ⟨7 + k.val, by have := k.isLt; show 7 + k.val < 79; omega⟩

/-- What stays known throughout: every cell's invariant, that every own cell is open, and the levels. -/
def known (K : GSem nD τ sig → ℕ) (c : Dev nD) : sProp 𝕄 :=
  iprop((bigSep Finset.univ fun p : Dev nD => cellInv ER (sched Y M) (K (barCell p)) (barCell p))
    ∗ (bigSep Finset.univ fun pk : Dev nD × Fin 72 => cellInv ER (sched Y M) (K ((pk.1 : Thread nD τ), osem1 pk.2)) ((pk.1 : Thread nD τ), osem1 pk.2))
    ∗ (bigSep Finset.univ fun k : Fin 72 => reached ER ((c : Thread nD τ), osem1 k) 0) ∗ levAts L lv)

instance known_persistent (K : GSem nD τ sig → ℕ) (c : Dev nD) : BI.Persistent (known Y M K c) := by unfold known; infer_instance

/-- The number of a semaphore among those of the exchange. -/
def ordOf (s : DmaSem sig) (h : 7 ≤ s.val) : Fin 72 := ⟨s.val - 7, by have : s.val < 79 := s.isLt; omega⟩
theorem osem_ord (s : DmaSem sig) (h : 7 ≤ s.val) : osem1 (ordOf s h) = .dma s := by
  show SemLoc.dma _ = SemLoc.dma s
  congr 1
  exact Fin.ext (by show 7 + (s.val - 7) = s.val; omega)

/-- One of a family of things held for every index. -/
theorem pick {ι : Type} [DecidableEq ι] [Fintype ι] (Φ : ι → sProp 𝕄) (i : ι) : (bigSep Finset.univ Φ : sProp 𝕄) ⊢ Φ i :=
  bigSep_elim (Finset.mem_univ i)
theorem known_inv (K : GSem nD τ sig → ℕ) (c p : Dev nD) (s : DmaSem sig) (h : 7 ≤ s.val) :
    known Y M K c ⊢ cellInv ER (sched Y M) (K ((p : Thread nD τ), .dma s)) ((p : Thread nD τ), .dma s) := by
  have e := pick (F := F) (fun pk : Dev nD × Fin 72 => cellInv ER (sched Y M) (K ((pk.1 : Thread nD τ), osem1 pk.2)) ((pk.1 : Thread nD τ), osem1 pk.2)) (p, ordOf s h)
  rw [osem_ord] at e
  unfold known
  iintro ⟨-, H, -, -⟩
  iapply e $$ H
theorem known_reached (K : GSem nD τ sig → ℕ) (c : Dev nD) (s : DmaSem sig) (h : 7 ≤ s.val) :
    known Y M K c ⊢ reached ER ((c : Thread nD τ), .dma s) 0 := by
  have e := pick (F := F) (fun k : Fin 72 => reached ER ((c : Thread nD τ), osem1 k) 0) (ordOf s h)
  rw [osem_ord] at e
  unfold known
  iintro ⟨-, -, H, -⟩
  iapply e $$ H
theorem known_bar (K : GSem nD τ sig → ℕ) (c p : Dev nD) : known Y M K c ⊢ cellInv ER (sched Y M) (K (barCell p)) (barCell p) := by
  unfold known
  iintro ⟨H, -, -, -⟩
  iapply (pick (F := F) (fun p : Dev nD => cellInv ER (sched Y M) (K (barCell p)) (barCell p)) p) $$ H
theorem known_lev (K : GSem nD τ sig → ℕ) (c : Dev nD) : known Y M K c ⊢ levAts L lv := by
  unfold known
  iintro ⟨-, -, -, H⟩
  iexact H

/-! ## Waiting is allowed -/

/-- A cell owed to is another device's cell for maxima, or for rows, received. -/
theorem due_pos {c : Dev nD} {k : Slot} {p : ℕ} {g : GSem nD τ sig} {u : Unit} (h : 0 < due c k p g u) :
    (∃ i, k = kq i ∧ 4 ≤ i.val ∧ p ≤ 1 ∧ g = drCell (c + dOf i) i) ∨ (∃ d, k = ka d ∧ d ≠ 0 ∧ p = 0 ∧ g = arCell (c + d) d) := by
  have h0 : ¬ 0 < (0 : CellTallies nD τ sig Unit) g u := Nat.lt_irrefl 0
  rcases k with ((i | i) | (i | i)) | (d | d)
  · exact absurd h h0
  · exact absurd h h0
  · left
    refine ⟨i, rfl, ?_⟩
    unfold due at h
    dsimp only at h
    split at h
    · next hc =>
      rw [tallyAt_apply] at h
      split at h
      · next hg => exact ⟨hc.1, hc.2, hg.1⟩
      · exact absurd h (Nat.lt_irrefl 0)
    · exact absurd h h0
  · exact absurd h h0
  · right
    refine ⟨d, rfl, ?_⟩
    unfold due at h
    dsimp only at h
    split at h
    · next hc =>
      rw [tallyAt_apply] at h
      split at h
      · next hg => exact ⟨hc.1, hc.2, hg.1⟩
      · exact absurd h (Nat.lt_irrefl 0)
    · exact absurd h h0
  · exact absurd h h0

theorem sum_pos_of {ι : Type} [DecidableEq ι] (S : Finset ι) (f : ι → CellTallies nD τ sig Unit) (g : GSem nD τ sig) (u : Unit)
    (h : 0 < (∑ k ∈ S, f k) g u) : ∃ k ∈ S, 0 < f k g u := by
  induction S using Finset.induction_on with
  | empty => exact absurd h (Nat.lt_irrefl 0)
  | insert a S ha ih =>
    rw [Finset.sum_insert ha, Pi.add_apply, Finsupp.add_apply] at h
    rcases Nat.add_pos_iff_pos_or_pos.mp h with h | h
    · exact ⟨a, Finset.mem_insert_self _ _, h⟩
    · obtain ⟨k, hk, h⟩ := ih h
      exact ⟨k, Finset.mem_insert_of_mem hk, h⟩

theorem mayWait (c : Dev nD) (s : State) (sm : SemLoc sig)
    (h : (∀ i : Fin 16, 4 ≤ i.val → s (kq i) ≤ 1 → lvOf (roleOf sm) < 3) ∧ (∀ d : Fin 4, d ≠ 0 → s (ka d) = 0 → lvOf (roleOf sm) < 2)) :
    (levAts L lv : sProp 𝕄) ⊢ MayWait (c : Thread nD τ) sm () (owed c s) := by
  have key : ∀ (g : GSem nD τ sig) (u : Unit), 0 < owed c s g u → u ∈ L g ∧ lvOf (roleOf sm) < lv g u := by
    intro g u hg
    obtain ⟨k, -, hk⟩ := sum_pos_of _ _ g u hg
    rcases due_pos hk with ⟨i, rfl, hi, hp, rfl⟩ | ⟨d, rfl, hd, hp, rfl⟩
    · refine ⟨by rw [L_tc]; exact Finset.mem_singleton_self _, ?_⟩
      show _ < lvOf (roleOf (.dma (drS i)))
      rw [role_dr]
      exact h.1 i hi hp
    · refine ⟨by rw [L_tc]; exact Finset.mem_singleton_self _, ?_⟩
      show _ < lvOf (roleOf (.dma (arS d)))
      rw [role_ar]
      exact h.2 d hd hp
  exact MayOwe.of_cut (L := L) (lev := lv) (lvOf (roleOf sm))
    (fun p hp => by rw [Finset.mem_singleton.mp hp, L_tc]; exact Finset.mem_singleton_self _)
    (fun g u hg => (key g u hg).1)
    (fun p hp => by rw [Finset.mem_singleton.mp hp]; exact le_rfl)
    (fun g u hg => (key g u hg).2)

end Cert.KernelIdeal.A2a

end
-- ==== Proof.A2a.Steps.lean ====
/-
  One lemma for each kind of operation of the exchange kernel: what it needs of the slots it touches, and how
  it moves them on.
-/
module

public import proofs.«01_k».proof.Proof.A2a.Protocol

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

abbrev 𝒱₀ : Variants := Variants.none

/-- Running a piece of the program on device `c`. -/
abbrev run {α : Type} (c : Dev nD) (p : Prog (TpuEff nD τ sig (Elt F) Λ₀ .tc) α) (Kt : α → sProp 𝕄) : sProp 𝕄 :=
  wp frame (wpE (defs₀ (F := F)) 𝒱₀ (c : Thread nD τ) none) Set.univ p Kt

variable (Y : Fin 4 → Vec F S4096x2048 .f32) (M : Fin 4 → Vec F S8x128 .f32) (K : GSem nD τ sig → ℕ)

theorem sep_split {ι : Type} [DecidableEq ι] {S T : Finset ι} (h : T ⊆ S) {Φ : ι → sProp 𝕄} : bigSep S Φ = iprop(bigSep T Φ ∗ bigSep (S \ T) Φ) :=
  bigSep_sdiff_split h
theorem sep_insert {ι : Type} [DecidableEq ι] {S : Finset ι} {i : ι} (h : i ∉ S) {Φ : ι → sProp 𝕄} : bigSep (insert i S) Φ = iprop(Φ i ∗ bigSep S Φ) :=
  bigSep_insert h

/-- The device between two operations, beside what it leaves alone. -/
def At (c : Dev nD) (s : State) (Fr : sProp 𝕄) : sProp 𝕄 := iprop(known Y M K c ∗ held Y M c s ∗ Fr)
/-- What it leaves alone besides while it works on the slots `ks`. -/
def others (c : Dev nD) (ks : Finset Slot) (s : State) (Fr : sProp 𝕄) : sProp 𝕄 :=
  iprop((bigSep (Finset.univ \ ks) fun k => res Y M c k (s k)) ∗ Fr)

theorem At_split (c : Dev nD) (ks : Finset Slot) (s : State) (Fr : sProp 𝕄) :
    At Y M K c s Fr ⊢ iprop(known Y M K c ∗ (bigSep ks fun k => res Y M c k (s k)) ∗ (∃ W, owes (c : Thread nD τ) (owed c s) W) ∗ others Y M c ks s Fr) := by
  unfold At held others
  rw [sep_split (Finset.subset_univ ks)]
  iintro ⟨Hk, ⟨⟨H1, H2⟩, HO⟩, HF⟩
  isplitl [Hk]; · iexact Hk
  isplitl [H1]; · iexact H1
  isplitl [HO]; · iexact HO
  isplitl [H2]; · iexact H2
  iexact HF
theorem At_join (c : Dev nD) (ks : Finset Slot) (s s' : State) (Fr : sProp 𝕄) (ha : ∀ k, k ∉ ks → s' k = s k) :
    iprop(known Y M K c ∗ (bigSep ks fun k => res Y M c k (s' k)) ∗ (∃ W, owes (c : Thread nD τ) (owed c s') W) ∗ others Y M c ks s Fr) ⊢ At Y M K c s' Fr := by
  unfold At held others
  rw [sep_split (S := Finset.univ) (Finset.subset_univ ks),
    show (bigSep (Finset.univ \ ks) fun k => res Y M c k (s k)) = (bigSep (Finset.univ \ ks) fun k => res Y M c k (s' k)) from
      bigSep_congr fun k hk => by rw [ha k (Finset.mem_sdiff.mp hk).2]]
  iintro ⟨Hk, H1, HO, H2, HF⟩
  isplitl [Hk]; · iexact Hk
  isplitl [H1 H2 HO]
  · isplitl [H1 H2]
    · isplitl [H1]; · iexact H1
      iexact H2
    · iexact HO
  iexact HF

theorem open1 (c : Dev nD) (k : Slot) (p : ℕ) (s : State) (Fr : sProp 𝕄) (h : s k = p) :
    At Y M K c s Fr ⊢ iprop(known Y M K c ∗ res Y M c k p ∗ (∃ W, owes (c : Thread nD τ) (owed c s) W) ∗ others Y M c {k} s Fr) := by
  refine (At_split Y M K c {k} s Fr).trans ?_
  rw [bigSep_singleton, h]
theorem close1 (c : Dev nD) (k : Slot) (p : ℕ) (s s' : State) (Fr : sProp 𝕄) (h : s' k = p) (ha : ∀ j, j ≠ k → s' j = s j) :
    iprop(known Y M K c ∗ res Y M c k p ∗ (∃ W, owes (c : Thread nD τ) (owed c s') W) ∗ others Y M c {k} s Fr) ⊢ At Y M K c s' Fr := by
  refine BIBase.Entails.trans ?_ (At_join Y M K c {k} s s' Fr (fun j hj => ha j (fun e => hj (Finset.mem_singleton.mpr e))))
  rw [bigSep_singleton, h]
theorem open2 (c : Dev nD) (k k' : Slot) (hk : k ≠ k') (p q : ℕ) (s : State) (Fr : sProp 𝕄) (h : s k = p) (h' : s k' = q) :
    At Y M K c s Fr ⊢ iprop(known Y M K c ∗ (res Y M c k p ∗ res Y M c k' q) ∗ (∃ W, owes (c : Thread nD τ) (owed c s) W) ∗ others Y M c {k, k'} s Fr) := by
  refine (At_split Y M K c {k, k'} s Fr).trans ?_
  rw [sep_insert (by rw [Finset.mem_singleton]; exact hk), bigSep_singleton, h, h']
theorem close2 (c : Dev nD) (k k' : Slot) (hk : k ≠ k') (p q : ℕ) (s s' : State) (Fr : sProp 𝕄) (h : s' k = p) (h' : s' k' = q)
    (ha : ∀ j, j ≠ k → j ≠ k' → s' j = s j) :
    iprop(known Y M K c ∗ (res Y M c k p ∗ res Y M c k' q) ∗ (∃ W, owes (c : Thread nD τ) (owed c s') W) ∗ others Y M c {k, k'} s Fr) ⊢ At Y M K c s' Fr := by
  refine BIBase.Entails.trans ?_ (At_join Y M K c {k, k'} s s' Fr (fun j hj => ?_))
  · rw [sep_insert (by rw [Finset.mem_singleton]; exact hk), bigSep_singleton, h, h']
  · rw [Finset.mem_insert, Finset.mem_singleton, not_or] at hj
    exact ha j hj.1 hj.2

/-! ## What is owed -/

theorem owed_same (c : Dev nD) (s s' : State) (h : ∀ k, s' k ≠ s k → due c k (s' k) = due c k (s k)) : owed c s' = owed c s := by
  unfold owed
  refine Finset.sum_congr rfl fun k _ => ?_
  by_cases e : s' k = s k
  · rw [e]
  · exact h k e
theorem owed_less (c : Dev nD) (s s' : State) (k : Slot) (T : CellTallies nD τ sig Unit) (hT : due c k (s k) = T) (h0 : due c k (s' k) = 0)
    (ha : ∀ j, j ≠ k → s' j = s j) : owed c s = owed c s' + T := by
  unfold owed
  rw [← Finset.add_sum_erase _ _ (Finset.mem_univ k), ← Finset.add_sum_erase (a := k) _ (fun j => due c j (s' j)) (Finset.mem_univ k), hT, h0, zero_add, add_comm]
  congr 1
  refine Finset.sum_congr rfl fun j hj => ?_
  rw [ha j (Finset.ne_of_mem_erase hj)]

/-! ## Names for what the program writes out -/

theorem ySlice_eq (c : Fin 4) (j : Fin 16) (off : Fin 2 → ℕ) (h : off = yOff c j) (inb : ∀ a, off a + S256x2048.size a ≤ S4096x2048.size a) :
    bufY.slice (Rect.unit (s := S4096x2048) off S256x2048.size inb) (fun _ => rfl) = yV c j := by
  subst h; rfl

/-! ## Reading rows into the bounce buffer -/

theorem step_read (c : Dev nD) (i : Fin 16) (s s' : State) (Fr : sProp 𝕄)
    {src : Memref sig .tc .hbm S256x2048 .f32} {dst : Memref sig (Proc.kind (τ := τ) .tc) .vmem S256x2048 .f32} {sem : DmaSem sig}
    (hs : src = yV c i) (hd : dst = bV i) (hm : sem = copyS i)
    (h1 : s (kb i) = 0) (h2 : s (ky i) = 0) (h1' : s' (kb i) = 1) (h2' : s' (ky i) = 1) (ha : ∀ j, j ≠ kb i → j ≠ ky i → s' j = s j)
    {hsrc : src.view.WordExact} {hdst : dst.view.WordExact} {hsem : DmaTarget.Typed (nD := nD) .hbm (.dma sem) (.here dst)}
    {α : Type} {k : PUnit → Prog (TpuEff nD τ sig (Elt F) Λ₀ .tc) α} {Kt : α → sProp 𝕄}
    (hk : At Y M K c s' Fr ⊢ run c (k ⟨⟩) Kt) :
    At Y M K c s Fr ⊢ run c (.op (.enqueueDma src (.here dst) (.dma sem) hsrc hdst hsem) k) Kt := by
  subst hs hd hm
  have hne : kb i ≠ ky i := fun e => by injection e with e; injection e with e; cases e
  have hO : owed c s' = owed c s := owed_same c s s' fun j hj => by
    by_cases e1 : j = kb i
    · subst e1; rfl
    by_cases e2 : j = ky i
    · subst e2; rfl
    exact absurd (ha j e1 e2) hj
  have ho := open2 Y M K c (kb i) (ky i) hne 0 0 s Fr h1 h2
  have hc := close2 Y M K c (kb i) (ky i) hne 1 1 s s' Fr h1' h2' ha
  rw [hO] at hc
  simp only [res, resB, resY] at ho hc
  refine ho.trans ?_
  iintro ⟨#Hkn, ⟨⟨⟨%f, Hb⟩, Ht, Hat, Hr⟩, Hy⟩, HO, Ho⟩
  ihave #Hi := (known_inv Y M K c c (copyS i) (by show 7 ≤ 7 + i.val; omega)) $$ Hkn
  ihave #Hre := (known_reached Y M K c (copyS i) (by show 7 ≤ 7 + i.val; omega)) $$ Hkn
  iapply (Rounds.wp_copy_pointsTo 𝒱₀ ER (sched Y M) (c : Thread nD τ) none (src := yV c i) (dst := bV i) (sem := .dma (copyS i)) (q := fullShare)
      (fs := Y c) (fd := f) (r := 0) (d := 0) (κ := K (copyCell c i))
      (by rw [sched_duties, role_copy]; exact Finset.mem_singleton_self _) () NB rfl (by rw [sched_amount, role_copy]; rfl)
      (by
        rw [sched_payload, role_copy, pointsTo_congr (write_agree (bV i).view f (readB Y c) _ (readB_at Y c i))]
        exact .rfl)) $$ [Hb Hy Ht]
  · isplitr; · iexact Hi
    isplitl [Hy]; · iexact Hy
    isplitl [Hb]; · iexact Hb
    isplitl [Ht]; · iexact Ht
    iexact Hre
  iintro Hc
  iapply hk
  iapply hc
  isplitr; · iexact Hkn
  isplitl [Hc Hat Hr]
  · isplitl
    · isplitl [Hc]; · iexact Hc
      isplitl [Hat]; · iexact Hat
      iexact Hr
    · iempintro
  isplitl [HO]; · iexact HO
  iexact Ho

/-! ## Waiting -/

/-- Waiting for the one transfer that pays a semaphore: its pieces come back. -/
theorem wait_core (c : Dev nD) (s : State) (R : sProp 𝕄) (sem : DmaSem sig) (N : ℕ) (h7 : 7 ≤ sem.val)
    (hd : dutiesOf (roleOf (.dma sem)) = {0}) (hN : amountOf (roleOf (.dma sem)) = N)
    (hw : (∀ i : Fin 16, 4 ≤ i.val → s (kq i) ≤ 1 → lvOf (roleOf (.dma sem)) < 3) ∧ (∀ d : Fin 4, d ≠ 0 → s (ka d) = 0 → lvOf (roleOf (.dma sem)) < 2))
    {sp sp' : Space} {t t' : Shape} {e e' : EltTy} {src : Memref sig (Proc.kind (τ := τ) .tc) sp' t' e'} {κ' : Kind} {dst : Memref sig κ' sp t e}
    (hc : dst.view.dmaCredit = N) {hsrc : src.view.WordExact} {hdst : dst.view.WordExact}
    {α : Type} {k : PUnit → Prog (TpuEff nD τ sig (Elt F) Λ₀ .tc) α} {Kt : α → sProp 𝕄}
    (hk : iprop(known Y M K c ∗ atPos ER ((c : Thread nD τ), .dma sem) 1 ∅ 0 ∗ pay Y M c 0 (roleOf (.dma sem)) ∗ (∃ W, owes (c : Thread nD τ) (owed c s) W) ∗ R) ⊢ run c (k ⟨⟩) Kt) :
    iprop(known Y M K c ∗ cred (tallyAt ((c : Thread nD τ), .dma sem) () N) ∗ atPos ER ((c : Thread nD τ), .dma sem) 0 ∅ 0 ∗ (∃ W, owes (c : Thread nD τ) (owed c s) W) ∗ R)
      ⊢ run c (.op (.waitDma2 sem src dst hsrc hdst) k) Kt := by
  subst hc
  iintro ⟨#Hkn, Hc, Hat, ⟨%W, HO⟩, HR⟩
  ihave #Hi := (known_inv Y M K c c sem h7) $$ Hkn
  ihave #Hl := (known_lev Y M K c) $$ Hkn
  iapply (Rounds.wp_wait_rest_token 𝒱₀ ER (sched Y M) (c : Thread nD τ) none (κ := K ((c : Thread nD τ), .dma sem))
      (wpE_waitDma2_eq (src := src) (dst := dst) 𝒱₀ (c : Thread nD τ) none Set.univ) (Set.mem_univ _) () (O := owed c s) (W := W) (R := 0) (m := 0) (T := ∅)
      ((Nat.zero_add _).trans (sched_expect Y M c (.dma sem) _ hd hN).symm)) $$ [Hc HO Hat]
  · isplitr; · iexact Hi
    isplitl [Hc]; · iexact Hc
    isplitl [HO]; · iexact HO
    isplitr; · iapply (mayWait c s (.dma sem) hw); iexact Hl
    iexact Hat
  iintro ⟨HO, Hat, -, Hp⟩
  ihave Hp := (Entails.of_eq (sched_rest Y M c (.dma sem) hd)) $$ Hp
  iapply hk
  isplitr; · iexact Hkn
  isplitl [Hat]; · iexact Hat
  isplitl [Hp]; · iexact Hp
  isplitl [HO]; · iexists _; iexact HO
  iexact HR

theorem step_dsWait (c : Dev nD) (i : Fin 16) (hi : 4 ≤ i.val) (s s' : State) (Fr : sProp 𝕄)
    {sem : DmaSem sig} (hm : sem = dsS i)
    (h1 : s (kq i) = 2) (h1' : s' (kq i) = 3) (ha : ∀ j, j ≠ kq i → s' j = s j)
    {sp sp' : Space} {t t' : Shape} {e e' : EltTy} {src : Memref sig (Proc.kind (τ := τ) .tc) sp' t' e'} {κ' : Kind} {dst : Memref sig κ' sp t e}
    (hn : dst.view.dmaCredit = NQ) {hsrc : src.view.WordExact} {hdst : dst.view.WordExact}
    {α : Type} {k : PUnit → Prog (TpuEff nD τ sig (Elt F) Λ₀ .tc) α} {Kt : α → sProp 𝕄}
    (hk : At Y M K c s' Fr ⊢ run c (k ⟨⟩) Kt) :
    At Y M K c s Fr ⊢ run c (.op (.waitDma2 sem src dst hsrc hdst) k) Kt := by
  subst hm
  have hO : owed c s' = owed c s := owed_same c s s' fun j hj => by
    by_cases e1 : j = kq i
    · subst e1; rw [h1, h1']; unfold due; dsimp only; rw [if_neg (by omega), if_neg (by omega)]
    exact absurd (ha j e1) hj
  have ho := open1 Y M K c (kq i) 2 s Fr h1
  have hc := close1 Y M K c (kq i) 3 s s' Fr h1' ha
  rw [hO] at hc
  simp only [res, resQ, if_pos hi] at ho hc
  refine ho.trans (BIBase.Entails.trans ?_ (wait_core Y M K c s (others Y M c {kq i} s Fr) (dsS i) NQ (by show 7 ≤ 39 + i.val; omega)
    (by rw [role_ds]; exact if_pos hi) (by rw [role_ds]; rfl) (by rw [role_ds]; exact ⟨fun _ _ _ => (by decide : (0 : ℕ) < 3), fun _ _ _ => (by decide : (0 : ℕ) < 2)⟩) hn (hk := ?_)))
  · iintro ⟨Hkn, ⟨Hc, Hat⟩, HO, Ho⟩
    isplitl [Hkn]; · iexact Hkn
    isplitl [Hc]; · iexact Hc
    isplitl [Hat]; · iexact Hat
    isplitl [HO]; · iexact HO
    iexact Ho
  · rw [role_ds]
    dsimp only [pay]
    iintro ⟨Hkn, Hat, Hp, HO, Ho⟩
    iapply hk
    iapply hc
    isplitl [Hkn]; · iexact Hkn
    isplitr [HO Ho]
    · isplitl [Hp]; · iexact Hp
      iexact Hat
    isplitl [HO]; · iexact HO
    iexact Ho

theorem step_drWait (c : Dev nD) (i : Fin 16) (hi : 4 ≤ i.val) (s s' : State) (Fr : sProp 𝕄)
    {sem : DmaSem sig} (hm : sem = drS i)
    (h1 : s (kr i) = 0) (h1' : s' (kr i) = 1) (ha : ∀ j, j ≠ kr i → s' j = s j)
    (hw : (∀ i : Fin 16, 4 ≤ i.val → ¬ s (kq i) ≤ 1) ∧ (∀ d : Fin 4, d ≠ 0 → s (ka d) ≠ 0))
    {sp sp' : Space} {t t' : Shape} {e e' : EltTy} {src : Memref sig (Proc.kind (τ := τ) .tc) sp' t' e'} {κ' : Kind} {dst : Memref sig κ' sp t e}
    (hn : dst.view.dmaCredit = NQ) {hsrc : src.view.WordExact} {hdst : dst.view.WordExact}
    {α : Type} {k : PUnit → Prog (TpuEff nD τ sig (Elt F) Λ₀ .tc) α} {Kt : α → sProp 𝕄}
    (hk : At Y M K c s' Fr ⊢ run c (k ⟨⟩) Kt) :
    At Y M K c s Fr ⊢ run c (.op (.waitDma2 sem src dst hsrc hdst) k) Kt := by
  subst hm
  have hO : owed c s' = owed c s := owed_same c s s' fun j hj => by
    by_cases e1 : j = kr i
    · subst e1; rw [h1, h1']; rfl
    exact absurd (ha j e1) hj
  have ho := open1 Y M K c (kr i) 0 s Fr h1
  have hc := close1 Y M K c (kr i) 1 s s' Fr h1' ha
  rw [hO] at hc
  simp only [res, resR, if_pos hi] at ho hc
  refine ho.trans (BIBase.Entails.trans ?_ (wait_core Y M K c s (others Y M c {kr i} s Fr) (drS i) NQ (by show 7 ≤ 55 + i.val; omega)
    (by rw [role_dr]; exact if_pos hi) (by rw [role_dr]; rfl) ⟨fun j hj hp => absurd hp (hw.1 j hj), fun d hd hp => absurd hp (hw.2 d hd)⟩ hn (hk := ?_)))
  · iintro ⟨Hkn, ⟨Hc, Hat⟩, HO, Ho⟩
    isplitl [Hkn]; · iexact Hkn
    isplitl [Hc]; · iexact Hc
    isplitl [Hat]; · iexact Hat
    isplitl [HO]; · iexact HO
    iexact Ho
  · rw [role_dr]
    dsimp only [pay]
    iintro ⟨Hkn, Hat, Hp, HO, Ho⟩
    iapply hk
    iapply hc
    isplitl [Hkn]; · iexact Hkn
    isplitr [HO Ho]
    · isplitl [Hp]; · iexact Hp
      iexact Hat
    isplitl [HO]; · iexact HO
    iexact Ho

theorem step_arWait (c : Dev nD) (d : Fin 4) (hi : d ≠ 0) (s s' : State) (Fr : sProp 𝕄)
    {sem : DmaSem sig} (hm : sem = arS d)
    (h1 : s (ke d) = 0) (h1' : s' (ke d) = 1) (ha : ∀ j, j ≠ ke d → s' j = s j)
    (hw : ∀ d : Fin 4, d ≠ 0 → s (ka d) ≠ 0)
    {sp sp' : Space} {t t' : Shape} {e e' : EltTy} {src : Memref sig (Proc.kind (τ := τ) .tc) sp' t' e'} {κ' : Kind} {dst : Memref sig κ' sp t e}
    (hn : dst.view.dmaCredit = NA) {hsrc : src.view.WordExact} {hdst : dst.view.WordExact}
    {α : Type} {k : PUnit → Prog (TpuEff nD τ sig (Elt F) Λ₀ .tc) α} {Kt : α → sProp 𝕄}
    (hk : At Y M K c s' Fr ⊢ run c (k ⟨⟩) Kt) :
    At Y M K c s Fr ⊢ run c (.op (.waitDma2 sem src dst hsrc hdst) k) Kt := by
  subst hm
  have hO : owed c s' = owed c s := owed_same c s s' fun j hj => by
    by_cases e1 : j = ke d
    · subst e1; rw [h1, h1']; rfl
    exact absurd (ha j e1) hj
  have ho := open1 Y M K c (ke d) 0 s Fr h1
  have hc := close1 Y M K c (ke d) 1 s s' Fr h1' ha
  rw [hO] at hc
  simp only [res, resE, if_pos hi] at ho hc
  refine ho.trans (BIBase.Entails.trans ?_ (wait_core Y M K c s (others Y M c {ke d} s Fr) (arS d) NA (by show 7 ≤ 75 + d.val; omega)
    (by rw [role_ar]; exact if_pos hi) (by rw [role_ar]; rfl) (by rw [role_ar]; exact ⟨fun _ _ _ => (by decide : (2 : ℕ) < 3), fun d hd hp => absurd hp (hw d hd)⟩) hn (hk := ?_)))
  · iintro ⟨Hkn, ⟨Hc, Hat⟩, HO, Ho⟩
    isplitl [Hkn]; · iexact Hkn
    isplitl [Hc]; · iexact Hc
    isplitl [Hat]; · iexact Hat
    isplitl [HO]; · iexact HO
    iexact Ho
  · rw [role_ar]
    dsimp only [pay]
    iintro ⟨Hkn, Hat, Hp, HO, Ho⟩
    iapply hk
    iapply hc
    isplitl [Hkn]; · iexact Hkn
    isplitr [HO Ho]
    · isplitl [Hp]; · iexact Hp
      iexact Hat
    isplitl [HO]; · iexact HO
    iexact Ho

theorem step_asWait (c : Dev nD) (d : Fin 4) (hi : d ≠ 0) (s s' : State) (Fr : sProp 𝕄)
    {sem : DmaSem sig} (hm : sem = asS d)
    (h1 : s (ka d) = 1) (h1' : s' (ka d) = 2) (ha : ∀ j, j ≠ ka d → s' j = s j)
    {sp sp' : Space} {t t' : Shape} {e e' : EltTy} {src : Memref sig (Proc.kind (τ := τ) .tc) sp' t' e'} {κ' : Kind} {dst : Memref sig κ' sp t e}
    (hn : dst.view.dmaCredit = NA) {hsrc : src.view.WordExact} {hdst : dst.view.WordExact}
    {α : Type} {k : PUnit → Prog (TpuEff nD τ sig (Elt F) Λ₀ .tc) α} {Kt : α → sProp 𝕄}
    (hk : At Y M K c s' Fr ⊢ run c (k ⟨⟩) Kt) :
    At Y M K c s Fr ⊢ run c (.op (.waitDma2 sem src dst hsrc hdst) k) Kt := by
  subst hm
  have hO : owed c s' = owed c s := owed_same c s s' fun j hj => by
    by_cases e1 : j = ka d
    · subst e1; rw [h1, h1']; unfold due; dsimp only; rw [if_neg (by omega), if_neg (by omega)]
    exact absurd (ha j e1) hj
  have ho := open1 Y M K c (ka d) 1 s Fr h1
  have hc := close1 Y M K c (ka d) 2 s s' Fr h1' ha
  rw [hO] at hc
  simp only [res, resA, if_pos hi] at ho hc
  refine ho.trans (BIBase.Entails.trans ?_ (wait_core Y M K c s (others Y M c {ka d} s Fr) (asS d) NA (by show 7 ≤ 71 + d.val; omega)
    (by rw [role_as]; exact if_pos hi) (by rw [role_as]; rfl) (by rw [role_as]; exact ⟨fun _ _ _ => (by decide : (0 : ℕ) < 3), fun _ _ _ => (by decide : (0 : ℕ) < 2)⟩) hn (hk := ?_)))
  · iintro ⟨Hkn, ⟨Hc, Hat⟩, HO, Ho⟩
    isplitl [Hkn]; · iexact Hkn
    isplitl [Hc]; · iexact Hc
    isplitl [Hat]; · iexact Hat
    isplitl [HO]; · iexact HO
    iexact Ho
  · rw [role_as]
    dsimp only [pay]
    iintro ⟨Hkn, Hat, Hp, HO, Ho⟩
    iapply hk
    iapply hc
    isplitl [Hkn]; · iexact Hkn
    isplitr [HO Ho]
    · isplitl [Hp]; · iexact Hp
      iexact Hat
    isplitl [HO]; · iexact HO
    iexact Ho

theorem step_copyWait (c : Dev nD) (i : Fin 16) (s s' : State) (Fr : sProp 𝕄)
    {sem : DmaSem sig} (hm : sem = copyS i)
    (h1 : s (kb i) = 1) (h2 : s (ky i) = 1) (h1' : s' (kb i) = 2) (h2' : s' (ky i) = 2) (ha : ∀ j, j ≠ kb i → j ≠ ky i → s' j = s j)
    {sp sp' : Space} {t t' : Shape} {e e' : EltTy} {src : Memref sig (Proc.kind (τ := τ) .tc) sp' t' e'} {κ' : Kind} {dst : Memref sig κ' sp t e}
    (hn : dst.view.dmaCredit = NB) {hsrc : src.view.WordExact} {hdst : dst.view.WordExact}
    {α : Type} {k : PUnit → Prog (TpuEff nD τ sig (Elt F) Λ₀ .tc) α} {Kt : α → sProp 𝕄}
    (hk : At Y M K c s' Fr ⊢ run c (k ⟨⟩) Kt) :
    At Y M K c s Fr ⊢ run c (.op (.waitDma2 sem src dst hsrc hdst) k) Kt := by
  subst hm
  have hne : kb i ≠ ky i := fun e => by injection e with e; injection e with e; cases e
  have hO : owed c s' = owed c s := owed_same c s s' fun j hj => by
    by_cases e1 : j = kb i
    · subst e1; rfl
    by_cases e2 : j = ky i
    · subst e2; rfl
    exact absurd (ha j e1 e2) hj
  have ho := open2 Y M K c (kb i) (ky i) hne 1 1 s Fr h1 h2
  have hc := close2 Y M K c (kb i) (ky i) hne 2 2 s s' Fr h1' h2' ha
  rw [hO] at hc
  simp only [res, resB, resY] at ho hc
  refine ho.trans (BIBase.Entails.trans ?_ (wait_core Y M K c s iprop((dutyTok ER (wrCell c i) 0 0 ∗ atPos ER (wrCell c i) 0 ∅ 0) ∗ others Y M c {kb i, ky i} s Fr) (copyS i) NB (by show 7 ≤ 7 + i.val; omega)
    (by rw [role_copy]; rfl) (by rw [role_copy]; rfl) (by rw [role_copy]; exact ⟨fun _ _ _ => (by decide : (0 : ℕ) < 3), fun _ _ _ => (by decide : (0 : ℕ) < 2)⟩) hn (hk := ?_)))
  · iintro ⟨Hkn, ⟨⟨Hc, Hat, Hrest⟩, -⟩, HO, Ho⟩
    isplitl [Hkn]; · iexact Hkn
    isplitl [Hc]; · iexact Hc
    isplitl [Hat]; · iexact Hat
    isplitl [HO]; · iexact HO
    isplitr [Ho]; · iexact Hrest
    iexact Ho
  · rw [role_copy]
    dsimp only [pay]
    iintro ⟨Hkn, Hat, ⟨Hb, Hy⟩, HO, Hrest, Ho⟩
    iapply hk
    iapply hc
    isplitl [Hkn]; · iexact Hkn
    isplitr [HO Ho]
    · isplitr [Hy]
      · isplitl [Hb]; · iexact Hb
        isplitl [Hat]; · iexact Hat
        iexact Hrest
      · iexact Hy
    isplitl [HO]; · iexact HO
    iexact Ho

theorem step_wrWait (c : Dev nD) (i : Fin 16) (s s' : State) (Fr : sProp 𝕄)
    {sem : DmaSem sig} (hm : sem = wrS i)
    (h1 : s (kb i) = 4) (h2 : s (ky (refl i)) = 3) (h1' : s' (kb i) = 5) (h2' : s' (ky (refl i)) = 4) (ha : ∀ j, j ≠ kb i → j ≠ ky (refl i) → s' j = s j)
    {sp sp' : Space} {t t' : Shape} {e e' : EltTy} {src : Memref sig (Proc.kind (τ := τ) .tc) sp' t' e'} {κ' : Kind} {dst : Memref sig κ' sp t e}
    (hn : dst.view.dmaCredit = NB) {hsrc : src.view.WordExact} {hdst : dst.view.WordExact}
    {α : Type} {k : PUnit → Prog (TpuEff nD τ sig (Elt F) Λ₀ .tc) α} {Kt : α → sProp 𝕄}
    (hk : At Y M K c s' Fr ⊢ run c (k ⟨⟩) Kt) :
    At Y M K c s Fr ⊢ run c (.op (.waitDma2 sem src dst hsrc hdst) k) Kt := by
  subst hm
  have hne : kb i ≠ ky (refl i) := fun e => by injection e with e; injection e with e; cases e
  have hO : owed c s' = owed c s := owed_same c s s' fun j hj => by
    by_cases e1 : j = kb i
    · subst e1; rfl
    by_cases e2 : j = ky (refl i)
    · subst e2; rfl
    exact absurd (ha j e1 e2) hj
  have ho := open2 Y M K c (kb i) (ky (refl i)) hne 4 3 s Fr h1 h2
  have hc := close2 Y M K c (kb i) (ky (refl i)) hne 5 4 s s' Fr h1' h2' ha
  rw [hO] at hc
  simp only [res, resB, resY] at ho hc
  refine ho.trans (BIBase.Entails.trans ?_ (wait_core Y M K c s iprop(atPos ER (copyCell c i) 1 ∅ 0 ∗ others Y M c {kb i, ky (refl i)} s Fr) (wrS i) NB (by show 7 ≤ 23 + i.val; omega)
    (by rw [role_wr]; rfl) (by rw [role_wr]; rfl) (by rw [role_wr]; exact ⟨fun _ _ _ => (by decide : (0 : ℕ) < 3), fun _ _ _ => (by decide : (0 : ℕ) < 2)⟩) hn (hk := ?_)))
  · iintro ⟨Hkn, ⟨⟨Hc, Hrest, Hat⟩, -⟩, HO, Ho⟩
    isplitl [Hkn]; · iexact Hkn
    isplitl [Hc]; · iexact Hc
    isplitl [Hat]; · iexact Hat
    isplitl [HO]; · iexact HO
    isplitr [Ho]; · iexact Hrest
    iexact Ho
  · rw [role_wr]
    dsimp only [pay]
    iintro ⟨Hkn, Hat, ⟨Hy, Hb⟩, HO, Hrest, Ho⟩
    iapply hk
    iapply hc
    isplitl [Hkn]; · iexact Hkn
    isplitr [HO Ho]
    · isplitr [Hy]
      · isplitl [Hb]; · iexact Hb
        isplitl [Hrest]; · iexact Hrest
        iexact Hat
      · iexact Hy
    isplitl [HO]; · iexact HO
    iexact Ho

/-! ## Loads and stores of pieces -/

def ldB (f : Vec F S4x1024x2048 .f32) (i : Fin 16) : Vec F S1x256x2048 .f32 := fun y => f ((bRect i).emb y)
def ldR (f : Vec F S3x1024x2048 .i8) (i : Fin 16) : Vec F S1x256x2048 .i8 := fun y => f ((qRect i).emb y)

theorem exRow3 (y : S1x256x2048.Idx) : ∃ (r : Fin 256) (l : Fin 2048), y = ix3 (0 : Fin 1) r l := by
  refine ⟨y 1, y 2, ?_⟩
  funext a
  match a with
  | ⟨0, _⟩ => exact Subsingleton.elim (α := Fin 1) _ _
  | ⟨1, _⟩ => rfl
  | ⟨2, _⟩ => rfl
theorem bRect_emb (i : Fin 16) (r : Fin 256) (l : Fin 2048) : (bRect i).emb (ix3 (0 : Fin 1) r l) = (bV i).view.emb (ix2 r l) := by
  show _ = (bRect i).emb (Shape.reshapeEquiv _ (ix2 r l))
  rw [reshapeEquiv_ix2_1ab _ r l]
  rfl
theorem qRect_emb (i : Fin 16) (r : Fin 256) (l : Fin 2048) : (qRect i).emb (ix3 (0 : Fin 1) r l) = (qV i).view.emb (ix2 r l) := by
  show _ = (qRect i).emb (Shape.reshapeEquiv _ (ix2 r l))
  rw [reshapeEquiv_ix2_1ab _ r l]
  rfl

theorem bAcc_set (i : Fin 16) : (bufB.access (bRect i)).set = (bV i).view.set := (View.set_reshape _ _).symm
theorem qAcc_set (i : Fin 16) : (bufQ.access (qRect i)).set = (qV i).view.set := (View.set_reshape _ _).symm
theorem rAcc_set (i : Fin 16) : (bufR.access (qRect i)).set = (rV i).view.set := (View.set_reshape _ _).symm

theorem step_bLoad (c : Dev nD) (i : Fin 16) (s : State) (Fr : sProp 𝕄) {off : Fin 3 → ℕ} (hoff : off = bOff i)
    (h1 : s (kb i) = 2) {inb : ∀ a, off a + S1x256x2048.size a ≤ S4x1024x2048.size a}
    {hl : bufB.view.LoadsAt (Rect.unit (s := S4x1024x2048) off S1x256x2048.size inb).toLoadRect}
    {α : Type} {k : Vec F S1x256x2048 .f32 → Prog (TpuEff nD τ sig (Elt F) Λ₀ .tc) α} {Kt : α → sProp 𝕄}
    (hk : At Y M K c s Fr ⊢ run c (k (ldB (readB Y c) i)) Kt) :
    At Y M K c s Fr ⊢ run c (.op (.load bufB (Rect.unit (s := S4x1024x2048) off S1x256x2048.size inb).toLoadRect hl) k) Kt := by
  subst hoff
  have ho := open1 Y M K c (kb i) 2 s Fr h1
  have hc := close1 Y M K c (kb i) 2 s s Fr h1 (fun _ _ => rfl)
  simp only [res, resB] at ho hc
  refine ho.trans ?_
  iintro ⟨Hkn, ⟨Hb, Hr⟩, HO, Ho⟩
  iapply (wp_load_rect 𝒱₀ (c : Thread nD τ) none Set.univ (m := bufB) (r := bRect i) (f := readB Y c) (S := (bV i).view.set) (q := fullShare)
    (bAcc_set i).le) $$ [Hb]
  · iexact Hb
  iintro Hb
  iapply hk
  iapply hc
  isplitl [Hkn]; · iexact Hkn
  isplitl [Hb Hr]
  · isplitl [Hb]; · iexact Hb
    iexact Hr
  isplitl [HO]; · iexact HO
  iexact Ho

theorem step_rLoad (c : Dev nD) (i : Fin 16) (hi : 4 ≤ i.val) (s : State) (Fr : sProp 𝕄) {off : Fin 3 → ℕ} (hoff : off = qOff i)
    (h1 : s (kr i) = 1) {inb : ∀ a, off a + S1x256x2048.size a ≤ S3x1024x2048.size a}
    {hl : bufR.view.LoadsAt (Rect.unit (s := S3x1024x2048) off S1x256x2048.size inb).toLoadRect}
    {α : Type} {k : Vec F S1x256x2048 .i8 → Prog (TpuEff nD τ sig (Elt F) Λ₀ .tc) α} {Kt : α → sProp 𝕄}
    (hk : At Y M K c s Fr ⊢ run c (k (ldR (recvQ Y M c) i)) Kt) :
    At Y M K c s Fr ⊢ run c (.op (.load bufR (Rect.unit (s := S3x1024x2048) off S1x256x2048.size inb).toLoadRect hl) k) Kt := by
  subst hoff
  have ho := open1 Y M K c (kr i) 1 s Fr h1
  have hc := close1 Y M K c (kr i) 1 s s Fr h1 (fun _ _ => rfl)
  simp only [res, resR, if_pos hi] at ho hc
  refine ho.trans ?_
  iintro ⟨Hkn, ⟨Hb, Hr⟩, HO, Ho⟩
  iapply (wp_load_rect 𝒱₀ (c : Thread nD τ) none Set.univ (m := bufR) (r := qRect i) (f := recvQ Y M c) (S := (rV i).view.set) (q := fullShare)
    (rAcc_set i).le) $$ [Hb]
  · iexact Hb
  iintro Hb
  iapply hk
  iapply hc
  isplitl [Hkn]; · iexact Hkn
  isplitl [Hb Hr]
  · isplitl [Hb]; · iexact Hb
    iexact Hr
  isplitl [HO]; · iexact HO
  iexact Ho

/-- The value read before a quantised piece is stored is not used. -/
theorem step_qLoad (c : Dev nD) (i : Fin 16) (hi : 4 ≤ i.val) (s : State) (Fr : sProp 𝕄) {off : Fin 3 → ℕ} (hoff : off = qOff i)
    (h1 : s (kq i) = 0) {inb : ∀ a, off a + S1x256x2048.size a ≤ S3x1024x2048.size a}
    {hl : bufQ.view.LoadsAt (Rect.unit (s := S3x1024x2048) off S1x256x2048.size inb).toLoadRect}
    {α : Type} {k : Vec F S1x256x2048 .i8 → Prog (TpuEff nD τ sig (Elt F) Λ₀ .tc) α} {Kt : α → sProp 𝕄}
    (hk : ∀ v, At Y M K c s Fr ⊢ run c (k v) Kt) :
    At Y M K c s Fr ⊢ run c (.op (.load bufQ (Rect.unit (s := S3x1024x2048) off S1x256x2048.size inb).toLoadRect hl) k) Kt := by
  subst hoff
  have ho := open1 Y M K c (kq i) 0 s Fr h1
  have hc := close1 Y M K c (kq i) 0 s s Fr h1 (fun _ _ => rfl)
  simp only [res, resQ, if_pos hi] at ho hc
  refine ho.trans ?_
  iintro ⟨Hkn, ⟨⟨%f, Hb⟩, Hr⟩, HO, Ho⟩
  iapply (wp_load_rect 𝒱₀ (c : Thread nD τ) none Set.univ (m := bufQ) (r := qRect i) (f := f) (S := (qV i).view.set) (q := fullShare)
    (qAcc_set i).le) $$ [Hb]
  · iexact Hb
  iintro Hb
  iapply (hk _)
  iapply hc
  isplitl [Hkn]; · iexact Hkn
  isplitl [Hb Hr]
  · isplitl [Hb]; · iexists f; iexact Hb
    iexact Hr
  isplitl [HO]; · iexact HO
  iexact Ho

theorem step_qStore (c : Dev nD) (i : Fin 16) (hi : 4 ≤ i.val) (s s' : State) (Fr : sProp 𝕄) {off : Fin 3 → ℕ} (hoff : off = qOff i)
    (h1 : s (kq i) = 0) (h1' : s' (kq i) = 1) (ha : ∀ j, j ≠ kq i → s' j = s j)
    {inb : ∀ a, off a + S1x256x2048.size a ≤ S3x1024x2048.size a} {w : Vec F S1x256x2048 .i8}
    (hv : ∀ r l, w (ix3 (0 : Fin 1) r l) = FloatOps.fptosi 8 (clampQ (scaleOf M c) (ldB (readB Y c) i (ix3 (0 : Fin 1) r l))))
    {hx : (bufQ.access (Rect.unit (s := S3x1024x2048) off S1x256x2048.size inb)).Stores Finset.univ}
    {hm : (Finset.univ : Finset (Rect.unit (s := S3x1024x2048) off S1x256x2048.size inb).shape.Idx) = Finset.univ ∨ ∀ a, (Rect.unit (s := S3x1024x2048) off S1x256x2048.size inb).stride a = 1}
    {α : Type} {k : PUnit → Prog (TpuEff nD τ sig (Elt F) Λ₀ .tc) α} {Kt : α → sProp 𝕄}
    (hk : At Y M K c s' Fr ⊢ run c (k ⟨⟩) Kt) :
    At Y M K c s Fr ⊢ run c (.op (.store bufQ (Rect.unit (s := S3x1024x2048) off S1x256x2048.size inb) w Finset.univ hx hm) k) Kt := by
  subst hoff
  have hO : owed c s' = owed c s := owed_same c s s' fun j hj => by
    by_cases e1 : j = kq i
    · subst e1; rw [h1, h1']; unfold due; dsimp only; rw [if_pos ⟨hi, by omega⟩, if_pos ⟨hi, by omega⟩]
    exact absurd (ha j e1) hj
  have ho := open1 Y M K c (kq i) 0 s Fr h1
  have hc := close1 Y M K c (kq i) 1 s s' Fr h1' ha
  rw [hO] at hc
  simp only [res, resQ, if_pos hi] at ho hc
  refine ho.trans ?_
  have hw : ∀ x, (bufQ.access (qRect i)).read (Elt F) (sendQ Y M c) x = w x := fun x => by
    obtain ⟨r, l, rfl⟩ := exRow3 x
    rw [hv]
    show sendQ Y M c ((qRect i).emb (ix3 0 r l)) = _
    rw [qRect_emb, sendQ_at Y M c i hi]
    unfold ldB
    rw [bRect_emb]
  iintro ⟨Hkn, ⟨⟨%f, Hb⟩, Hr⟩, HO, Ho⟩
  iapply (wp_store 𝒱₀ (c : Thread nD τ) none Set.univ (m := bufQ) (r := qRect i) (w := w) (Mk := Finset.univ) (f := f) (S := (qV i).view.set)
    (qAcc_set i).le) $$ [Hb]
  · iexact Hb
  iintro Hb
  ihave Hb := (Entails.of_eq (pointsTo_congr (ℓ := (qV i).view.loc (c : Thread nD τ)) (I := (qV i).view.set) (q := fullShare)
    (f := (bufQ.access (qRect i)).write (Elt F) f w Finset.univ) (g := sendQ Y M c)
    (fun j hj => write_agree (bufQ.access (qRect i)) f (sendQ Y M c) w hw j ((qAcc_set i).symm ▸ hj)))) $$ Hb
  iapply hk
  iapply hc
  isplitl [Hkn]; · iexact Hkn
  isplitl [Hb Hr]
  · isplitl [Hb]; · iexact Hb
    iexact Hr
  isplitl [HO]; · iexact HO
  iexact Ho

theorem step_bStore (c : Dev nD) (i : Fin 16) (s s' : State) (Fr : sProp 𝕄) {off : Fin 3 → ℕ} (hoff : off = bOff i)
    (h1 : s (kb i) = 2) (h1' : s' (kb i) = 3) (ha : ∀ j, j ≠ kb i → s' j = s j)
    {inb : ∀ a, off a + S1x256x2048.size a ≤ S4x1024x2048.size a} {w : Vec F S1x256x2048 .f32}
    (hv : ∀ r l, w (ix3 (0 : Fin 1) r l) = writeB Y M c ((bV i).view.emb (ix2 r l)))
    {hx : (bufB.access (Rect.unit (s := S4x1024x2048) off S1x256x2048.size inb)).Stores Finset.univ}
    {hm : (Finset.univ : Finset (Rect.unit (s := S4x1024x2048) off S1x256x2048.size inb).shape.Idx) = Finset.univ ∨ ∀ a, (Rect.unit (s := S4x1024x2048) off S1x256x2048.size inb).stride a = 1}
    {α : Type} {k : PUnit → Prog (TpuEff nD τ sig (Elt F) Λ₀ .tc) α} {Kt : α → sProp 𝕄}
    (hk : At Y M K c s' Fr ⊢ run c (k ⟨⟩) Kt) :
    At Y M K c s Fr ⊢ run c (.op (.store bufB (Rect.unit (s := S4x1024x2048) off S1x256x2048.size inb) w Finset.univ hx hm) k) Kt := by
  subst hoff
  have hO : owed c s' = owed c s := owed_same c s s' fun j hj => by
    by_cases e1 : j = kb i
    · subst e1; rfl
    exact absurd (ha j e1) hj
  have ho := open1 Y M K c (kb i) 2 s Fr h1
  have hc := close1 Y M K c (kb i) 3 s s' Fr h1' ha
  rw [hO] at hc
  simp only [res, resB] at ho hc
  refine ho.trans ?_
  have hw : ∀ x, (bufB.access (bRect i)).read (Elt F) (writeB Y M c) x = w x := fun x => by
    obtain ⟨r, l, rfl⟩ := exRow3 x
    rw [hv]
    show writeB Y M c ((bRect i).emb (ix3 0 r l)) = _
    rw [bRect_emb]
  iintro ⟨Hkn, ⟨Hb, Hr⟩, HO, Ho⟩
  iapply (wp_store 𝒱₀ (c : Thread nD τ) none Set.univ (m := bufB) (r := bRect i) (w := w) (Mk := Finset.univ) (f := readB Y c) (S := (bV i).view.set)
    (bAcc_set i).le) $$ [Hb]
  · iexact Hb
  iintro Hb
  ihave Hb := (Entails.of_eq (pointsTo_congr (ℓ := (bV i).view.loc (c : Thread nD τ)) (I := (bV i).view.set) (q := fullShare)
    (f := (bufB.access (bRect i)).write (Elt F) (readB Y c) w Finset.univ) (g := writeB Y M c)
    (fun j hj => write_agree (bufB.access (bRect i)) (readB Y c) (writeB Y M c) w hw j ((bAcc_set i).symm ▸ hj)))) $$ Hb
  iapply hk
  iapply hc
  isplitl [Hkn]; · iexact Hkn
  isplitl [Hb Hr]
  · isplitl [Hb]; · iexact Hb
    iexact Hr
  isplitl [HO]; · iexact HO
  iexact Ho

/-! ## Writing pieces to the result -/

theorem step_write (c : Dev nD) (i : Fin 16) (s s' : State) (Fr : sProp 𝕄)
    {src : Memref sig .tc .vmem S256x2048 .f32} {dst : Memref sig (Proc.kind (τ := τ) .tc) .hbm S256x2048 .f32} {sem : DmaSem sig}
    (hs : src = bV i) (hd : dst = yV c (refl i)) (hm : sem = wrS i)
    (h1 : s (kb i) = 3) (h2 : s (ky (refl i)) = 2) (h1' : s' (kb i) = 4) (h2' : s' (ky (refl i)) = 3) (ha : ∀ j, j ≠ kb i → j ≠ ky (refl i) → s' j = s j)
    {hsrc : src.view.WordExact} {hdst : dst.view.WordExact} {hsem : DmaTarget.Typed (nD := nD) .vmem (.dma sem) (.here dst)}
    {α : Type} {k : PUnit → Prog (TpuEff nD τ sig (Elt F) Λ₀ .tc) α} {Kt : α → sProp 𝕄}
    (hk : At Y M K c s' Fr ⊢ run c (k ⟨⟩) Kt) :
    At Y M K c s Fr ⊢ run c (.op (.enqueueDma src (.here dst) (.dma sem) hsrc hdst hsem) k) Kt := by
  subst hs hd hm
  have hne : kb i ≠ ky (refl i) := fun e => by injection e with e; injection e with e; cases e
  have hO : owed c s' = owed c s := owed_same c s s' fun j hj => by
    by_cases e1 : j = kb i
    · subst e1; rfl
    by_cases e2 : j = ky (refl i)
    · subst e2; rfl
    exact absurd (ha j e1 e2) hj
  have ho := open2 Y M K c (kb i) (ky (refl i)) hne 3 2 s Fr h1 h2
  have hc := close2 Y M K c (kb i) (ky (refl i)) hne 4 3 s s' Fr h1' h2' ha
  rw [hO] at hc
  simp only [res, resB, resY] at ho hc
  refine ho.trans ?_
  iintro ⟨#Hkn, ⟨⟨Hb, Hat, Ht, Hr⟩, Hy⟩, HO, Ho⟩
  ihave #Hi := (known_inv Y M K c c (wrS i) (by show 7 ≤ 23 + i.val; omega)) $$ Hkn
  ihave #Hre := (known_reached Y M K c (wrS i) (by show 7 ≤ 23 + i.val; omega)) $$ Hkn
  iapply (Rounds.wp_copy_pointsTo 𝒱₀ ER (sched Y M) (c : Thread nD τ) none (src := bV i) (dst := yV c (refl i)) (sem := .dma (wrS i)) (q := fullShare)
      (fs := writeB Y M c) (fd := Y c) (r := 0) (d := 0) (κ := K (wrCell c i))
      (by rw [sched_duties, role_wr]; exact Finset.mem_singleton_self _) () NB rfl (by rw [sched_amount, role_wr]; rfl)
      (by
        rw [sched_payload, role_wr, pointsTo_congr (write_agree (yV c (refl i)).view (Y c) (outY Y M c) _ (outY_at Y M c i))]
        exact .rfl)) $$ [Hb Hy Ht]
  · isplitr; · iexact Hi
    isplitl [Hb]; · iexact Hb
    isplitl [Hy]; · iexact Hy
    isplitl [Ht]; · iexact Ht
    iexact Hre
  iintro Hc
  iapply hk
  iapply hc
  isplitr; · iexact Hkn
  isplitl [Hc Hat Hr]
  · isplitl
    · isplitl [Hc]; · iexact Hc
      isplitl [Hat]; · iexact Hat
      iexact Hr
    · iempintro
  isplitl [HO]; · iexact HO
  iexact Ho

/-! ## Sending -/

theorem step_qSend (c : Dev nD) (i : Fin 16) (hi : 4 ≤ i.val) (s s' : State) (Fr : sProp 𝕄) {dev : Dev nD} (hdev : dev = c + dOf i)
    {src : Memref sig (Proc.kind (τ := τ) .tc) .vmem S256x2048 .i8} {dst : Memref sig ((dev : Thread nD τ)).2.kind .vmem S256x2048 .i8} {ss sem : DmaSem sig}
    (hs : src = qV i) (hd : dst = rV i) (hm : ss = dsS i) (hm' : sem = drS i)
    (h1 : s (kq i) = 1) (h1' : s' (kq i) = 2) (ha : ∀ j, j ≠ kq i → s' j = s j)
    {hsc : dst.view.ref.isScScratch = false} {hsrc : src.view.WordExact} {hdst : dst.view.WordExact}
    {hsem : DmaTarget.Typed (nD := nD) .vmem (.dma sem) (.remote (dev : Thread nD τ) dst (.dma ss) hsc)}
    {α : Type} {k : PUnit → Prog (TpuEff nD τ sig (Elt F) Λ₀ .tc) α} {Kt : α → sProp 𝕄}
    (hk : At Y M K c s' Fr ⊢ run c (k ⟨⟩) Kt) :
    At Y M K c s Fr ⊢ run c (.op (.enqueueDma src (.remote (dev : Thread nD τ) dst (.dma ss) hsc) (.dma sem) hsrc hdst hsem) k) Kt := by
  subst hdev hs hd hm hm'
  have hO : owed c s = owed c s' + tallyAt (drCell (c + dOf i) i) () NQ := owed_less c s s' (kq i) _
    (by rw [h1]; unfold due; dsimp only; rw [if_pos ⟨hi, by omega⟩]) (by rw [h1']; unfold due; dsimp only; rw [if_neg (by omega)]) ha
  have ho := open1 Y M K c (kq i) 1 s Fr h1
  have hc := close1 Y M K c (kq i) 2 s s' Fr h1' ha
  simp only [res, resQ, if_pos hi] at ho hc
  refine ho.trans ?_
  iintro ⟨#Hkn, ⟨Hq, ⟨⟨%f, Hp⟩, Hrp⟩, Ht, Htp, Hat⟩, ⟨%W, HO⟩, Ho⟩
  ihave #Hi := (known_inv Y M K c c (dsS i) (by show 7 ≤ 39 + i.val; omega)) $$ Hkn
  ihave #Hip := (known_inv Y M K c (c + dOf i) (drS i) (by show 7 ≤ 55 + i.val; omega)) $$ Hkn
  ihave #Hre := (known_reached Y M K c (dsS i) (by show 7 ≤ 39 + i.val; omega)) $$ Hkn
  iapply (Rounds.wp_send_pointsTo 𝒱₀ ER (sched Y M) (c : Thread nD τ) none (c' := ((c + dOf i : Dev nD) : Thread nD τ)) (src := qV i) (dst := rV i)
      (sS := .dma (dsS i)) (sem := .dma (drS i)) (q := fullShare) (fs := sendQ Y M c) (κ₁ := K (dsCell c i)) (κ₂ := K (drCell (c + dOf i) i))
      (r₁ := 0) (r₂ := 0) (d₁ := 0) (d₂ := 0) (fd := f)
      (by rw [sched_duties, role_ds, show dutiesOf (.ds i) = {0} from if_pos hi]; exact Finset.mem_singleton_self _)
      (by rw [sched_duties, role_dr, show dutiesOf (.dr i) = {0} from if_pos hi]; exact Finset.mem_singleton_self _)
      () () NQ rfl (by rw [sched_amount, role_ds]; rfl) (by rw [sched_amount, role_dr]; rfl) (owed c s') hO (W := W)
      (by rw [sched_payload, role_ds]; exact .rfl)
      (by
        rw [sched_payload, role_dr, pointsTo_congr (write_agree (rV i).view f (recvQ Y M (c + dOf i)) _ (recvQ_at Y M c i hi))]
        exact .rfl)) $$ [Hq Hp HO Ht Htp Hrp]
  · isplitr; · iexact Hi
    isplitr; · iexact Hip
    isplitl [Hq]; · iexact Hq
    isplitl [Hp]; · iexact Hp
    isplitl [HO]; · iexact HO
    isplitl [Ht]; · iexact Ht
    isplitr; · iexact Hre
    isplitl [Htp]; · iexact Htp
    iexact Hrp
  iintro ⟨Hc, HO⟩
  iapply hk
  iapply hc
  isplitr; · iexact Hkn
  isplitl [Hc Hat]
  · isplitl [Hc]; · iexact Hc
    iexact Hat
  isplitl [HO]; · iexists W; iexact HO
  iexact Ho

theorem step_aSend (c : Dev nD) (d : Fin 4) (hi : d ≠ 0) (s s' : State) (Fr : sProp 𝕄) {dev : Dev nD} (hdev : dev = c + d)
    {src : Memref sig (Proc.kind (τ := τ) .tc) .vmem S8x128 .f32} {dst : Memref sig ((dev : Thread nD τ)).2.kind .vmem S8x128 .f32} {ss sem : DmaSem sig}
    (hs : src = aV 0) (hd : dst = aV d) (hm : ss = asS d) (hm' : sem = arS d)
    (h1 : s (ka d) = 0) (h1' : s' (ka d) = 1) (ha : ∀ j, j ≠ ka d → s' j = s j)
    {hsc : dst.view.ref.isScScratch = false} {hsrc : src.view.WordExact} {hdst : dst.view.WordExact}
    {hsem : DmaTarget.Typed (nD := nD) .vmem (.dma sem) (.remote (dev : Thread nD τ) dst (.dma ss) hsc)}
    {α : Type} {k : PUnit → Prog (TpuEff nD τ sig (Elt F) Λ₀ .tc) α} {Kt : α → sProp 𝕄}
    (hk : At Y M K c s' Fr ⊢ run c (k ⟨⟩) Kt) :
    At Y M K c s Fr ⊢ run c (.op (.enqueueDma src (.remote (dev : Thread nD τ) dst (.dma ss) hsc) (.dma sem) hsrc hdst hsem) k) Kt := by
  subst hdev hs hd hm hm'
  have hO : owed c s = owed c s' + tallyAt (arCell (c + d) d) () NA := owed_less c s s' (ka d) _
    (by rw [h1]; unfold due; dsimp only; rw [if_pos ⟨hi, rfl⟩]) (by rw [h1']; unfold due; dsimp only; rw [if_neg (by omega)]) ha
  have ho := open1 Y M K c (ka d) 0 s Fr h1
  have hc := close1 Y M K c (ka d) 1 s s' Fr h1' ha
  simp only [res, resA, if_pos hi] at ho hc
  refine ho.trans ?_
  iintro ⟨#Hkn, ⟨Hq, ⟨⟨%f, Hp⟩, Hrp⟩, Ht, Htp, Hat⟩, ⟨%W, HO⟩, Ho⟩
  ihave #Hi := (known_inv Y M K c c (asS d) (by show 7 ≤ 71 + d.val; omega)) $$ Hkn
  ihave #Hip := (known_inv Y M K c (c + d) (arS d) (by show 7 ≤ 75 + d.val; omega)) $$ Hkn
  ihave #Hre := (known_reached Y M K c (asS d) (by show 7 ≤ 71 + d.val; omega)) $$ Hkn
  iapply (Rounds.wp_send_pointsTo 𝒱₀ ER (sched Y M) (c : Thread nD τ) none (c' := ((c + d : Dev nD) : Thread nD τ)) (src := aV 0) (dst := aV d)
      (sS := .dma (asS d)) (sem := .dma (arS d)) (q := quarter d) (fs := tabA M c) (κ₁ := K (asCell c d)) (κ₂ := K (arCell (c + d) d))
      (r₁ := 0) (r₂ := 0) (d₁ := 0) (d₂ := 0) (fd := f)
      (by rw [sched_duties, role_as, show dutiesOf (.asnd d) = {0} from if_pos hi]; exact Finset.mem_singleton_self _)
      (by rw [sched_duties, role_ar, show dutiesOf (.arcv d) = {0} from if_pos hi]; exact Finset.mem_singleton_self _)
      () () NA rfl (by rw [sched_amount, role_as]; rfl) (by rw [sched_amount, role_ar]; rfl) (owed c s') hO (W := W)
      (by rw [sched_payload, role_as]; exact .rfl)
      (by
        rw [sched_payload, role_ar, pointsTo_congr (write_agree (aV d).view f (tabA M (c + d)) _ (tabA_far M c d))]
        exact .rfl)) $$ [Hq Hp HO Ht Htp Hrp]
  · isplitr; · iexact Hi
    isplitr; · iexact Hip
    isplitl [Hq]; · iexact Hq
    isplitl [Hp]; · iexact Hp
    isplitl [HO]; · iexact HO
    isplitl [Ht]; · iexact Ht
    isplitr; · iexact Hre
    isplitl [Htp]; · iexact Htp
    iexact Hrp
  iintro ⟨Hc, HO⟩
  iapply hk
  iapply hc
  isplitr; · iexact Hkn
  isplitl [Hc Hat]
  · isplitl [Hc]; · iexact Hc
    iexact Hat
  isplitl [HO]; · iexists W; iexact HO
  iexact Ho

end Cert.KernelIdeal.A2a

end
-- ==== Proof.A2a.States.lean ====
/-
  The states the exchange kernel goes through, written as digits, and the program's own names for
  devices, rows and payloads.
-/
module

public import proofs.«01_k».proof.Proof.A2a.Steps

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-- The state whose slots' stages are the decimal digits of six numbers, the last digit the first slot. -/
def tab (b y q r a e : ℕ) : State
  | .inl (.inl (.inl i)) => b / 10 ^ i.val % 10
  | .inl (.inl (.inr i)) => y / 10 ^ i.val % 10
  | .inl (.inr (.inl i)) => q / 10 ^ i.val % 10
  | .inl (.inr (.inr i)) => r / 10 ^ i.val % 10
  | .inr (.inl d) => a / 10 ^ d.val % 10
  | .inr (.inr d) => e / 10 ^ d.val % 10

theorem off1_at (c : Fin 4) (a b : Fin 4) (i : Fin 16) (ha : i.val / 4 = a.val) (hb : i.val % 4 = b.val) :
    k1_off1 c (BitVec.ofNat 32 a.val) (BitVec.ofNat 32 (256 * b.val)) = yOff c i := by
  rw [k1_off1_eq]; unfold yOff; rw [ha, hb, Nat.mul_comm 1024, Nat.mul_comm 256]
theorem off2_at (c : Fin 4) (b : Fin 4) (i : Fin 16) (ha : i.val / 4 = 0) (hb : i.val % 4 = b.val) :
    k1_off2 c (BitVec.ofNat 32 (256 * b.val)) = yOff c i := by
  rw [k1_off2_eq]; unfold yOff; rw [ha, hb, Nat.mul_comm 1024, Nat.mul_comm 256, Nat.add_zero, Nat.mod_eq_of_lt c.isLt]
theorem off3_at (c : Fin 4) (a : Fin 3) (b : Fin 4) (i : Fin 16) (ha : i.val / 4 = 3 - a.val) (hb : i.val % 4 = b.val) :
    k1_off3 c (BitVec.ofNat 32 (1 + a.val)) (BitVec.ofNat 32 (256 * b.val)) = yOff c i := by
  rw [k1_off3_eq]; unfold yOff; rw [ha, hb, Nat.mul_comm 1024, Nat.mul_comm 256, Nat.add_sub_assoc (by have := a.isLt; omega)]

theorem dev_at (c : Dev nD) (d : Dev nD) (n : ℕ) (h : n = (c.val + d.val) % 4) (hn : n < nD) : (⟨n, hn⟩ : Dev nD) = c + d := Fin.ext h

/-- Nothing left to run. -/
theorem step_ret (c : Dev nD) {α : Type} {a : α} {P : sProp 𝕄} {Kt : α → sProp 𝕄} (h : P ⊢ Kt a) : P ⊢ run c (.ret a) Kt := by
  unfold run
  rw [wp_ret]
  exact h.trans fupd_intro

/-! ## Payloads at an index -/

theorem quant_at (s : F .f32) (v : Vec F S1x256x2048 .f32) (r : Fin 256) (l : Fin 2048) :
    k1_pay3 s v (ix3 (0 : Fin 1) r l) = FloatOps.fptosi 8 (clampQ s (v (ix3 (0 : Fin 1) r l))) := by
  unfold k1_pay3
  rw [shapeCast_ab_1ab_apply _ _ (0 : Fin 1) r l]
  show FloatOps.fptosi 8 (FloatOps.minimumf _ (FloatOps.maximumf _ (FloatOps.roundeven (FloatOps.divf (shapeCast S256x2048 v _ (ix2 r l)) s)))) = _
  rw [shapeCast_1ab_ab_apply _ _ r l]
  rfl
theorem own_at (s : F .f32) (v : Vec F S1x256x2048 .f32) (r : Fin 256) (l : Fin 2048) :
    k1_pay24 s v (ix3 (0 : Fin 1) r l) = FloatOps.mulf (clampQ s (v (ix3 (0 : Fin 1) r l))) s := by
  unfold k1_pay24
  rw [shapeCast_ab_1ab_apply _ _ (0 : Fin 1) r l]
  show FloatOps.mulf (FloatOps.minimumf _ (FloatOps.maximumf _ (FloatOps.roundeven (FloatOps.divf (shapeCast S256x2048 v _ (ix2 r l)) s)))) s = _
  rw [shapeCast_1ab_ab_apply _ _ r l]
  rfl
theorem far_at (s : F .f32) (v : Vec F S1x256x2048 .i8) (r : Fin 256) (l : Fin 2048) :
    k1_pay28 s v (ix3 (0 : Fin 1) r l) = FloatOps.mulf (FloatOps.sitofp .f32 (v (ix3 (0 : Fin 1) r l))) s := by
  unfold k1_pay28
  rw [shapeCast_ab_1ab_apply _ _ (0 : Fin 1) r l]
  show FloatOps.mulf (FloatOps.sitofp .f32 (shapeCast S256x2048 v _ (ix2 r l))) s = _
  rw [shapeCast_1ab_ab_apply _ _ r l]

variable (Y : Fin 4 → Vec F S4096x2048 .f32) (M : Fin 4 → Vec F S8x128 .f32) (K : GSem nD τ sig → ℕ)

theorem own_row (c : Fin 4) (i : Fin 16) (hi : i.val < 4) (r : Fin 256) (l : Fin 2048) :
    k1_pay24 (scaleOf M c) (ldB (readB Y c) i) (ix3 (0 : Fin 1) r l) = writeB Y M c ((bV i).view.emb (ix2 r l)) := by
  rw [own_at, writeB_own Y M c i hi]
  unfold ldB
  rw [bRect_emb]
theorem far_row (c : Fin 4) (i : Fin 16) (hi : 4 ≤ i.val) (r : Fin 256) (l : Fin 2048) :
    k1_pay28 (scaleOf M c) (ldR (recvQ Y M c) i) (ix3 (0 : Fin 1) r l) = writeB Y M c ((bV i).view.emb (ix2 r l)) := by
  rw [far_at, writeB_far Y M c i hi]
  unfold ldR
  rw [qRect_emb]
  rfl

/-! ## Reading the table of maxima -/

theorem aPt_quarter (c : Dev nD) (d : Fin 4) (f : Vec F S4x8x128 .f32) :
    (aPt c d fullShare f : sProp 𝕄) = iprop(aPt c d (quarter 0) f ∗ bigSep (Finset.univ.erase (0 : Fin 4)) fun i => aPt c d (quarter i) f) := by
  unfold aPt
  rw [ShareLeaves.pointsTo_leaves _ _ 2 fullShare]
  exact bigSep_univ_at _ (0 : Fin 4)

theorem table_whole (c : Dev nD) (f : Vec F S4x8x128 .f32) :
    (bufA.view.loc (c : Thread nD τ) ↦[Finset.univ]{quarter 0} f : sProp 𝕄)
      = iprop(aPt c 0 (quarter 0) f ∗ aPt c 1 (quarter 0) f ∗ aPt c 2 (quarter 0) f ∗ aPt c 3 (quarter 0) f) := by
  have hu : (Finset.univ : Finset S4x8x128.Idx) = (Finset.univ : Finset (Fin 4)).biUnion fun d => (aV d).view.set := by
    refine (Finset.eq_univ_iff_forall.mpr fun k => Finset.mem_biUnion.mpr ⟨(k 0 : Fin 4), Finset.mem_univ _, (mem_aV _ k).mpr rfl⟩).symm
  rw [show (Finset.univ : Finset (Idx (bufA.view.loc (c : Thread nD τ)))) = _ from hu]
  refine (pointsTo_biUnion _ _ (fun d _ d' _ hd => Finset.disjoint_left.mpr fun k h h' => hd (Fin.ext (((mem_aV d k).mp h).symm.trans ((mem_aV d' k).mp h'))))).trans ?_
  rw [show (Finset.univ : Finset (Fin 4)) = {0, 1, 2, 3} from rfl, sep_insert (by decide), sep_insert (by decide), sep_insert (by decide), bigSep_singleton]

theorem step_aLoad (c : Dev nD) (s : State) (Fr : sProp 𝕄) {inb : ∀ a, (![0, 0, 0] : Fin 3 → ℕ) a + S4x8x128.size a ≤ S4x8x128.size a}
    (h1 : s (ke 1) = 1) (h2 : s (ke 2) = 1) (h3 : s (ke 3) = 1)
    {hl : bufA.view.LoadsAt (Rect.unit (s := S4x8x128) ![0, 0, 0] S4x8x128.size inb).toLoadRect}
    {α : Type} {k : Vec F S4x8x128 .f32 → Prog (TpuEff nD τ sig (Elt F) Λ₀ .tc) α} {Kt : α → sProp 𝕄}
    (hk : At Y M K c s Fr ⊢ run c (k (tabA M c)) Kt) :
    At Y M K c s Fr ⊢ run c (.op (.load bufA (Rect.unit (s := S4x8x128) ![0, 0, 0] S4x8x128.size inb).toLoadRect hl) k) Kt := by
  have ho := At_split Y M K c {ke 0, ke 1, ke 2, ke 3} s Fr
  have hc := At_join Y M K c {ke 0, ke 1, ke 2, ke 3} s s Fr (fun _ _ => rfl)
  rw [sep_insert (by decide), sep_insert (by decide), sep_insert (by decide), bigSep_singleton, h1, h2, h3] at ho hc
  simp only [res, resE] at ho hc
  rw [if_neg (by decide : ¬ (0 : Fin 4) ≠ 0), if_pos (by decide : (1 : Fin 4) ≠ 0), if_pos (by decide : (2 : Fin 4) ≠ 0), if_pos (by decide : (3 : Fin 4) ≠ 0),
    aPt_quarter c 1, aPt_quarter c 2, aPt_quarter c 3] at ho hc
  have hv : (bufA.access (Rect.unit (s := S4x8x128) ![0, 0, 0] S4x8x128.size inb)).read (Elt F) (tabA M c) = tabA M c := by
    funext y
    show tabA M c ((Rect.unit (s := S4x8x128) ![0, 0, 0] S4x8x128.size inb).emb y) = _
    congr 1
    funext a
    refine Fin.ext ?_
    rw [Rect.emb_apply]
    show (![0, 0, 0] : Fin 3 → ℕ) a + 1 * (y a : ℕ) = y a
    rw [Nat.one_mul, show (![0, 0, 0] : Fin 3 → ℕ) a = 0 from by revert a; decide, Nat.zero_add]
  refine ho.trans ?_
  iintro ⟨Hkn, ⟨⟨H0, R0⟩, ⟨⟨H1, S1⟩, R1⟩, ⟨⟨H2, S2⟩, R2⟩, ⟨H3, S3⟩, R3⟩, HO, Ho⟩
  iapply (wp_load_rect 𝒱₀ (c : Thread nD τ) none Set.univ (m := bufA) (r := Rect.unit (s := S4x8x128) ![0, 0, 0] S4x8x128.size inb) (f := tabA M c)
    (S := Finset.univ) (q := quarter 0) (Finset.subset_univ _)) $$ [H0 H1 H2 H3]
  · rw [table_whole]
    isplitl [H0]; · iexact H0
    isplitl [H1]; · iexact H1
    isplitl [H2]; · iexact H2
    iexact H3
  rw [table_whole, hv]
  iintro ⟨H0, H1, H2, H3⟩
  iapply hk
  iapply hc
  isplitl [Hkn]; · iexact Hkn
  isplitr [HO Ho]
  · isplitl [H0 R0]
    · isplitl [H0]; · iexact H0
      iexact R0
    isplitl [H1 S1 R1]
    · isplitl [H1 S1]
      · isplitl [H1]; · iexact H1
        iexact S1
      iexact R1
    isplitl [H2 S2 R2]
    · isplitl [H2 S2]
      · isplitl [H2]; · iexact H2
        iexact S2
      iexact R2
    · isplitl [H3 S3]
      · isplitl [H3]; · iexact H3
        iexact S3
      iexact R3
  isplitl [HO]; · iexact HO
  iexact Ho

end Cert.KernelIdeal.A2a

end
-- ==== Proof.A2a.Pieces.lean ====
/-
  The exchange kernel's buffers cut into the pieces of its slots, and the pieces sorted by distance.
-/
module

public import proofs.«01_k».proof.Proof.A2a.States

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

theorem whole_pieces {ℓ : Loc nD τ sig} (S : Finset (Fin 16)) (P : Fin 16 → Finset (Idx ℓ)) (q : PosShare TreeShare) (f : Buf (Elt F) ℓ)
    (hc : ∀ k, ∃ i ∈ S, k ∈ P i) (hd : ∀ i ∈ S, ∀ j ∈ S, i ≠ j → Disjoint (P i) (P j)) :
    (ℓ ↦[Finset.univ]{q} f : sProp 𝕄) = bigSep S fun i => ℓ ↦[P i]{q} f := by
  have hu : (Finset.univ : Finset (Idx ℓ)) = S.biUnion P :=
    (Finset.eq_univ_iff_forall.mpr fun k => Finset.mem_biUnion.mpr (hc k)).symm
  rw [hu]
  exact pointsTo_biUnion S P hd

theorem b_cover (k : S4x1024x2048.Idx) : ∃ i : Fin 16, i ∈ (Finset.univ : Finset (Fin 16)) ∧ k ∈ (bV i).view.set := by
  have h0 : (k 0 : ℕ) < 4 := (k 0).isLt
  have h1 : (k 1 : ℕ) < 1024 := (k 1).isLt
  refine ⟨⟨(k 0 : ℕ) * 4 + (k 1 : ℕ) / 256, by omega⟩, Finset.mem_univ _, (mem_bV _ k).mpr ⟨?_, ?_⟩⟩ <;> dsimp only <;> omega
theorem b_apart (i j : Fin 16) (h : i ≠ j) : Disjoint ((bV i).view.set : Finset S4x1024x2048.Idx) (bV j).view.set := by
  refine Finset.disjoint_left.mpr fun k h1 h2 => h (Fin.ext ?_)
  have a := (mem_bV i k).mp h1
  have b := (mem_bV j k).mp h2
  omega
theorem q_cover (k : S3x1024x2048.Idx) : ∃ i : Fin 16, i ∈ (Finset.univ.filter fun i : Fin 16 => 4 ≤ i.val) ∧ k ∈ (qV i).view.set := by
  have h0 : (k 0 : ℕ) < 3 := (k 0).isLt
  have h1 : (k 1 : ℕ) < 1024 := (k 1).isLt
  refine ⟨⟨((k 0 : ℕ) + 1) * 4 + (k 1 : ℕ) / 256, by omega⟩, Finset.mem_filter.mpr ⟨Finset.mem_univ _, ?_⟩, (mem_qV _ k).mpr ⟨?_, ?_⟩⟩ <;> dsimp only <;> omega
theorem q_apart (i j : Fin 16) (hi : i ∈ (Finset.univ.filter fun i : Fin 16 => 4 ≤ i.val)) (hj : j ∈ (Finset.univ.filter fun i : Fin 16 => 4 ≤ i.val)) (h : i ≠ j) :
    Disjoint ((qV i).view.set : Finset S3x1024x2048.Idx) (qV j).view.set := by
  refine Finset.disjoint_left.mpr fun k h1 h2 => h (Fin.ext ?_)
  have a := (mem_qV i k).mp h1
  have b := (mem_qV j k).mp h2
  have c := (Finset.mem_filter.mp hi).2
  have d := (Finset.mem_filter.mp hj).2
  omega
theorem y_cover (c : Fin 4) (k : S4096x2048.Idx) : ∃ i : Fin 16, i ∈ (Finset.univ : Finset (Fin 16)) ∧ k ∈ (yV c i).view.set := by
  have h0 : (k 0 : ℕ) < 4096 := (k 0).isLt
  have hc : c.val < 4 := c.isLt
  refine ⟨⟨((k 0 : ℕ) / 1024 + 4 - c.val) % 4 * 4 + (k 0 : ℕ) / 256 % 4, by omega⟩, Finset.mem_univ _, (mem_yV _ _ k).mpr ?_⟩
  dsimp only
  omega
theorem y_apart (c : Fin 4) (i j : Fin 16) (h : i ≠ j) : Disjoint ((yV c i).view.set : Finset S4096x2048.Idx) (yV c j).view.set := by
  refine Finset.disjoint_left.mpr fun k h1 h2 => h (Fin.ext ?_)
  have a := (mem_yV c i k).mp h1
  have b := (mem_yV c j k).mp h2
  have hc : c.val < 4 := c.isLt
  have := i.isLt
  have := j.isLt
  omega

theorem bWhole (c : Dev nD) (f : Vec F S4x1024x2048 .f32) :
    (bufB.view.loc (c : Thread nD τ) ↦[Finset.univ]{fullShare} f : sProp 𝕄) = bigSep Finset.univ fun i => bPt c i f :=
  whole_pieces (ℓ := bufB.view.loc (c : Thread nD τ)) Finset.univ (fun i => (bV i).view.set) fullShare f b_cover (fun i _ j _ h => b_apart i j h)
theorem qWhole (c : Dev nD) (f : Vec F S3x1024x2048 .i8) :
    (bufQ.view.loc (c : Thread nD τ) ↦[Finset.univ]{fullShare} f : sProp 𝕄)
      = bigSep Finset.univ fun i : Fin 16 => if 4 ≤ i.val then qPt c i f else iprop(emp) :=
  (whole_pieces (ℓ := bufQ.view.loc (c : Thread nD τ)) (Finset.univ.filter fun i : Fin 16 => 4 ≤ i.val) (fun i => (qV i).view.set) fullShare f
    q_cover (fun i hi j hj h => q_apart i j hi hj h)).trans (bigSep_filter _ _ _)
theorem rWhole (c : Dev nD) (f : Vec F S3x1024x2048 .i8) :
    (bufR.view.loc (c : Thread nD τ) ↦[Finset.univ]{fullShare} f : sProp 𝕄)
      = bigSep Finset.univ fun i : Fin 16 => if 4 ≤ i.val then rPt c i f else iprop(emp) :=
  (whole_pieces (ℓ := bufR.view.loc (c : Thread nD τ)) (Finset.univ.filter fun i : Fin 16 => 4 ≤ i.val) (fun i => (rV i).view.set) fullShare f
    (fun k => by
      obtain ⟨i, hi, h⟩ := q_cover k
      exact ⟨i, hi, (rV_set i).symm ▸ h⟩)
    (fun i hi j hj h => by
      have e := q_apart i j hi hj h
      rw [← rV_set, ← rV_set] at e
      exact e)).trans (bigSep_filter _ _ _)
theorem yWhole (c : Dev nD) (f : Vec F S4096x2048 .f32) :
    (bufY.view.loc (c : Thread nD τ) ↦[Finset.univ]{fullShare} f : sProp 𝕄) = bigSep Finset.univ fun j => yPt c j f :=
  whole_pieces (ℓ := bufY.view.loc (c : Thread nD τ)) Finset.univ (fun j => (yV c j).view.set) fullShare f (y_cover c) (fun i _ j _ h => y_apart c i j h)

theorem aWhole (c : Dev nD) (q : PosShare TreeShare) (f : Vec F S4x8x128 .f32) :
    (bufA.view.loc (c : Thread nD τ) ↦[Finset.univ]{q} f : sProp 𝕄) = bigSep Finset.univ fun d => aPt c d q f := by
  have hu : (Finset.univ : Finset S4x8x128.Idx) = (Finset.univ : Finset (Fin 4)).biUnion fun d => (aV d).view.set := by
    refine (Finset.eq_univ_iff_forall.mpr fun k => Finset.mem_biUnion.mpr ⟨(k 0 : Fin 4), Finset.mem_univ _, (mem_aV _ k).mpr rfl⟩).symm
  rw [show (Finset.univ : Finset (Idx (bufA.view.loc (c : Thread nD τ)))) = _ from hu]
  exact pointsTo_biUnion _ _ (fun d _ d' _ hd => Finset.disjoint_left.mpr fun k h h' => hd (Fin.ext (((mem_aV d k).mp h).symm.trans ((mem_aV d' k).mp h'))))

/-! ## By distance -/

theorem dist_cases (i : Fin 16) : (dOf i = 0 ∧ ¬ 4 ≤ i.val) ∨ (dOf i = 1 ∧ 4 ≤ i.val) ∨ (dOf i = 2 ∧ 4 ≤ i.val) ∨ (dOf i = 3 ∧ 4 ≤ i.val) := by
  revert i; decide

/-- The pieces sent, sorted by the distance they are sent. -/
theorem by_distance (X : Fin 16 → sProp 𝕄) :
    (bigSep Finset.univ fun i : Fin 16 => if 4 ≤ i.val then X i else iprop(emp))
      = iprop((bigSep Finset.univ fun i : Fin 16 => if dOf i = 1 then X i else iprop(emp))
          ∗ (bigSep Finset.univ fun i : Fin 16 => if dOf i = 2 then X i else iprop(emp))
          ∗ (bigSep Finset.univ fun i : Fin 16 => if dOf i = 3 then X i else iprop(emp))) := by
  rw [← bigSep_sep', ← bigSep_sep']
  refine bigSep_congr fun i _ => ?_
  have e1 : ∀ P : sProp 𝕄, iprop(emp ∗ P) = P := fun P => equiv_iff.mp emp_sep
  have e2 : ∀ P : sProp 𝕄, iprop(P ∗ emp) = P := fun P => equiv_iff.mp sep_emp
  rcases dist_cases i with ⟨h, h'⟩ | ⟨h, h'⟩ | ⟨h, h'⟩ | ⟨h, h'⟩
  · rw [if_neg h', h, if_neg (by decide), if_neg (by decide), if_neg (by decide), e1, e1]
  · rw [if_pos h', h, if_pos rfl, if_neg (by decide), if_neg (by decide), e1, e2]
  · rw [if_pos h', h, if_neg (by decide), if_pos rfl, if_neg (by decide), e1, e2]
  · rw [if_pos h', h, if_neg (by decide), if_neg (by decide), if_pos rfl, e1, e1]

theorem three (Φ : Fin 4 → sProp 𝕄) : bigSep ({1, 2, 3} : Finset (Fin 4)) Φ = iprop(Φ 1 ∗ Φ 2 ∗ Φ 3) := by
  rw [sep_insert (by decide), sep_insert (by decide), bigSep_singleton]
theorem four (Φ : Fin 4 → sProp 𝕄) : bigSep (Finset.univ : Finset (Fin 4)) Φ = iprop(Φ 0 ∗ Φ 1 ∗ Φ 2 ∗ Φ 3) := by
  rw [show (Finset.univ : Finset (Fin 4)) = {0, 1, 2, 3} from rfl, sep_insert (by decide), sep_insert (by decide), sep_insert (by decide), bigSep_singleton]

/-- Slots by their kinds. -/
theorem slots (Φ : Slot → sProp 𝕄) : bigSep Finset.univ Φ
    = iprop((((bigSep Finset.univ fun i => Φ (kb i)) ∗ (bigSep Finset.univ fun i => Φ (ky i)))
        ∗ ((bigSep Finset.univ fun i => Φ (kq i)) ∗ (bigSep Finset.univ fun i => Φ (kr i))))
        ∗ ((bigSep Finset.univ fun d => Φ (ka d)) ∗ (bigSep Finset.univ fun d => Φ (ke d)))) := by
  rw [bigSep_univ_sum, bigSep_univ_sum, bigSep_univ_sum, bigSep_univ_sum, bigSep_univ_sum]
  rfl

end Cert.KernelIdeal.A2a

end
-- ==== Proof.A2a.Prologue.lean ====
/-
  The first part of the exchange kernel: it tells every other device that it has begun, giving each its places for what that one will send, waits for the others' word, and puts its own maxima into the table.
-/
module

public import proofs.«01_k».proof.Proof.A2a.Pieces

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (Y : Fin 4 → Vec F S4096x2048 .f32) (M : Fin 4 → Vec F S8x128 .f32) (K : GSem nD τ sig → ℕ)

/-! ## What a device starts with, slot by slot, besides its buffers -/

def tB (c : Dev nD) (i : Fin 16) : sProp 𝕄 :=
  iprop(dutyTok ER (copyCell c i) 0 0 ∗ atPos ER (copyCell c i) 0 ∅ 0 ∗ dutyTok ER (wrCell c i) 0 0 ∗ atPos ER (wrCell c i) 0 ∅ 0)
def tQ (c : Dev nD) (i : Fin 16) : sProp 𝕄 :=
  if 4 ≤ i.val then iprop(dutyTok ER (dsCell c i) 0 0 ∗ dutyTok ER (drCell (c + dOf i) i) 0 0 ∗ atPos ER (dsCell c i) 0 ∅ 0)
  else atPos ER (dsCell c i) 0 ∅ 0
def tR (c : Dev nD) (i : Fin 16) : sProp 𝕄 :=
  if 4 ≤ i.val then iprop(cred (tallyAt (drCell c i) () NQ) ∗ atPos ER (drCell c i) 0 ∅ 0) else atPos ER (drCell c i) 0 ∅ 0
def tA (c : Dev nD) (d : Fin 4) : sProp 𝕄 :=
  if d ≠ 0 then iprop(dutyTok ER (asCell c d) 0 0 ∗ dutyTok ER (arCell (c + d) d) 0 0 ∗ atPos ER (asCell c d) 0 ∅ 0)
  else atPos ER (asCell c d) 0 ∅ 0
def tE (c : Dev nD) (d : Fin 4) : sProp 𝕄 :=
  if d ≠ 0 then iprop(cred (tallyAt (arCell c d) () NA) ∗ atPos ER (arCell c d) 0 ∅ 0) else atPos ER (arCell c d) 0 ∅ 0

/-- The places on device `c` that the device `e` to the left writes. -/
def lends (c : Dev nD) (e : Fin 4) : sProp 𝕄 :=
  iprop((∃ f, aPt (F := F) c e fullShare f) ∗ bigSep Finset.univ fun i : Fin 16 => if dOf i = e then iprop(∃ f, rPt (F := F) c i f) else iprop(emp))

theorem no_more (P : sProp 𝕄) : iprop(emp ∗ P) = P := equiv_iff.mp emp_sep
theorem dr_ge : ∀ i : Fin 16, 7 ≤ (drS i).val := by decide
theorem ar_ge : ∀ d : Fin 4, 7 ≤ (arS d).val := by decide

theorem lends_pay (c p : Dev nD) (e : Fin 4) (h : p + e = c) : iprop(known Y M K c ∗ lends (F := F) c e) ⊢ barPay (F := F) p e := by
  subst h
  unfold lends barPay
  iintro ⟨#Hk, Ha, Hr⟩
  isplitl [Ha]
  · isplitl [Ha]; · iexact Ha
    iapply (known_reached Y M K (p + e) (arS e) (ar_ge e)) $$ Hk
  iapply (bigSep_with_persistent (S := Finset.univ) (R := known Y M K (p + e))
    (Φ := fun i : Fin 16 => if dOf i = e then iprop(∃ f, rPt (F := F) (p + e) i f) else iprop(emp))
    (Ψ := fun i : Fin 16 => if dOf i = e then iprop((∃ f, rPt (F := F) (p + e) i f) ∗ reached ER (drCell (p + e) i) 0) else iprop(emp)) ?_) $$ [Hr]
  · intro i _
    split
    · iintro ⟨#Hk, Hr⟩
      isplitl [Hr]; · iexact Hr
      iapply (known_reached Y M K (p + e) (drS i) (dr_ge i)) $$ Hk
    · iintro ⟨-, Hr⟩
      iexact Hr
  isplitr [Hr]; · iexact Hk
  iexact Hr

/-- Telling device `p` that device `c`, `e` to its right, has begun. -/
theorem signal_bar (c p : Dev nD) (e : Fin 4) (he : e ∈ ({1, 2, 3} : Finset (Fin 4))) (h : p + e = c)
    (O : CellTallies nD τ sig Unit) (W : Waits sig Unit) {α : Type} {k : PUnit → Prog (TpuEff nD τ sig (Elt F) Λ₀ .tc) α} {Kt : α → sProp 𝕄} :
    iprop(known Y M K c ∗ reached ER (barCell p) 0 ∗ lends (F := F) c e ∗ dutyTok ER (barCell p) 0 e ∗ owes (c : Thread nD τ) (O + cBar p) W)
      ⊢ iprop((owes (c : Thread nD τ) O W -∗ run c (k ⟨⟩) Kt) -∗ run c (.op (.semSignal (p : Thread nD τ) barS ((1 : ℕ) : ℤ)) k) Kt) := by
  iintro ⟨#Hk, #Hr, Hg, Ht, HO⟩
  iapply (Rounds.wp_signal 𝒱₀ ER (sched Y M) (c : Thread nD τ) none (dst := (p : Thread nD τ)) (sem := barS) (r := 0) (d := e) (κ := K (barCell p))
    (by rw [sched_duties]; exact he) rfl () O rfl) $$ [Hg Ht HO]
  isplitr; · iapply (known_bar Y M K c p) $$ Hk
  isplitl [HO]; · iexact HO
  isplitl [Ht]; · iexact Ht
  isplitl [Hg]
  · iapply ((lends_pay Y M K c p e h).trans (Entails.of_eq (by rw [sched_payload, role_bar]; rfl)))
    isplitr; · iexact Hk
    iexact Hg
  iexact Hr

/-- Waiting for the other devices' word. -/
theorem wait_bar (c : Dev nD) (s : State) (W : Waits sig Unit)
    (hs : (∀ i : Fin 16, 4 ≤ i.val → s (kq i) ≤ 1 → (1 : ℕ) < 3) ∧ (∀ d : Fin 4, d ≠ 0 → s (ka d) = 0 → (1 : ℕ) < 2))
    {α : Type} {k : PUnit → Prog (TpuEff nD τ sig (Elt F) Λ₀ .tc) α} {Kt : α → sProp 𝕄} :
    iprop(known Y M K c ∗ cred (tallyAt (barCell c) () 3) ∗ atPos ER (barCell c) 0 ∅ 0 ∗ owes (c : Thread nD τ) (owed c s) W)
      ⊢ iprop(((∃ W, owes (c : Thread nD τ) (owed c s) W) ∗ atPos ER (barCell c) 1 ∅ 0 ∗ (barPay (F := F) c 1 ∗ barPay (F := F) c 2 ∗ barPay (F := F) c 3) -∗ run c (k ⟨⟩) Kt)
        -∗ run c (.op (.semWait barS 3) k) Kt) := by
  iintro ⟨#Hk, Hc, Ha, HO⟩ Hcont
  iapply (Rounds.wp_wait_rest_token 𝒱₀ ER (sched Y M) (c : Thread nD τ) none (κ := K (barCell c))
      (wpE_semWait_eq 𝒱₀ (c : Thread nD τ) none Set.univ) (Set.mem_univ _) () (O := owed c s) (W := W) (R := 0) (m := 0) (T := ∅)
      ((Nat.zero_add _).trans (sched_expect_bar Y M c).symm)) $$ [Hc HO Ha]
  · isplitr; · iapply (known_bar Y M K c c) $$ Hk
    isplitl [Hc]; · iexact Hc
    isplitl [HO]; · iexact HO
    isplitr
    · iapply (mayWait c s (.reg barS) hs)
      iapply (known_lev Y M K c) $$ Hk
    iexact Ha
  iintro ⟨HO, Ha, -, Hp⟩
  ihave Hp := (Entails.of_eq ((sched_rest_bar Y M c).trans (three _))) $$ Hp
  iapply Hcont
  isplitl [HO]; · iexists _; iexact HO
  isplitl [Ha]; · iexact Ha
  iexact Hp

/-- The pieces to send, quantised rows and maxima, from what the others gave. -/
theorem from_pays (c : Dev nD) : iprop(barPay (F := F) c 1 ∗ barPay (F := F) c 2 ∗ barPay (F := F) c 3)
    ⊢ iprop((bigSep ({1, 2, 3} : Finset (Fin 4)) fun d => iprop((∃ f, aPt (F := F) (c + d) d fullShare f) ∗ reached ER (arCell (c + d) d) 0))
      ∗ bigSep Finset.univ fun i : Fin 16 => if 4 ≤ i.val then iprop((∃ f, rPt (F := F) (c + dOf i) i f) ∗ reached ER (drCell (c + dOf i) i) 0) else iprop(emp)) := by
  rw [three, by_distance]
  have e : ∀ d : Fin 4, (fun i : Fin 16 => if dOf i = d then iprop((∃ f, rPt (F := F) (c + dOf i) i f) ∗ reached ER (drCell (c + dOf i) i) 0) else iprop(emp))
      = fun i : Fin 16 => if dOf i = d then iprop((∃ f, rPt (F := F) (c + d) i f) ∗ reached ER (drCell (c + d) i) 0) else iprop(emp) := by
    intro d
    funext i
    split
    · next h => rw [h]
    · rfl
  rw [e 1, e 2, e 3]
  unfold barPay
  iintro ⟨⟨A1, R1⟩, ⟨A2, R2⟩, A3, R3⟩
  isplitl [A1 A2 A3]
  · isplitl [A1]; · iexact A1
    isplitl [A2]; · iexact A2
    iexact A3
  isplitl [R1]; · iexact R1
  isplitl [R2]; · iexact R2
  iexact R3

theorem to_lends (c : Dev nD) : iprop((∃ f, aPt (F := F) c 1 fullShare f) ∗ (∃ f, aPt (F := F) c 2 fullShare f) ∗ (∃ f, aPt (F := F) c 3 fullShare f)
      ∗ bigSep Finset.univ fun i : Fin 16 => if 4 ≤ i.val then iprop(∃ f, rPt (F := F) c i f) else iprop(emp))
    ⊢ iprop(lends (F := F) c 1 ∗ lends (F := F) c 2 ∗ lends (F := F) c 3) := by
  rw [by_distance]
  unfold lends
  iintro ⟨A1, A2, A3, R1, R2, R3⟩
  isplitl [A1 R1]
  · isplitl [A1]; · iexact A1
    iexact R1
  isplitl [A2 R2]
  · isplitl [A2]; · iexact A2
    iexact R2
  isplitl [A3]; · iexact A3
  iexact R3

/-! ## The slots at the start -/

theorem start_b (c : Dev nD) : iprop((bigSep Finset.univ fun i => iprop(∃ f, bPt (F := F) c i f)) ∗ bigSep Finset.univ (tB (F := F) c))
    ⊢ bigSep Finset.univ fun i => resB Y M c i 0 := by
  rw [← bigSep_sep']
  refine bigSep_mono fun i _ => ?_
  unfold tB resB
  exact Entails.refl _
theorem start_q (c : Dev nD) : iprop((bigSep Finset.univ fun i : Fin 16 => if 4 ≤ i.val then iprop(∃ f, qPt (F := F) c i f) else iprop(emp))
      ∗ (bigSep Finset.univ fun i : Fin 16 => if 4 ≤ i.val then iprop((∃ f, rPt (F := F) (c + dOf i) i f) ∗ reached ER (drCell (c + dOf i) i) 0) else iprop(emp))
      ∗ bigSep Finset.univ (tQ (F := F) c))
    ⊢ bigSep Finset.univ fun i => resQ Y M c i 0 := by
  rw [← bigSep_sep', ← bigSep_sep']
  refine bigSep_mono fun i _ => ?_
  unfold tQ resQ
  split
  · exact Entails.refl _
  · exact Entails.of_eq ((no_more _).trans (no_more _))
theorem start_r (c : Dev nD) : (bigSep Finset.univ (tR (F := F) c) : sProp 𝕄) ⊢ bigSep Finset.univ fun i => resR Y M c i 0 := by
  refine bigSep_mono fun i _ => ?_
  unfold tR resR
  exact Entails.refl _
theorem start_a (c : Dev nD) : iprop((bigSep (Finset.univ.erase (0 : Fin 4)) fun d => aPt c 0 (quarter d) (tabA M c))
      ∗ (bigSep ({1, 2, 3} : Finset (Fin 4)) fun d => iprop((∃ f, aPt (F := F) (c + d) d fullShare f) ∗ reached ER (arCell (c + d) d) 0))
      ∗ bigSep Finset.univ (tA (F := F) c))
    ⊢ bigSep Finset.univ fun d => resA M c d 0 := by
  rw [show (Finset.univ.erase (0 : Fin 4)) = ({1, 2, 3} : Finset (Fin 4)) from by decide, three, three, four, four]
  unfold tA resA
  simp only [if_neg (by decide : ¬ (0 : Fin 4) ≠ 0), if_pos (by decide : (1 : Fin 4) ≠ 0), if_pos (by decide : (2 : Fin 4) ≠ 0), if_pos (by decide : (3 : Fin 4) ≠ 0)]
  iintro ⟨⟨Q1, Q2, Q3⟩, ⟨A1, A2, A3⟩, T0, T1, T2, T3⟩
  isplitl [T0]; · iexact T0
  isplitl [Q1 A1 T1]
  · isplitl [Q1]; · iexact Q1
    isplitl [A1]; · iexact A1
    iexact T1
  isplitl [Q2 A2 T2]
  · isplitl [Q2]; · iexact Q2
    isplitl [A2]; · iexact A2
    iexact T2
  isplitl [Q3]; · iexact Q3
  isplitl [A3]; · iexact A3
  iexact T3
theorem start_e (c : Dev nD) : iprop(aPt c 0 (quarter 0) (tabA M c) ∗ bigSep Finset.univ (tE (F := F) c)) ⊢ bigSep Finset.univ fun d => resE M c d 0 := by
  rw [four, four]
  unfold tE resE
  simp only [if_neg (by decide : ¬ (0 : Fin 4) ≠ 0), if_pos (by decide : (1 : Fin 4) ≠ 0), if_pos (by decide : (2 : Fin 4) ≠ 0), if_pos (by decide : (3 : Fin 4) ≠ 0)]
  iintro ⟨Q0, T0, T1, T2, T3⟩
  isplitl [Q0 T0]
  · isplitl [Q0]; · iexact Q0
    iexact T0
  isplitl [T1]; · iexact T1
  isplitl [T2]; · iexact T2
  iexact T3

/-- What a device holds besides its buffers when it enters the exchange. -/
def ghosts (c : Dev nD) : sProp 𝕄 :=
  iprop(bigSep Finset.univ (tB (F := F) c) ∗ bigSep Finset.univ (tQ (F := F) c) ∗ bigSep Finset.univ (tR (F := F) c)
    ∗ bigSep Finset.univ (tA (F := F) c) ∗ bigSep Finset.univ (tE (F := F) c))
/-- Its part of the barrier. -/
def barrier (c : Dev nD) : sProp 𝕄 :=
  iprop((bigSep Finset.univ fun p : Dev nD => reached ER (barCell p) 0)
    ∗ dutyTok ER (barCell (c + 1)) 0 3 ∗ dutyTok ER (barCell (c + 2)) 0 2 ∗ dutyTok ER (barCell (c + 3)) 0 1
    ∗ atPos ER (barCell c) 0 ∅ 0 ∗ cred (tallyAt (barCell c) () 3))
/-- The buffers: the bounce, send and receive buffers and the table at any contents, the rows as given. -/
def buffers (c : Dev nD) : sProp 𝕄 :=
  iprop((∃ f : Vec F S4x1024x2048 .f32, bufB.view.loc (c : Thread nD τ) ↦[Finset.univ]{fullShare} f)
    ∗ (∃ f : Vec F S3x1024x2048 .i8, bufQ.view.loc (c : Thread nD τ) ↦[Finset.univ]{fullShare} f)
    ∗ (∃ f : Vec F S3x1024x2048 .i8, bufR.view.loc (c : Thread nD τ) ↦[Finset.univ]{fullShare} f)
    ∗ (∃ f : Vec F S4x8x128 .f32, bufA.view.loc (c : Thread nD τ) ↦[Finset.univ]{fullShare} f)
    ∗ bufY.view.loc (c : Thread nD τ) ↦[Finset.univ]{fullShare} Y c)
/-- The slot of the device's own maxima. -/
abbrev stg : Memref sig .tc .vmem S8x128 .f32 := Memref.whole cc1_stg0_0
def stage (c : Dev nD) : sProp 𝕄 := stg.view.loc (c : Thread nD τ) ↦[Finset.univ]{fullShare} M c
def owed0 (c : Dev nD) : CellTallies nD τ sig Unit := owed c (tab 0 0 0 0 0 0) + cBar (c + 3) + cBar (c + 2) + cBar (c + 1)

theorem free_b (c : Dev nD) (f : Vec F S4x1024x2048 .f32) :
    (bigSep Finset.univ fun i => bPt c i f : sProp 𝕄) ⊢ bigSep Finset.univ fun i => iprop(∃ f, bPt (F := F) c i f) :=
  bigSep_mono fun i _ => by
    show (bPt c i f : sProp 𝕄) ⊢ iprop(∃ f, bPt (F := F) c i f)
    iintro H; iexists f; iexact H
theorem free_q (c : Dev nD) (f : Vec F S3x1024x2048 .i8) :
    (bigSep Finset.univ fun i : Fin 16 => if 4 ≤ i.val then qPt c i f else iprop(emp) : sProp 𝕄)
      ⊢ bigSep Finset.univ fun i : Fin 16 => if 4 ≤ i.val then iprop(∃ f, qPt (F := F) c i f) else iprop(emp) := by
  refine bigSep_mono fun i _ => ?_
  split
  · show (qPt c i f : sProp 𝕄) ⊢ iprop(∃ f, qPt (F := F) c i f)
    iintro H; iexists f; iexact H
  · exact Entails.refl _
theorem free_r (c : Dev nD) (f : Vec F S3x1024x2048 .i8) :
    (bigSep Finset.univ fun i : Fin 16 => if 4 ≤ i.val then rPt c i f else iprop(emp) : sProp 𝕄)
      ⊢ bigSep Finset.univ fun i : Fin 16 => if 4 ≤ i.val then iprop(∃ f, rPt (F := F) c i f) else iprop(emp) := by
  refine bigSep_mono fun i _ => ?_
  split
  · show (rPt c i f : sProp 𝕄) ⊢ iprop(∃ f, rPt (F := F) c i f)
    iintro H; iexists f; iexact H
  · exact Entails.refl _

theorem start_bufs (c : Dev nD) : buffers Y c
    ⊢ iprop((bigSep Finset.univ fun i => iprop(∃ f, bPt (F := F) c i f))
      ∗ (bigSep Finset.univ fun i : Fin 16 => if 4 ≤ i.val then iprop(∃ f, qPt (F := F) c i f) else iprop(emp))
      ∗ (lends (F := F) c 1 ∗ lends (F := F) c 2 ∗ lends (F := F) c 3)
      ∗ (∃ f, aPt (F := F) c 0 fullShare f)
      ∗ bigSep Finset.univ fun j => resY Y M c j 0) := by
  unfold buffers
  iintro ⟨⟨%fb, B⟩, ⟨%fq, Q⟩, ⟨%fr, R⟩, ⟨%fa, A⟩, HY⟩
  ihave B := (Entails.of_eq (bWhole c fb)) $$ B
  ihave Q := (Entails.of_eq (qWhole c fq)) $$ Q
  ihave R := (Entails.of_eq (rWhole c fr)) $$ R
  ihave A := (Entails.of_eq ((aWhole c fullShare fa).trans (four _))) $$ A
  ihave HY := (Entails.of_eq (yWhole c (Y c))) $$ HY
  icases A with ⟨A0, A1, A2, A3⟩
  isplitl [B]
  · iapply (free_b c fb) $$ B
  isplitl [Q]
  · iapply (free_q c fq) $$ Q
  isplitl [R A1 A2 A3]
  · iapply (to_lends c)
    isplitl [A1]; · iexists fa; iexact A1
    isplitl [A2]; · iexists fa; iexact A2
    isplitl [A3]; · iexists fa; iexact A3
    iapply (free_r c fr) $$ R
  isplitl [A0]; · iexists fa; iexact A0
  iexact HY

/-! ## The run of the first part -/

theorem aAcc_set : (bufA.access (aRect 0)).set = (aV 0).view.set := (View.set_reshape _ _).symm

theorem exTab3 (y : S1x8x128.Idx) : ∃ (r : Fin 8) (l : Fin 128), y = ix3 (0 : Fin 1) r l := by
  refine ⟨y 1, y 2, (eq_ix3 y).trans ?_⟩
  congr 1
  exact Fin.ext (by have : (y 0 : ℕ) < 1 := (y 0).isLt; show (y 0 : ℕ) = 0; omega)

theorem table_at (c : Fin 4) (x : S1x8x128.Idx) :
    (bufA.access (aRect 0)).read (Elt F) (tabA M c) x = k1_pay1 (M c) x := by
  obtain ⟨r, l, rfl⟩ := exTab3 x
  unfold k1_pay1
  rw [shapeCast_ab_1ab_apply _ _ (0 : Fin 1) r l, shapeCast_self]
  refine Eq.trans ?_ (tabA_own M c r l)
  rw [aV_emb]
  show tabA M c ((aRect 0).emb (ix3 (0 : Fin 1) r l)) = _
  congr 1
  funext a
  apply Fin.ext
  rw [Rect.emb_apply]
  match a with
  | ⟨0, _⟩ => rfl
  | ⟨1, _⟩ => show 0 + 1 * r.val = r.val; rw [Nat.one_mul, Nat.zero_add]
  | ⟨2, _⟩ => show 0 + 1 * l.val = l.val; rw [Nat.one_mul, Nat.zero_add]

/-- What the first part leaves beside the slots. -/
def beside (c : Dev nD) : sProp 𝕄 := iprop(stage M c ∗ atPos ER (barCell c) 1 ∅ 0)

theorem start_held (c : Dev nD) :
    iprop((bigSep Finset.univ fun i => iprop(∃ f, bPt (F := F) c i f))
      ∗ (bigSep Finset.univ fun i : Fin 16 => if 4 ≤ i.val then iprop(∃ f, qPt (F := F) c i f) else iprop(emp))
      ∗ (bigSep Finset.univ fun j => resY Y M c j 0)
      ∗ (barPay (F := F) c 1 ∗ barPay (F := F) c 2 ∗ barPay (F := F) c 3)
      ∗ aPt c 0 fullShare (tabA M c) ∗ ghosts c)
    ⊢ bigSep Finset.univ fun k => res Y M c k (tab 0 0 0 0 0 0 k) := by
  have h : (fun k => res Y M c k (tab 0 0 0 0 0 0 k)) = fun k => res Y M c k 0 := by
    funext k
    congr 1
    rcases k with ((i | i) | (i | i)) | (d | d) <;> exact (congrArg (· % 10) (Nat.zero_div _)).trans (Nat.zero_mod _)
  rw [h, slots, aPt_quarter]
  unfold ghosts
  iintro ⟨B, Q, HY, P, ⟨A0, A⟩, TB, TQ, TR, TA, TE⟩
  ihave P := (from_pays c) $$ P
  icases P with ⟨PA, PQ⟩
  isplitl [B Q HY PQ TB TQ TR]
  · isplitl [B HY TB]
    · isplitl [B TB]
      · iapply (start_b Y M c)
        isplitl [B]; · iexact B
        iexact TB
      iexact HY
    isplitl [Q PQ TQ]
    · iapply (start_q Y M c)
      isplitl [Q]; · iexact Q
      isplitl [PQ]; · iexact PQ
      iexact TQ
    iapply (start_r Y M c) $$ TR
  isplitl [A PA TA]
  · iapply (start_a M c)
    isplitl [A]; · iexact A
    isplitl [PA]; · iexact PA
    iexact TA
  iapply (start_e M c)
  isplitl [A0]; · iexact A0
  iexact TE

theorem peer_three (c : Dev nD) : (c + 1) + 3 = c := by revert c; decide
theorem peer_two (c : Dev nD) : (c + 2) + 2 = c := by revert c; decide
theorem peer_one (c : Dev nD) : (c + 3) + 1 = c := by revert c; decide

theorem part1 (c : Dev nD) (Fr : sProp 𝕄) {Kt : (Σ' (d0 : Dev nD) (v2 : BitVec 32) (v22 : BitVec 32), BitVec 32) → sProp 𝕄}
    (h : ∀ (u0 u1 u2 : BitVec 32), At Y M K c (tab 0 0 0 0 0 0) iprop(beside M c ∗ Fr) ⊢ Kt ⟨c, u0, u1, u2⟩) :
    iprop(known Y M K c ∗ buffers Y c ∗ ghosts c ∗ barrier c ∗ (∃ W, owes (c : Thread nD τ) (owed0 c) W) ∗ stage M c ∗ Fr)
      ⊢ run c (k1_part1 bufY (Memref.isWhole_whole _) stg (Memref.isWhole_whole _) bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9) Kt := by
  rw [k1_part1_eq_skeleton]
  unfold k1_part1_skel semSignalWord semWaitWord
  simp only [Prog.lift, Prog.bind_op, Prog.bind_ret, Prog.pure_eq_ret, Prog.bind_assoc]
  unfold run
  rw [wp_deviceId]
  dsimp only
  rw [dev_at c 1 _ (k1_dev1_eq c) _, dev_at c 2 _ (k1_dev2_eq c) _, dev_at c 3 _ (k1_dev3_eq c) _,
    show (1#32 : BitVec 32).toInt = ((1 : ℕ) : ℤ) from by decide, show (3#32 : BitVec 32).toInt = ((3 : ℕ) : ℤ) from by decide]
  unfold barrier owed0
  iintro ⟨#Hk, Hbufs, Hg, ⟨#Hr, T1, T2, T3, HatB, HcB⟩, ⟨%W, HO⟩, Hst, HFr⟩
  ihave Hbufs := (start_bufs Y M c) $$ Hbufs
  icases Hbufs with ⟨B, Q, ⟨L1, L2, L3⟩, ⟨%fa, A⟩, HY⟩
  iapply (signal_bar Y M K c (c + 1) 3 (by decide) (peer_three c) (owed c (tab 0 0 0 0 0 0) + cBar (c + 3) + cBar (c + 2)) W) $$ [L3 T1 HO]
  · isplitr; · iexact Hk
    isplitr; · iapply (pick (F := F) (fun p : Dev nD => reached ER (barCell p) 0) (c + 1)) $$ Hr
    isplitl [L3]; · iexact L3
    isplitl [T1]; · iexact T1
    iexact HO
  iintro HO
  iapply (signal_bar Y M K c (c + 2) 2 (by decide) (peer_two c) (owed c (tab 0 0 0 0 0 0) + cBar (c + 3)) W) $$ [L2 T2 HO]
  · isplitr; · iexact Hk
    isplitr; · iapply (pick (F := F) (fun p : Dev nD => reached ER (barCell p) 0) (c + 2)) $$ Hr
    isplitl [L2]; · iexact L2
    isplitl [T2]; · iexact T2
    iexact HO
  iintro HO
  iapply (signal_bar Y M K c (c + 3) 1 (by decide) (peer_one c) (owed c (tab 0 0 0 0 0 0)) W) $$ [L1 T3 HO]
  · isplitr; · iexact Hk
    isplitr; · iapply (pick (F := F) (fun p : Dev nD => reached ER (barCell p) 0) (c + 3)) $$ Hr
    isplitl [L1]; · iexact L1
    isplitl [T3]; · iexact T3
    iexact HO
  iintro HO
  iapply (wait_bar Y M K c (tab 0 0 0 0 0 0) W ⟨fun _ _ _ => (by decide), fun _ _ _ => (by decide)⟩) $$ [HcB HatB HO]
  · isplitr; · iexact Hk
    isplitl [HcB]; · iexact HcB
    isplitl [HatB]; · iexact HatB
    iexact HO
  iintro ⟨HO, HatB, P⟩
  unfold stage
  iapply (wp_load_rect 𝒱₀ (c : Thread nD τ) none Set.univ (m := stg) (r := Rect.unit (s := S8x128) ![0, 0] S8x128.size inb_S8x128_S8x128_0_0) (f := M c)
    (S := Finset.univ) (q := fullShare) (Finset.subset_univ _)) $$ [Hst]
  · iexact Hst
  have hv : (stg.access (Rect.unit (s := S8x128) ![0, 0] S8x128.size inb_S8x128_S8x128_0_0)).read (Elt F) (M c) = M c := by
    funext y
    show M c ((Rect.unit (s := S8x128) ![0, 0] S8x128.size inb_S8x128_S8x128_0_0).emb y) = _
    congr 1
    funext a
    refine Fin.ext ?_
    rw [Rect.emb_apply]
    show (![0, 0] : Fin 2 → ℕ) a + 1 * (y a : ℕ) = y a
    rw [Nat.one_mul, show (![0, 0] : Fin 2 → ℕ) a = 0 from by revert a; decide, Nat.zero_add]
  rw [hv]
  iintro Hst
  iapply (wp_load_rect 𝒱₀ (c : Thread nD τ) none Set.univ (m := bufA) (r := aRect 0) (f := fa) (S := (aV 0).view.set) (q := fullShare) aAcc_set.le) $$ [A]
  · iexact A
  iintro A
  iapply (wp_store 𝒱₀ (c : Thread nD τ) none Set.univ (m := bufA) (r := aRect 0) (w := k1_pay1 (M c)) (Mk := Finset.univ) (f := fa) (S := (aV 0).view.set) aAcc_set.le) $$ [A]
  · iexact A
  iintro A
  ihave A := (Entails.of_eq (pointsTo_congr (ℓ := (aV 0).view.loc (c : Thread nD τ)) (I := (aV 0).view.set) (q := fullShare)
    (f := (bufA.access (aRect 0)).write (Elt F) fa (k1_pay1 (M c)) Finset.univ) (g := tabA M c)
    (fun j hj => write_agree (bufA.access (aRect 0)) fa (tabA M c) (k1_pay1 (M c)) (table_at M c) j (aAcc_set.symm ▸ hj)))) $$ A
  rw [wp_ret]
  imodintro
  iapply (h _ _ _)
  unfold At held beside stage
  isplitr; · iexact Hk
  isplitr [Hst HatB HFr]
  · isplitr [HO]
    · iapply (start_held Y M c)
      isplitl [B]; · iexact B
      isplitl [Q]; · iexact Q
      isplitl [HY]; · iexact HY
      isplitl [P]; · iexact P
      isplitl [A]; · iexact A
      iexact Hg
    iexact HO
  isplitr [HFr]
  · isplitl [Hst]; · iexact Hst
    iexact HatB
  iexact HFr

end Cert.KernelIdeal.A2a

end
-- ==== Proof.A2a.PartsA.lean ====
/-
  The parts of the exchange kernel's body, sending the maxima and reading the rows: each takes the device from one state to the next.
-/
module

public import proofs.«01_k».proof.Proof.A2a.States

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (Y : Fin 4 → Vec F S4096x2048 .f32) (M : Fin 4 → Vec F S8x128 .f32) (K : GSem nD τ sig → ℕ)
variable (arg1 : Memref sig .tc .vmem S8x128 .f32) (harg1 : arg1.IsWhole)

theorem part2 (c : Dev nD) (v2 : BitVec 32) (v22 : BitVec 32) (c1_i32_23 : BitVec 32) (Fr : sProp 𝕄) {Kt : (Σ' (v34 : BitVec 32), BitVec 32) → sProp 𝕄}
    (h : ∀ (u0 : BitVec 32) (u1 : BitVec 32), At Y M K c (tab 0 0 0 0 110 0) Fr ⊢ Kt ⟨u0, u1⟩) :
    At Y M K c (tab 0 0 0 0 0 0) Fr ⊢ run c (k1_part2 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c v2 v22 c1_i32_23) Kt := by
  rw [k1_part2_eq_skeleton]
  unfold k1_part2_skel
  simp only [Prog.lift, Prog.bind_op, Prog.bind_ret, Prog.pure_eq_ret, Prog.bind_assoc]
  refine step_aSend Y M K c 1 (by decide) (tab 0 0 0 0 0 0) (tab 0 0 0 0 10 0) Fr (dev_at c 1 _ (k1_dev4_eq c) _) rfl rfl rfl rfl rfl rfl (by decide +kernel) ?_
  refine step_aSend Y M K c 2 (by decide) (tab 0 0 0 0 10 0) (tab 0 0 0 0 110 0) Fr (dev_at c 2 _ (k1_dev5_eq c) _) rfl rfl rfl rfl rfl rfl (by decide +kernel) ?_
  exact step_ret c (h _ _)

theorem part3 (c : Dev nD) (v2 : BitVec 32) (Fr : sProp 𝕄) {Kt : (BitVec 32) → sProp 𝕄}
    (h : ∀ (u0 : BitVec 32), At Y M K c (tab 1110000 1110000 0 0 1110 0) Fr ⊢ Kt (u0)) :
    At Y M K c (tab 0 0 0 0 110 0) Fr ⊢ run c (k1_part3 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c v2) Kt := by
  rw [k1_part3_eq_skeleton]
  unfold k1_part3_skel
  simp only [Prog.lift, Prog.bind_op, Prog.bind_ret, Prog.pure_eq_ret, Prog.bind_assoc]
  refine step_aSend Y M K c 3 (by decide) (tab 0 0 0 0 110 0) (tab 0 0 0 0 1110 0) Fr (dev_at c 3 _ (k1_dev6_eq c) _) rfl rfl rfl rfl rfl rfl (by decide +kernel) ?_
  refine step_read Y M K c 4 (tab 0 0 0 0 1110 0) (tab 10000 10000 0 0 1110 0) Fr (ySlice_eq c 4 _ (off1_at c 1 0 4 rfl rfl) _) rfl rfl rfl rfl rfl rfl (by decide +kernel) ?_
  refine step_read Y M K c 5 (tab 10000 10000 0 0 1110 0) (tab 110000 110000 0 0 1110 0) Fr (ySlice_eq c 5 _ (off1_at c 1 1 5 rfl rfl) _) rfl rfl rfl rfl rfl rfl (by decide +kernel) ?_
  refine step_read Y M K c 6 (tab 110000 110000 0 0 1110 0) (tab 1110000 1110000 0 0 1110 0) Fr (ySlice_eq c 6 _ (off1_at c 1 2 6 rfl rfl) _) rfl rfl rfl rfl rfl rfl (by decide +kernel) ?_
  exact step_ret c (h _)

theorem part4 (c : Dev nD) (v2 : BitVec 32) (v80 : BitVec 32) (Fr : sProp 𝕄) {Kt : (BitVec 32) → sProp 𝕄}
    (h : ∀ (u0 : BitVec 32), At Y M K c (tab 1111110000 1111110000 0 0 1110 0) Fr ⊢ Kt (u0)) :
    At Y M K c (tab 1110000 1110000 0 0 1110 0) Fr ⊢ run c (k1_part4 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c v2 v80) Kt := by
  rw [k1_part4_eq_skeleton]
  unfold k1_part4_skel
  simp only [Prog.lift, Prog.bind_op, Prog.bind_ret, Prog.pure_eq_ret, Prog.bind_assoc]
  refine step_read Y M K c 7 (tab 1110000 1110000 0 0 1110 0) (tab 11110000 11110000 0 0 1110 0) Fr (ySlice_eq c 7 _ (off1_at c 1 3 7 rfl rfl) _) rfl rfl rfl rfl rfl rfl (by decide +kernel) ?_
  refine step_read Y M K c 8 (tab 11110000 11110000 0 0 1110 0) (tab 111110000 111110000 0 0 1110 0) Fr (ySlice_eq c 8 _ (off1_at c 2 0 8 rfl rfl) _) rfl rfl rfl rfl rfl rfl (by decide +kernel) ?_
  refine step_read Y M K c 9 (tab 111110000 111110000 0 0 1110 0) (tab 1111110000 1111110000 0 0 1110 0) Fr (ySlice_eq c 9 _ (off1_at c 2 1 9 rfl rfl) _) rfl rfl rfl rfl rfl rfl (by decide +kernel) ?_
  exact step_ret c (h _)

theorem part5 (c : Dev nD) (v2 : BitVec 32) (v88 : BitVec 32) (Fr : sProp 𝕄) {Kt : (Σ' (v118 : BitVec 32), BitVec 32) → sProp 𝕄}
    (h : ∀ (u0 : BitVec 32) (u1 : BitVec 32), At Y M K c (tab 11111111110000 11111111110000 0 0 1110 0) Fr ⊢ Kt ⟨u0, u1⟩) :
    At Y M K c (tab 1111110000 1111110000 0 0 1110 0) Fr ⊢ run c (k1_part5 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c v2 v88) Kt := by
  rw [k1_part5_eq_skeleton]
  unfold k1_part5_skel
  simp only [Prog.lift, Prog.bind_op, Prog.bind_ret, Prog.pure_eq_ret, Prog.bind_assoc]
  refine step_read Y M K c 10 (tab 1111110000 1111110000 0 0 1110 0) (tab 11111110000 11111110000 0 0 1110 0) Fr (ySlice_eq c 10 _ (off1_at c 2 2 10 rfl rfl) _) rfl rfl rfl rfl rfl rfl (by decide +kernel) ?_
  refine step_read Y M K c 11 (tab 11111110000 11111110000 0 0 1110 0) (tab 111111110000 111111110000 0 0 1110 0) Fr (ySlice_eq c 11 _ (off1_at c 2 3 11 rfl rfl) _) rfl rfl rfl rfl rfl rfl (by decide +kernel) ?_
  refine step_read Y M K c 12 (tab 111111110000 111111110000 0 0 1110 0) (tab 1111111110000 1111111110000 0 0 1110 0) Fr (ySlice_eq c 12 _ (off1_at c 3 0 12 rfl rfl) _) rfl rfl rfl rfl rfl rfl (by decide +kernel) ?_
  refine step_read Y M K c 13 (tab 1111111110000 1111111110000 0 0 1110 0) (tab 11111111110000 11111111110000 0 0 1110 0) Fr (ySlice_eq c 13 _ (off1_at c 3 1 13 rfl rfl) _) rfl rfl rfl rfl rfl rfl (by decide +kernel) ?_
  exact step_ret c (h _ _)

theorem part6 (c : Dev nD) (v2 : BitVec 32) (v118 : BitVec 32) (v133 : BitVec 32) (Fr : sProp 𝕄) {Kt : (BitVec 32) → sProp 𝕄}
    (h : ∀ (u0 : BitVec 32), At Y M K c (tab 1111111111110001 1111111111110001 0 0 1110 0) Fr ⊢ Kt (u0)) :
    At Y M K c (tab 11111111110000 11111111110000 0 0 1110 0) Fr ⊢ run c (k1_part6 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c v2 v118 v133) Kt := by
  rw [k1_part6_eq_skeleton]
  unfold k1_part6_skel
  simp only [Prog.lift, Prog.bind_op, Prog.bind_ret, Prog.pure_eq_ret, Prog.bind_assoc]
  refine step_read Y M K c 14 (tab 11111111110000 11111111110000 0 0 1110 0) (tab 111111111110000 111111111110000 0 0 1110 0) Fr (ySlice_eq c 14 _ (off1_at c 3 2 14 rfl rfl) _) rfl rfl rfl rfl rfl rfl (by decide +kernel) ?_
  refine step_read Y M K c 15 (tab 111111111110000 111111111110000 0 0 1110 0) (tab 1111111111110000 1111111111110000 0 0 1110 0) Fr (ySlice_eq c 15 _ (off1_at c 3 3 15 rfl rfl) _) rfl rfl rfl rfl rfl rfl (by decide +kernel) ?_
  refine step_read Y M K c 0 (tab 1111111111110000 1111111111110000 0 0 1110 0) (tab 1111111111110001 1111111111110001 0 0 1110 0) Fr (ySlice_eq c 0 _ (off1_at c 0 0 0 rfl rfl) _) rfl rfl rfl rfl rfl rfl (by decide +kernel) ?_
  exact step_ret c (h _)

theorem part7 (c : Dev nD) (v22 : BitVec 32) (v148 : BitVec 32) (Fr : sProp 𝕄) {Kt : PUnit → sProp 𝕄}
    (h : At Y M K c (tab 1111111111111111 1111111111111111 0 0 1110 10) Fr ⊢ Kt ⟨⟩) :
    At Y M K c (tab 1111111111110001 1111111111110001 0 0 1110 0) Fr ⊢ run c (k1_part7 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c v22 v148) Kt := by
  rw [k1_part7_eq_skeleton]
  unfold k1_part7_skel
  simp only [Prog.lift, Prog.bind_op, Prog.bind_ret, Prog.pure_eq_ret, Prog.bind_assoc]
  refine step_read Y M K c 1 (tab 1111111111110001 1111111111110001 0 0 1110 0) (tab 1111111111110011 1111111111110011 0 0 1110 0) Fr (ySlice_eq c 1 _ (off1_at c 0 1 1 rfl rfl) _) rfl rfl rfl rfl rfl rfl (by decide +kernel) ?_
  refine step_read Y M K c 2 (tab 1111111111110011 1111111111110011 0 0 1110 0) (tab 1111111111110111 1111111111110111 0 0 1110 0) Fr (ySlice_eq c 2 _ (off1_at c 0 2 2 rfl rfl) _) rfl rfl rfl rfl rfl rfl (by decide +kernel) ?_
  refine step_read Y M K c 3 (tab 1111111111110111 1111111111110111 0 0 1110 0) (tab 1111111111111111 1111111111111111 0 0 1110 0) Fr (ySlice_eq c 3 _ (off1_at c 0 3 3 rfl rfl) _) rfl rfl rfl rfl rfl rfl (by decide +kernel) ?_
  refine step_arWait Y M K c 1 (by decide) (tab 1111111111111111 1111111111111111 0 0 1110 0) (tab 1111111111111111 1111111111111111 0 0 1110 10) Fr rfl rfl rfl (by decide +kernel) (by decide +kernel) (by rfl) ?_
  exact step_ret c (h)

theorem part8 (c : Dev nD) (v2 : BitVec 32) (v34 : BitVec 32) (v46 : BitVec 32) (Fr : sProp 𝕄) {Kt : (Σ' (v206 : F .f32), BitVec 32) → sProp 𝕄}
    (h : ∀ (u1 : BitVec 32), At Y M K c (tab 1111111111111111 1111111111111111 0 0 1110 1110) Fr ⊢ Kt ⟨k1_pay2 (tabA M c), u1⟩) :
    At Y M K c (tab 1111111111111111 1111111111111111 0 0 1110 10) Fr ⊢ run c (k1_part8 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 v2 v34 v46) Kt := by
  rw [k1_part8_eq_skeleton]
  unfold k1_part8_skel
  simp only [Prog.lift, Prog.bind_op, Prog.bind_ret, Prog.pure_eq_ret, Prog.bind_assoc]
  refine step_arWait Y M K c 2 (by decide) (tab 1111111111111111 1111111111111111 0 0 1110 10) (tab 1111111111111111 1111111111111111 0 0 1110 110) Fr rfl rfl rfl (by decide +kernel) (by decide +kernel) (by rfl) ?_
  refine step_arWait Y M K c 3 (by decide) (tab 1111111111111111 1111111111111111 0 0 1110 110) (tab 1111111111111111 1111111111111111 0 0 1110 1110) Fr rfl rfl rfl (by decide +kernel) (by decide +kernel) (by rfl) ?_
  refine step_aLoad Y M K c (tab 1111111111111111 1111111111111111 0 0 1110 1110) Fr rfl rfl rfl ?_
  exact step_ret c (h _)

end Cert.KernelIdeal.A2a

end
-- ==== Proof.A2a.PartsB.lean ====
/-
  The parts of the exchange kernel's body, quantising and sending: each takes the device from one state to the next.
-/
module

public import proofs.«01_k».proof.Proof.A2a.States

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (Y : Fin 4 → Vec F S4096x2048 .f32) (M : Fin 4 → Vec F S8x128 .f32) (K : GSem nD τ sig → ℕ)
variable (arg1 : Memref sig .tc .vmem S8x128 .f32) (harg1 : arg1.IsWhole)

theorem part9 (c : Dev nD) (v208 : BitVec 32) (Fr : sProp 𝕄) {Kt : PUnit → sProp 𝕄}
    (h : At Y M K c (tab 1111111111221111 1111111111221111 20000 0 1110 1110) Fr ⊢ Kt ⟨⟩) :
    At Y M K c (tab 1111111111111111 1111111111111111 0 0 1110 1110) Fr ⊢ run c (k1_part9 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v208) Kt := by
  rw [k1_part9_eq_skeleton]
  unfold k1_part9_skel
  simp only [Prog.lift, Prog.bind_op, Prog.bind_ret, Prog.pure_eq_ret, Prog.bind_assoc]
  refine step_copyWait Y M K c 4 (tab 1111111111111111 1111111111111111 0 0 1110 1110) (tab 1111111111121111 1111111111121111 0 0 1110 1110) Fr rfl rfl rfl rfl rfl (by decide +kernel) (by rfl) ?_
  refine step_bLoad Y M K c 4 (tab 1111111111121111 1111111111121111 0 0 1110 1110) Fr rfl rfl ?_
  refine step_qLoad Y M K c 4 (by decide) (tab 1111111111121111 1111111111121111 0 0 1110 1110) Fr rfl rfl fun _ => ?_
  refine step_qStore Y M K c 4 (by decide) (tab 1111111111121111 1111111111121111 0 0 1110 1110) (tab 1111111111121111 1111111111121111 10000 0 1110 1110) Fr rfl rfl rfl (by decide +kernel) (quant_at (scaleOf M c) (ldB (readB Y c) 4)) ?_
  refine step_qSend Y M K c 4 (by decide) (tab 1111111111121111 1111111111121111 10000 0 1110 1110) (tab 1111111111121111 1111111111121111 20000 0 1110 1110) Fr (dev_at c 1 _ (k1_dev7_eq c) _) rfl rfl rfl rfl rfl rfl (by decide +kernel) ?_
  refine step_copyWait Y M K c 5 (tab 1111111111121111 1111111111121111 20000 0 1110 1110) (tab 1111111111221111 1111111111221111 20000 0 1110 1110) Fr rfl rfl rfl rfl rfl (by decide +kernel) (by rfl) ?_
  exact step_ret c (h)

theorem part10 (c : Dev nD) (v208 : BitVec 32) (Fr : sProp 𝕄) {Kt : (Vec F S1x256x2048 .f32) → sProp 𝕄}
    (h : At Y M K c (tab 1111111112221111 1111111112221111 220000 0 1110 1110) Fr ⊢ Kt ((ldB (readB Y c) 6))) :
    At Y M K c (tab 1111111111221111 1111111111221111 20000 0 1110 1110) Fr ⊢ run c (k1_part10 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v208) Kt := by
  rw [k1_part10_eq_skeleton]
  unfold k1_part10_skel
  simp only [Prog.lift, Prog.bind_op, Prog.bind_ret, Prog.pure_eq_ret, Prog.bind_assoc]
  refine step_bLoad Y M K c 5 (tab 1111111111221111 1111111111221111 20000 0 1110 1110) Fr rfl rfl ?_
  refine step_qLoad Y M K c 5 (by decide) (tab 1111111111221111 1111111111221111 20000 0 1110 1110) Fr rfl rfl fun _ => ?_
  refine step_qStore Y M K c 5 (by decide) (tab 1111111111221111 1111111111221111 20000 0 1110 1110) (tab 1111111111221111 1111111111221111 120000 0 1110 1110) Fr rfl rfl rfl (by decide +kernel) (quant_at (scaleOf M c) (ldB (readB Y c) 5)) ?_
  refine step_qSend Y M K c 5 (by decide) (tab 1111111111221111 1111111111221111 120000 0 1110 1110) (tab 1111111111221111 1111111111221111 220000 0 1110 1110) Fr (dev_at c 1 _ (k1_dev8_eq c) _) rfl rfl rfl rfl rfl rfl (by decide +kernel) ?_
  refine step_copyWait Y M K c 6 (tab 1111111111221111 1111111111221111 220000 0 1110 1110) (tab 1111111112221111 1111111112221111 220000 0 1110 1110) Fr rfl rfl rfl rfl rfl (by decide +kernel) (by rfl) ?_
  refine step_bLoad Y M K c 6 (tab 1111111112221111 1111111112221111 220000 0 1110 1110) Fr rfl rfl ?_
  exact step_ret c (h)

theorem part11 (c : Dev nD) (v208 : BitVec 32) (Fr : sProp 𝕄) {Kt : (FVec F S256x2048 .f32) → sProp 𝕄}
    (h : At Y M K c (tab 1111111122221111 1111111122221111 2220000 0 1110 1110) Fr ⊢ Kt ((k1_pay6 (k1_pay2 (tabA M c)) (ldB (readB Y c) 7)))) :
    At Y M K c (tab 1111111112221111 1111111112221111 220000 0 1110 1110) Fr ⊢ run c (k1_part11 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v208 (ldB (readB Y c) 6)) Kt := by
  rw [k1_part11_eq_skeleton]
  unfold k1_part11_skel
  simp only [Prog.lift, Prog.bind_op, Prog.bind_ret, Prog.pure_eq_ret, Prog.bind_assoc]
  refine step_qLoad Y M K c 6 (by decide) (tab 1111111112221111 1111111112221111 220000 0 1110 1110) Fr rfl rfl fun _ => ?_
  refine step_qStore Y M K c 6 (by decide) (tab 1111111112221111 1111111112221111 220000 0 1110 1110) (tab 1111111112221111 1111111112221111 1220000 0 1110 1110) Fr rfl rfl rfl (by decide +kernel) (quant_at (scaleOf M c) (ldB (readB Y c) 6)) ?_
  refine step_qSend Y M K c 6 (by decide) (tab 1111111112221111 1111111112221111 1220000 0 1110 1110) (tab 1111111112221111 1111111112221111 2220000 0 1110 1110) Fr (dev_at c 1 _ (k1_dev9_eq c) _) rfl rfl rfl rfl rfl rfl (by decide +kernel) ?_
  refine step_copyWait Y M K c 7 (tab 1111111112221111 1111111112221111 2220000 0 1110 1110) (tab 1111111122221111 1111111122221111 2220000 0 1110 1110) Fr rfl rfl rfl rfl rfl (by decide +kernel) (by rfl) ?_
  refine step_bLoad Y M K c 7 (tab 1111111122221111 1111111122221111 2220000 0 1110 1110) Fr rfl rfl ?_
  exact step_ret c (h)

theorem part12 (c : Dev nD) (v2 : BitVec 32) (v208 : BitVec 32) (Fr : sProp 𝕄) {Kt : (Σ' (v322 : BitVec 32) (v329 : FVec F S256x2048 .f32), FVec F S256x2048 .f32) → sProp 𝕄}
    (h : ∀ (u0 : BitVec 32), At Y M K c (tab 1111111222221111 1111111222221111 22220000 0 1110 1110) Fr ⊢ Kt ⟨u0, k1_pay8 (ldB (readB Y c) 8), k1_pay9 (k1_pay2 (tabA M c))⟩) :
    At Y M K c (tab 1111111122221111 1111111122221111 2220000 0 1110 1110) Fr ⊢ run c (k1_part12 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c v2 (k1_pay2 (tabA M c)) v208 (k1_pay6 (k1_pay2 (tabA M c)) (ldB (readB Y c) 7))) Kt := by
  rw [k1_part12_eq_skeleton]
  unfold k1_part12_skel
  simp only [Prog.lift, Prog.bind_op, Prog.bind_ret, Prog.pure_eq_ret, Prog.bind_assoc]
  refine step_qLoad Y M K c 7 (by decide) (tab 1111111122221111 1111111122221111 2220000 0 1110 1110) Fr rfl rfl fun _ => ?_
  refine step_qStore Y M K c 7 (by decide) (tab 1111111122221111 1111111122221111 2220000 0 1110 1110) (tab 1111111122221111 1111111122221111 12220000 0 1110 1110) Fr rfl rfl rfl (by decide +kernel) (quant_at (scaleOf M c) (ldB (readB Y c) 7)) ?_
  refine step_qSend Y M K c 7 (by decide) (tab 1111111122221111 1111111122221111 12220000 0 1110 1110) (tab 1111111122221111 1111111122221111 22220000 0 1110 1110) Fr (dev_at c 1 _ (k1_dev10_eq c) _) rfl rfl rfl rfl rfl rfl (by decide +kernel) ?_
  refine step_copyWait Y M K c 8 (tab 1111111122221111 1111111122221111 22220000 0 1110 1110) (tab 1111111222221111 1111111222221111 22220000 0 1110 1110) Fr rfl rfl rfl rfl rfl (by decide +kernel) (by rfl) ?_
  refine step_bLoad Y M K c 8 (tab 1111111222221111 1111111222221111 22220000 0 1110 1110) Fr rfl rfl ?_
  exact step_ret c (h _)

theorem part13 (c : Dev nD) (v322 : BitVec 32) (Fr : sProp 𝕄) {Kt : (Σ' (v360 : FVec F S256x2048 .f32), F .f32) → sProp 𝕄}
    (h : At Y M K c (tab 1111112222221111 1111112222221111 222220000 0 1110 1110) Fr ⊢ Kt ⟨k1_pay11 (k1_pay2 (tabA M c)) (ldB (readB Y c) 9), (Scalar.ofBits .f32 0xC2FE0000#32)⟩) :
    At Y M K c (tab 1111111222221111 1111111222221111 22220000 0 1110 1110) Fr ⊢ run c (k1_part13 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v322 (k1_pay8 (ldB (readB Y c) 8)) (k1_pay9 (k1_pay2 (tabA M c)))) Kt := by
  rw [k1_part13_eq_skeleton]
  unfold k1_part13_skel
  simp only [Prog.lift, Prog.bind_op, Prog.bind_ret, Prog.pure_eq_ret, Prog.bind_assoc]
  refine step_qLoad Y M K c 8 (by decide) (tab 1111111222221111 1111111222221111 22220000 0 1110 1110) Fr rfl rfl fun _ => ?_
  refine step_qStore Y M K c 8 (by decide) (tab 1111111222221111 1111111222221111 22220000 0 1110 1110) (tab 1111111222221111 1111111222221111 122220000 0 1110 1110) Fr rfl rfl rfl (by decide +kernel) (quant_at (scaleOf M c) (ldB (readB Y c) 8)) ?_
  refine step_qSend Y M K c 8 (by decide) (tab 1111111222221111 1111111222221111 122220000 0 1110 1110) (tab 1111111222221111 1111111222221111 222220000 0 1110 1110) Fr (dev_at c 2 _ (k1_dev11_eq c) _) rfl rfl rfl rfl rfl rfl (by decide +kernel) ?_
  refine step_copyWait Y M K c 9 (tab 1111111222221111 1111111222221111 222220000 0 1110 1110) (tab 1111112222221111 1111112222221111 222220000 0 1110 1110) Fr rfl rfl rfl rfl rfl (by decide +kernel) (by rfl) ?_
  refine step_bLoad Y M K c 9 (tab 1111112222221111 1111112222221111 222220000 0 1110 1110) Fr rfl rfl ?_
  exact step_ret c (h)

theorem part14 (c : Dev nD) (v322 : BitVec 32) (Fr : sProp 𝕄) {Kt : (Σ' (cst_384 : F .f32), FVec F S256x2048 .f32) → sProp 𝕄}
    (h : At Y M K c (tab 1111122222221111 1111122222221111 2222220000 0 1110 1110) Fr ⊢ Kt ⟨(Scalar.ofBits .f32 0x42FE0000#32), k1_pay13 (k1_pay2 (tabA M c)) (ldB (readB Y c) 10)⟩) :
    At Y M K c (tab 1111112222221111 1111112222221111 222220000 0 1110 1110) Fr ⊢ run c (k1_part14 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v322 (k1_pay11 (k1_pay2 (tabA M c)) (ldB (readB Y c) 9)) (Scalar.ofBits .f32 0xC2FE0000#32)) Kt := by
  rw [k1_part14_eq_skeleton]
  unfold k1_part14_skel
  simp only [Prog.lift, Prog.bind_op, Prog.bind_ret, Prog.pure_eq_ret, Prog.bind_assoc]
  refine step_qLoad Y M K c 9 (by decide) (tab 1111112222221111 1111112222221111 222220000 0 1110 1110) Fr rfl rfl fun _ => ?_
  refine step_qStore Y M K c 9 (by decide) (tab 1111112222221111 1111112222221111 222220000 0 1110 1110) (tab 1111112222221111 1111112222221111 1222220000 0 1110 1110) Fr rfl rfl rfl (by decide +kernel) (quant_at (scaleOf M c) (ldB (readB Y c) 9)) ?_
  refine step_qSend Y M K c 9 (by decide) (tab 1111112222221111 1111112222221111 1222220000 0 1110 1110) (tab 1111112222221111 1111112222221111 2222220000 0 1110 1110) Fr (dev_at c 2 _ (k1_dev12_eq c) _) rfl rfl rfl rfl rfl rfl (by decide +kernel) ?_
  refine step_copyWait Y M K c 10 (tab 1111112222221111 1111112222221111 2222220000 0 1110 1110) (tab 1111122222221111 1111122222221111 2222220000 0 1110 1110) Fr rfl rfl rfl rfl rfl (by decide +kernel) (by rfl) ?_
  refine step_bLoad Y M K c 10 (tab 1111122222221111 1111122222221111 2222220000 0 1110 1110) Fr rfl rfl ?_
  exact step_ret c (h)

end Cert.KernelIdeal.A2a

end
-- ==== Proof.A2a.PartsC.lean ====
/-
  The parts of the exchange kernel's body, quantising and sending, continued: each takes the device from one state to the next.
-/
module

public import proofs.«01_k».proof.Proof.A2a.States

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (Y : Fin 4 → Vec F S4096x2048 .f32) (M : Fin 4 → Vec F S8x128 .f32) (K : GSem nD τ sig → ℕ)
variable (arg1 : Memref sig .tc .vmem S8x128 .f32) (harg1 : arg1.IsWhole)

theorem part15 (c : Dev nD) (v322 : BitVec 32) (Fr : sProp 𝕄) {Kt : (IVec S256x2048 8) → sProp 𝕄}
    (h : At Y M K c (tab 1111222222221111 1111222222221111 22222220000 0 1110 1110) Fr ⊢ Kt ((k1_pay15 (k1_pay2 (tabA M c)) (ldB (readB Y c) 11)))) :
    At Y M K c (tab 1111122222221111 1111122222221111 2222220000 0 1110 1110) Fr ⊢ run c (k1_part15 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v322 (Scalar.ofBits .f32 0x42FE0000#32) (k1_pay13 (k1_pay2 (tabA M c)) (ldB (readB Y c) 10))) Kt := by
  rw [k1_part15_eq_skeleton]
  unfold k1_part15_skel
  simp only [Prog.lift, Prog.bind_op, Prog.bind_ret, Prog.pure_eq_ret, Prog.bind_assoc]
  refine step_qLoad Y M K c 10 (by decide) (tab 1111122222221111 1111122222221111 2222220000 0 1110 1110) Fr rfl rfl fun _ => ?_
  refine step_qStore Y M K c 10 (by decide) (tab 1111122222221111 1111122222221111 2222220000 0 1110 1110) (tab 1111122222221111 1111122222221111 12222220000 0 1110 1110) Fr rfl rfl rfl (by decide +kernel) (quant_at (scaleOf M c) (ldB (readB Y c) 10)) ?_
  refine step_qSend Y M K c 10 (by decide) (tab 1111122222221111 1111122222221111 12222220000 0 1110 1110) (tab 1111122222221111 1111122222221111 22222220000 0 1110 1110) Fr (dev_at c 2 _ (k1_dev13_eq c) _) rfl rfl rfl rfl rfl rfl (by decide +kernel) ?_
  refine step_copyWait Y M K c 11 (tab 1111122222221111 1111122222221111 22222220000 0 1110 1110) (tab 1111222222221111 1111222222221111 22222220000 0 1110 1110) Fr rfl rfl rfl rfl rfl (by decide +kernel) (by rfl) ?_
  refine step_bLoad Y M K c 11 (tab 1111222222221111 1111222222221111 22222220000 0 1110 1110) Fr rfl rfl ?_
  exact step_ret c (h)

theorem part16 (c : Dev nD) (v2 : BitVec 32) (v322 : BitVec 32) (Fr : sProp 𝕄) {Kt : (Σ' (v436 : BitVec 32), FVec F S256x2048 .f32) → sProp 𝕄}
    (h : ∀ (u0 : BitVec 32), At Y M K c (tab 1112222222221111 1112222222221111 222222220000 0 1110 1110) Fr ⊢ Kt ⟨u0, k1_pay17 (k1_pay2 (tabA M c)) (ldB (readB Y c) 12)⟩) :
    At Y M K c (tab 1111222222221111 1111222222221111 22222220000 0 1110 1110) Fr ⊢ run c (k1_part16 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c v2 (k1_pay2 (tabA M c)) v322 (k1_pay15 (k1_pay2 (tabA M c)) (ldB (readB Y c) 11))) Kt := by
  rw [k1_part16_eq_skeleton]
  unfold k1_part16_skel
  simp only [Prog.lift, Prog.bind_op, Prog.bind_ret, Prog.pure_eq_ret, Prog.bind_assoc]
  refine step_qLoad Y M K c 11 (by decide) (tab 1111222222221111 1111222222221111 22222220000 0 1110 1110) Fr rfl rfl fun _ => ?_
  refine step_qStore Y M K c 11 (by decide) (tab 1111222222221111 1111222222221111 22222220000 0 1110 1110) (tab 1111222222221111 1111222222221111 122222220000 0 1110 1110) Fr rfl rfl rfl (by decide +kernel) (quant_at (scaleOf M c) (ldB (readB Y c) 11)) ?_
  refine step_qSend Y M K c 11 (by decide) (tab 1111222222221111 1111222222221111 122222220000 0 1110 1110) (tab 1111222222221111 1111222222221111 222222220000 0 1110 1110) Fr (dev_at c 2 _ (k1_dev14_eq c) _) rfl rfl rfl rfl rfl rfl (by decide +kernel) ?_
  refine step_copyWait Y M K c 12 (tab 1111222222221111 1111222222221111 222222220000 0 1110 1110) (tab 1112222222221111 1112222222221111 222222220000 0 1110 1110) Fr rfl rfl rfl rfl rfl (by decide +kernel) (by rfl) ?_
  refine step_bLoad Y M K c 12 (tab 1112222222221111 1112222222221111 222222220000 0 1110 1110) Fr rfl rfl ?_
  exact step_ret c (h _)

theorem part17 (c : Dev nD) (v436 : BitVec 32) (Fr : sProp 𝕄) {Kt : (IVec S256x2048 8) → sProp 𝕄}
    (h : At Y M K c (tab 1122222222221111 1122222222221111 2222222220000 0 1110 1110) Fr ⊢ Kt ((k1_pay19 (k1_pay2 (tabA M c)) (ldB (readB Y c) 13)))) :
    At Y M K c (tab 1112222222221111 1112222222221111 222222220000 0 1110 1110) Fr ⊢ run c (k1_part17 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v436 (k1_pay17 (k1_pay2 (tabA M c)) (ldB (readB Y c) 12))) Kt := by
  rw [k1_part17_eq_skeleton]
  unfold k1_part17_skel
  simp only [Prog.lift, Prog.bind_op, Prog.bind_ret, Prog.pure_eq_ret, Prog.bind_assoc]
  refine step_qLoad Y M K c 12 (by decide) (tab 1112222222221111 1112222222221111 222222220000 0 1110 1110) Fr rfl rfl fun _ => ?_
  refine step_qStore Y M K c 12 (by decide) (tab 1112222222221111 1112222222221111 222222220000 0 1110 1110) (tab 1112222222221111 1112222222221111 1222222220000 0 1110 1110) Fr rfl rfl rfl (by decide +kernel) (quant_at (scaleOf M c) (ldB (readB Y c) 12)) ?_
  refine step_qSend Y M K c 12 (by decide) (tab 1112222222221111 1112222222221111 1222222220000 0 1110 1110) (tab 1112222222221111 1112222222221111 2222222220000 0 1110 1110) Fr (dev_at c 3 _ (k1_dev15_eq c) _) rfl rfl rfl rfl rfl rfl (by decide +kernel) ?_
  refine step_copyWait Y M K c 13 (tab 1112222222221111 1112222222221111 2222222220000 0 1110 1110) (tab 1122222222221111 1122222222221111 2222222220000 0 1110 1110) Fr rfl rfl rfl rfl rfl (by decide +kernel) (by rfl) ?_
  refine step_bLoad Y M K c 13 (tab 1122222222221111 1122222222221111 2222222220000 0 1110 1110) Fr rfl rfl ?_
  exact step_ret c (h)

theorem part18 (c : Dev nD) (v436 : BitVec 32) (Fr : sProp 𝕄) {Kt : (IVec S256x2048 8) → sProp 𝕄}
    (h : At Y M K c (tab 1222222222221111 1222222222221111 22222222220000 0 1110 1110) Fr ⊢ Kt ((k1_pay21 (k1_pay2 (tabA M c)) (ldB (readB Y c) 14)))) :
    At Y M K c (tab 1122222222221111 1122222222221111 2222222220000 0 1110 1110) Fr ⊢ run c (k1_part18 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v436 (k1_pay19 (k1_pay2 (tabA M c)) (ldB (readB Y c) 13))) Kt := by
  rw [k1_part18_eq_skeleton]
  unfold k1_part18_skel
  simp only [Prog.lift, Prog.bind_op, Prog.bind_ret, Prog.pure_eq_ret, Prog.bind_assoc]
  refine step_qLoad Y M K c 13 (by decide) (tab 1122222222221111 1122222222221111 2222222220000 0 1110 1110) Fr rfl rfl fun _ => ?_
  refine step_qStore Y M K c 13 (by decide) (tab 1122222222221111 1122222222221111 2222222220000 0 1110 1110) (tab 1122222222221111 1122222222221111 12222222220000 0 1110 1110) Fr rfl rfl rfl (by decide +kernel) (quant_at (scaleOf M c) (ldB (readB Y c) 13)) ?_
  refine step_qSend Y M K c 13 (by decide) (tab 1122222222221111 1122222222221111 12222222220000 0 1110 1110) (tab 1122222222221111 1122222222221111 22222222220000 0 1110 1110) Fr (dev_at c 3 _ (k1_dev16_eq c) _) rfl rfl rfl rfl rfl rfl (by decide +kernel) ?_
  refine step_copyWait Y M K c 14 (tab 1122222222221111 1122222222221111 22222222220000 0 1110 1110) (tab 1222222222221111 1222222222221111 22222222220000 0 1110 1110) Fr rfl rfl rfl rfl rfl (by decide +kernel) (by rfl) ?_
  refine step_bLoad Y M K c 14 (tab 1222222222221111 1222222222221111 22222222220000 0 1110 1110) Fr rfl rfl ?_
  refine step_qLoad Y M K c 14 (by decide) (tab 1222222222221111 1222222222221111 22222222220000 0 1110 1110) Fr rfl rfl fun _ => ?_
  exact step_ret c (h)

theorem part19 (c : Dev nD) (v436 : BitVec 32) (Fr : sProp 𝕄) {Kt : PUnit → sProp 𝕄}
    (h : At Y M K c (tab 2222222222221111 2222222222221111 1222222222220000 0 1110 1110) Fr ⊢ Kt ⟨⟩) :
    At Y M K c (tab 1222222222221111 1222222222221111 22222222220000 0 1110 1110) Fr ⊢ run c (k1_part19 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v436 (k1_pay21 (k1_pay2 (tabA M c)) (ldB (readB Y c) 14))) Kt := by
  rw [k1_part19_eq_skeleton]
  unfold k1_part19_skel
  simp only [Prog.lift, Prog.bind_op, Prog.bind_ret, Prog.pure_eq_ret, Prog.bind_assoc]
  refine step_qStore Y M K c 14 (by decide) (tab 1222222222221111 1222222222221111 22222222220000 0 1110 1110) (tab 1222222222221111 1222222222221111 122222222220000 0 1110 1110) Fr rfl rfl rfl (by decide +kernel) (quant_at (scaleOf M c) (ldB (readB Y c) 14)) ?_
  refine step_qSend Y M K c 14 (by decide) (tab 1222222222221111 1222222222221111 122222222220000 0 1110 1110) (tab 1222222222221111 1222222222221111 222222222220000 0 1110 1110) Fr (dev_at c 3 _ (k1_dev17_eq c) _) rfl rfl rfl rfl rfl rfl (by decide +kernel) ?_
  refine step_copyWait Y M K c 15 (tab 1222222222221111 1222222222221111 222222222220000 0 1110 1110) (tab 2222222222221111 2222222222221111 222222222220000 0 1110 1110) Fr rfl rfl rfl rfl rfl (by decide +kernel) (by rfl) ?_
  refine step_bLoad Y M K c 15 (tab 2222222222221111 2222222222221111 222222222220000 0 1110 1110) Fr rfl rfl ?_
  refine step_qLoad Y M K c 15 (by decide) (tab 2222222222221111 2222222222221111 222222222220000 0 1110 1110) Fr rfl rfl fun _ => ?_
  refine step_qStore Y M K c 15 (by decide) (tab 2222222222221111 2222222222221111 222222222220000 0 1110 1110) (tab 2222222222221111 2222222222221111 1222222222220000 0 1110 1110) Fr rfl rfl rfl (by decide +kernel) (quant_at (scaleOf M c) (ldB (readB Y c) 15)) ?_
  exact step_ret c (h)

theorem part20 (c : Dev nD) (v2 : BitVec 32) (v436 : BitVec 32) (Fr : sProp 𝕄) {Kt : (Σ' (v568 : BitVec 32), BitVec 32) → sProp 𝕄}
    (h : ∀ (u0 : BitVec 32) (u1 : BitVec 32), At Y M K c (tab 2222222222221113 2222222222221112 2222222222220000 0 1110 1110) Fr ⊢ Kt ⟨u0, u1⟩) :
    At Y M K c (tab 2222222222221111 2222222222221111 1222222222220000 0 1110 1110) Fr ⊢ run c (k1_part20 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c v2 (k1_pay2 (tabA M c)) v436) Kt := by
  rw [k1_part20_eq_skeleton]
  unfold k1_part20_skel
  simp only [Prog.lift, Prog.bind_op, Prog.bind_ret, Prog.pure_eq_ret, Prog.bind_assoc]
  refine step_qSend Y M K c 15 (by decide) (tab 2222222222221111 2222222222221111 1222222222220000 0 1110 1110) (tab 2222222222221111 2222222222221111 2222222222220000 0 1110 1110) Fr (dev_at c 3 _ (k1_dev18_eq c) _) rfl rfl rfl rfl rfl rfl (by decide +kernel) ?_
  refine step_copyWait Y M K c 0 (tab 2222222222221111 2222222222221111 2222222222220000 0 1110 1110) (tab 2222222222221112 2222222222221112 2222222222220000 0 1110 1110) Fr rfl rfl rfl rfl rfl (by decide +kernel) (by rfl) ?_
  refine step_bLoad Y M K c 0 (tab 2222222222221112 2222222222221112 2222222222220000 0 1110 1110) Fr rfl rfl ?_
  refine step_bLoad Y M K c 0 (tab 2222222222221112 2222222222221112 2222222222220000 0 1110 1110) Fr rfl rfl ?_
  refine step_bStore Y M K c 0 (tab 2222222222221112 2222222222221112 2222222222220000 0 1110 1110) (tab 2222222222221113 2222222222221112 2222222222220000 0 1110 1110) Fr rfl rfl rfl (by decide +kernel) (own_row Y M c 0 (by decide)) ?_
  exact step_ret c (h _ _)

theorem part21 (c : Dev nD) (v2 : BitVec 32) (v568 : BitVec 32) (c0_i32_546 : BitVec 32) (Fr : sProp 𝕄) {Kt : PUnit → sProp 𝕄}
    (h : At Y M K c (tab 2222222222221134 2222222222221123 2222222222220000 0 1110 1110) Fr ⊢ Kt ⟨⟩) :
    At Y M K c (tab 2222222222221113 2222222222221112 2222222222220000 0 1110 1110) Fr ⊢ run c (k1_part21 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c v2 (k1_pay2 (tabA M c)) v568 c0_i32_546) Kt := by
  rw [k1_part21_eq_skeleton]
  unfold k1_part21_skel
  simp only [Prog.lift, Prog.bind_op, Prog.bind_ret, Prog.pure_eq_ret, Prog.bind_assoc]
  refine step_write Y M K c 0 (tab 2222222222221113 2222222222221112 2222222222220000 0 1110 1110) (tab 2222222222221114 2222222222221113 2222222222220000 0 1110 1110) Fr rfl (ySlice_eq c 0 _ (off2_at c 0 0 rfl rfl) _) rfl rfl rfl rfl rfl (by decide +kernel) ?_
  refine step_copyWait Y M K c 1 (tab 2222222222221114 2222222222221113 2222222222220000 0 1110 1110) (tab 2222222222221124 2222222222221123 2222222222220000 0 1110 1110) Fr rfl rfl rfl rfl rfl (by decide +kernel) (by rfl) ?_
  refine step_bLoad Y M K c 1 (tab 2222222222221124 2222222222221123 2222222222220000 0 1110 1110) Fr rfl rfl ?_
  refine step_bLoad Y M K c 1 (tab 2222222222221124 2222222222221123 2222222222220000 0 1110 1110) Fr rfl rfl ?_
  refine step_bStore Y M K c 1 (tab 2222222222221124 2222222222221123 2222222222220000 0 1110 1110) (tab 2222222222221134 2222222222221123 2222222222220000 0 1110 1110) Fr rfl rfl rfl (by decide +kernel) (own_row Y M c 1 (by decide)) ?_
  exact step_ret c (h)

theorem part22 (c : Dev nD) (v2 : BitVec 32) (Fr : sProp 𝕄) {Kt : PUnit → sProp 𝕄}
    (h : At Y M K c (tab 2222222222221444 2222222222221333 2222222222220000 0 1110 1110) Fr ⊢ Kt ⟨⟩) :
    At Y M K c (tab 2222222222221134 2222222222221123 2222222222220000 0 1110 1110) Fr ⊢ run c (k1_part22 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c v2 (k1_pay2 (tabA M c))) Kt := by
  rw [k1_part22_eq_skeleton]
  unfold k1_part22_skel
  simp only [Prog.lift, Prog.bind_op, Prog.bind_ret, Prog.pure_eq_ret, Prog.bind_assoc]
  refine step_write Y M K c 1 (tab 2222222222221134 2222222222221123 2222222222220000 0 1110 1110) (tab 2222222222221144 2222222222221133 2222222222220000 0 1110 1110) Fr rfl (ySlice_eq c 1 _ (off2_at c 1 1 rfl rfl) _) rfl rfl rfl rfl rfl (by decide +kernel) ?_
  refine step_copyWait Y M K c 2 (tab 2222222222221144 2222222222221133 2222222222220000 0 1110 1110) (tab 2222222222221244 2222222222221233 2222222222220000 0 1110 1110) Fr rfl rfl rfl rfl rfl (by decide +kernel) (by rfl) ?_
  refine step_bLoad Y M K c 2 (tab 2222222222221244 2222222222221233 2222222222220000 0 1110 1110) Fr rfl rfl ?_
  refine step_bLoad Y M K c 2 (tab 2222222222221244 2222222222221233 2222222222220000 0 1110 1110) Fr rfl rfl ?_
  refine step_bStore Y M K c 2 (tab 2222222222221244 2222222222221233 2222222222220000 0 1110 1110) (tab 2222222222221344 2222222222221233 2222222222220000 0 1110 1110) Fr rfl rfl rfl (by decide +kernel) (own_row Y M c 2 (by decide)) ?_
  refine step_write Y M K c 2 (tab 2222222222221344 2222222222221233 2222222222220000 0 1110 1110) (tab 2222222222221444 2222222222221333 2222222222220000 0 1110 1110) Fr rfl (ySlice_eq c 2 _ (off2_at c 2 2 rfl rfl) _) rfl rfl rfl rfl rfl (by decide +kernel) ?_
  exact step_ret c (h)

theorem part23 (c : Dev nD) (v2 : BitVec 32) (v208 : BitVec 32) (Fr : sProp 𝕄) {Kt : (Σ' (v655 : BitVec 32), BitVec 32) → sProp 𝕄}
    (h : ∀ (u0 : BitVec 32) (u1 : BitVec 32), At Y M K c (tab 2222222222224444 2222222222223333 2222222222220000 0 1110 1110) Fr ⊢ Kt ⟨u0, u1⟩) :
    At Y M K c (tab 2222222222221444 2222222222221333 2222222222220000 0 1110 1110) Fr ⊢ run c (k1_part23 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c v2 (k1_pay2 (tabA M c)) v208) Kt := by
  rw [k1_part23_eq_skeleton]
  unfold k1_part23_skel
  simp only [Prog.lift, Prog.bind_op, Prog.bind_ret, Prog.pure_eq_ret, Prog.bind_assoc]
  refine step_copyWait Y M K c 3 (tab 2222222222221444 2222222222221333 2222222222220000 0 1110 1110) (tab 2222222222222444 2222222222222333 2222222222220000 0 1110 1110) Fr rfl rfl rfl rfl rfl (by decide +kernel) (by rfl) ?_
  refine step_bLoad Y M K c 3 (tab 2222222222222444 2222222222222333 2222222222220000 0 1110 1110) Fr rfl rfl ?_
  refine step_bLoad Y M K c 3 (tab 2222222222222444 2222222222222333 2222222222220000 0 1110 1110) Fr rfl rfl ?_
  refine step_bStore Y M K c 3 (tab 2222222222222444 2222222222222333 2222222222220000 0 1110 1110) (tab 2222222222223444 2222222222222333 2222222222220000 0 1110 1110) Fr rfl rfl rfl (by decide +kernel) (own_row Y M c 3 (by decide)) ?_
  refine step_write Y M K c 3 (tab 2222222222223444 2222222222222333 2222222222220000 0 1110 1110) (tab 2222222222224444 2222222222223333 2222222222220000 0 1110 1110) Fr rfl (ySlice_eq c 3 _ (off2_at c 3 3 rfl rfl) _) rfl rfl rfl rfl rfl (by decide +kernel) ?_
  exact step_ret c (h _ _)

end Cert.KernelIdeal.A2a

end
-- ==== Proof.A2a.PartsD.lean ====
/-
  The parts of the exchange kernel's body, receiving and writing the result: each takes the device from one state to the next.
-/
module

public import proofs.«01_k».proof.Proof.A2a.States

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (Y : Fin 4 → Vec F S4096x2048 .f32) (M : Fin 4 → Vec F S8x128 .f32) (K : GSem nD τ sig → ℕ)
variable (arg1 : Memref sig .tc .vmem S8x128 .f32) (harg1 : arg1.IsWhole)

theorem part24 (c : Dev nD) (v208 : BitVec 32) (v655 : BitVec 32) (v656 : BitVec 32) (Fr : sProp 𝕄) {Kt : PUnit → sProp 𝕄}
    (h : At Y M K c (tab 2222222222244444 2223222222223333 2222222222220000 10000 1110 1110) Fr ⊢ Kt ⟨⟩) :
    At Y M K c (tab 2222222222224444 2222222222223333 2222222222220000 0 1110 1110) Fr ⊢ run c (k1_part24 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v208 v655 v656) Kt := by
  rw [k1_part24_eq_skeleton]
  unfold k1_part24_skel
  simp only [Prog.lift, Prog.bind_op, Prog.bind_ret, Prog.pure_eq_ret, Prog.bind_assoc]
  refine step_drWait Y M K c 4 (by decide) (tab 2222222222224444 2222222222223333 2222222222220000 0 1110 1110) (tab 2222222222224444 2222222222223333 2222222222220000 10000 1110 1110) Fr rfl rfl rfl (by decide +kernel) (by decide +kernel) (by rfl) ?_
  refine step_rLoad Y M K c 4 (by decide) (tab 2222222222224444 2222222222223333 2222222222220000 10000 1110 1110) Fr rfl rfl ?_
  refine step_bLoad Y M K c 4 (tab 2222222222224444 2222222222223333 2222222222220000 10000 1110 1110) Fr rfl rfl ?_
  refine step_bStore Y M K c 4 (tab 2222222222224444 2222222222223333 2222222222220000 10000 1110 1110) (tab 2222222222234444 2222222222223333 2222222222220000 10000 1110 1110) Fr rfl rfl rfl (by decide +kernel) (far_row Y M c 4 (by decide)) ?_
  refine step_write Y M K c 4 (tab 2222222222234444 2222222222223333 2222222222220000 10000 1110 1110) (tab 2222222222244444 2223222222223333 2222222222220000 10000 1110 1110) Fr rfl (ySlice_eq c 12 _ (off3_at c 0 0 12 rfl rfl) _) rfl rfl rfl rfl rfl (by decide +kernel) ?_
  exact step_ret c (h)

theorem part25 (c : Dev nD) (v208 : BitVec 32) (v655 : BitVec 32) (Fr : sProp 𝕄) {Kt : PUnit → sProp 𝕄}
    (h : At Y M K c (tab 2222222222444444 2233222222223333 2222222222220000 1110000 1110 1110) Fr ⊢ Kt ⟨⟩) :
    At Y M K c (tab 2222222222244444 2223222222223333 2222222222220000 10000 1110 1110) Fr ⊢ run c (k1_part25 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v208 v655) Kt := by
  rw [k1_part25_eq_skeleton]
  unfold k1_part25_skel
  simp only [Prog.lift, Prog.bind_op, Prog.bind_ret, Prog.pure_eq_ret, Prog.bind_assoc]
  refine step_drWait Y M K c 5 (by decide) (tab 2222222222244444 2223222222223333 2222222222220000 10000 1110 1110) (tab 2222222222244444 2223222222223333 2222222222220000 110000 1110 1110) Fr rfl rfl rfl (by decide +kernel) (by decide +kernel) (by rfl) ?_
  refine step_rLoad Y M K c 5 (by decide) (tab 2222222222244444 2223222222223333 2222222222220000 110000 1110 1110) Fr rfl rfl ?_
  refine step_bLoad Y M K c 5 (tab 2222222222244444 2223222222223333 2222222222220000 110000 1110 1110) Fr rfl rfl ?_
  refine step_bStore Y M K c 5 (tab 2222222222244444 2223222222223333 2222222222220000 110000 1110 1110) (tab 2222222222344444 2223222222223333 2222222222220000 110000 1110 1110) Fr rfl rfl rfl (by decide +kernel) (far_row Y M c 5 (by decide)) ?_
  refine step_write Y M K c 5 (tab 2222222222344444 2223222222223333 2222222222220000 110000 1110 1110) (tab 2222222222444444 2233222222223333 2222222222220000 110000 1110 1110) Fr rfl (ySlice_eq c 13 _ (off3_at c 0 1 13 rfl rfl) _) rfl rfl rfl rfl rfl (by decide +kernel) ?_
  refine step_drWait Y M K c 6 (by decide) (tab 2222222222444444 2233222222223333 2222222222220000 110000 1110 1110) (tab 2222222222444444 2233222222223333 2222222222220000 1110000 1110 1110) Fr rfl rfl rfl (by decide +kernel) (by decide +kernel) (by rfl) ?_
  exact step_ret c (h)

theorem part26 (c : Dev nD) (v208 : BitVec 32) (v655 : BitVec 32) (Fr : sProp 𝕄) {Kt : (FVec F S256x2048 .f32) → sProp 𝕄}
    (h : At Y M K c (tab 2222222224444444 2333222222223333 2222222222220000 11110000 1110 1110) Fr ⊢ Kt ((k1_pay31 (k1_pay2 (tabA M c)) (ldR (recvQ Y M c) 7)))) :
    At Y M K c (tab 2222222222444444 2233222222223333 2222222222220000 1110000 1110 1110) Fr ⊢ run c (k1_part26 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v208 v655) Kt := by
  rw [k1_part26_eq_skeleton]
  unfold k1_part26_skel
  simp only [Prog.lift, Prog.bind_op, Prog.bind_ret, Prog.pure_eq_ret, Prog.bind_assoc]
  refine step_rLoad Y M K c 6 (by decide) (tab 2222222222444444 2233222222223333 2222222222220000 1110000 1110 1110) Fr rfl rfl ?_
  refine step_bLoad Y M K c 6 (tab 2222222222444444 2233222222223333 2222222222220000 1110000 1110 1110) Fr rfl rfl ?_
  refine step_bStore Y M K c 6 (tab 2222222222444444 2233222222223333 2222222222220000 1110000 1110 1110) (tab 2222222223444444 2233222222223333 2222222222220000 1110000 1110 1110) Fr rfl rfl rfl (by decide +kernel) (far_row Y M c 6 (by decide)) ?_
  refine step_write Y M K c 6 (tab 2222222223444444 2233222222223333 2222222222220000 1110000 1110 1110) (tab 2222222224444444 2333222222223333 2222222222220000 1110000 1110 1110) Fr rfl (ySlice_eq c 14 _ (off3_at c 0 2 14 rfl rfl) _) rfl rfl rfl rfl rfl (by decide +kernel) ?_
  refine step_drWait Y M K c 7 (by decide) (tab 2222222224444444 2333222222223333 2222222222220000 1110000 1110 1110) (tab 2222222224444444 2333222222223333 2222222222220000 11110000 1110 1110) Fr rfl rfl rfl (by decide +kernel) (by decide +kernel) (by rfl) ?_
  refine step_rLoad Y M K c 7 (by decide) (tab 2222222224444444 2333222222223333 2222222222220000 11110000 1110 1110) Fr rfl rfl ?_
  exact step_ret c (h)

theorem part27 (c : Dev nD) (v2 : BitVec 32) (v322 : BitVec 32) (v655 : BitVec 32) (Fr : sProp 𝕄) {Kt : (Σ' (v750 : BitVec 32), FVec F S256x2048 .f32) → sProp 𝕄}
    (h : ∀ (u0 : BitVec 32), At Y M K c (tab 2222222244444444 3333222222223333 2222222222220000 111110000 1110 1110) Fr ⊢ Kt ⟨u0, k1_pay33 (k1_pay2 (tabA M c)) (ldR (recvQ Y M c) 8)⟩) :
    At Y M K c (tab 2222222224444444 2333222222223333 2222222222220000 11110000 1110 1110) Fr ⊢ run c (k1_part27 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c v2 (k1_pay2 (tabA M c)) v322 v655 (k1_pay31 (k1_pay2 (tabA M c)) (ldR (recvQ Y M c) 7))) Kt := by
  rw [k1_part27_eq_skeleton]
  unfold k1_part27_skel
  simp only [Prog.lift, Prog.bind_op, Prog.bind_ret, Prog.pure_eq_ret, Prog.bind_assoc]
  refine step_bLoad Y M K c 7 (tab 2222222224444444 2333222222223333 2222222222220000 11110000 1110 1110) Fr rfl rfl ?_
  refine step_bStore Y M K c 7 (tab 2222222224444444 2333222222223333 2222222222220000 11110000 1110 1110) (tab 2222222234444444 2333222222223333 2222222222220000 11110000 1110 1110) Fr rfl rfl rfl (by decide +kernel) (far_row Y M c 7 (by decide)) ?_
  refine step_write Y M K c 7 (tab 2222222234444444 2333222222223333 2222222222220000 11110000 1110 1110) (tab 2222222244444444 3333222222223333 2222222222220000 11110000 1110 1110) Fr rfl (ySlice_eq c 15 _ (off3_at c 0 3 15 rfl rfl) _) rfl rfl rfl rfl rfl (by decide +kernel) ?_
  refine step_drWait Y M K c 8 (by decide) (tab 2222222244444444 3333222222223333 2222222222220000 11110000 1110 1110) (tab 2222222244444444 3333222222223333 2222222222220000 111110000 1110 1110) Fr rfl rfl rfl (by decide +kernel) (by decide +kernel) (by rfl) ?_
  refine step_rLoad Y M K c 8 (by decide) (tab 2222222244444444 3333222222223333 2222222222220000 111110000 1110 1110) Fr rfl rfl ?_
  refine step_bLoad Y M K c 8 (tab 2222222244444444 3333222222223333 2222222222220000 111110000 1110 1110) Fr rfl rfl ?_
  exact step_ret c (h _)

theorem part28 (c : Dev nD) (v322 : BitVec 32) (v750 : BitVec 32) (Fr : sProp 𝕄) {Kt : PUnit → sProp 𝕄}
    (h : At Y M K c (tab 2222223444444444 3333222322223333 2222222222220000 1111110000 1110 1110) Fr ⊢ Kt ⟨⟩) :
    At Y M K c (tab 2222222244444444 3333222222223333 2222222222220000 111110000 1110 1110) Fr ⊢ run c (k1_part28 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v322 v750 (k1_pay33 (k1_pay2 (tabA M c)) (ldR (recvQ Y M c) 8))) Kt := by
  rw [k1_part28_eq_skeleton]
  unfold k1_part28_skel
  simp only [Prog.lift, Prog.bind_op, Prog.bind_ret, Prog.pure_eq_ret, Prog.bind_assoc]
  refine step_bStore Y M K c 8 (tab 2222222244444444 3333222222223333 2222222222220000 111110000 1110 1110) (tab 2222222344444444 3333222222223333 2222222222220000 111110000 1110 1110) Fr rfl rfl rfl (by decide +kernel) (far_row Y M c 8 (by decide)) ?_
  refine step_write Y M K c 8 (tab 2222222344444444 3333222222223333 2222222222220000 111110000 1110 1110) (tab 2222222444444444 3333222322223333 2222222222220000 111110000 1110 1110) Fr rfl (ySlice_eq c 8 _ (off3_at c 1 0 8 rfl rfl) _) rfl rfl rfl rfl rfl (by decide +kernel) ?_
  refine step_drWait Y M K c 9 (by decide) (tab 2222222444444444 3333222322223333 2222222222220000 111110000 1110 1110) (tab 2222222444444444 3333222322223333 2222222222220000 1111110000 1110 1110) Fr rfl rfl rfl (by decide +kernel) (by decide +kernel) (by rfl) ?_
  refine step_rLoad Y M K c 9 (by decide) (tab 2222222444444444 3333222322223333 2222222222220000 1111110000 1110 1110) Fr rfl rfl ?_
  refine step_bLoad Y M K c 9 (tab 2222222444444444 3333222322223333 2222222222220000 1111110000 1110 1110) Fr rfl rfl ?_
  refine step_bStore Y M K c 9 (tab 2222222444444444 3333222322223333 2222222222220000 1111110000 1110 1110) (tab 2222223444444444 3333222322223333 2222222222220000 1111110000 1110 1110) Fr rfl rfl rfl (by decide +kernel) (far_row Y M c 9 (by decide)) ?_
  exact step_ret c (h)

theorem part29 (c : Dev nD) (v322 : BitVec 32) (v750 : BitVec 32) (Fr : sProp 𝕄) {Kt : PUnit → sProp 𝕄}
    (h : At Y M K c (tab 2222234444444444 3333223322223333 2222222222220000 11111110000 1110 1110) Fr ⊢ Kt ⟨⟩) :
    At Y M K c (tab 2222223444444444 3333222322223333 2222222222220000 1111110000 1110 1110) Fr ⊢ run c (k1_part29 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v322 v750) Kt := by
  rw [k1_part29_eq_skeleton]
  unfold k1_part29_skel
  simp only [Prog.lift, Prog.bind_op, Prog.bind_ret, Prog.pure_eq_ret, Prog.bind_assoc]
  refine step_write Y M K c 9 (tab 2222223444444444 3333222322223333 2222222222220000 1111110000 1110 1110) (tab 2222224444444444 3333223322223333 2222222222220000 1111110000 1110 1110) Fr rfl (ySlice_eq c 9 _ (off3_at c 1 1 9 rfl rfl) _) rfl rfl rfl rfl rfl (by decide +kernel) ?_
  refine step_drWait Y M K c 10 (by decide) (tab 2222224444444444 3333223322223333 2222222222220000 1111110000 1110 1110) (tab 2222224444444444 3333223322223333 2222222222220000 11111110000 1110 1110) Fr rfl rfl rfl (by decide +kernel) (by decide +kernel) (by rfl) ?_
  refine step_rLoad Y M K c 10 (by decide) (tab 2222224444444444 3333223322223333 2222222222220000 11111110000 1110 1110) Fr rfl rfl ?_
  refine step_bLoad Y M K c 10 (tab 2222224444444444 3333223322223333 2222222222220000 11111110000 1110 1110) Fr rfl rfl ?_
  refine step_bStore Y M K c 10 (tab 2222224444444444 3333223322223333 2222222222220000 11111110000 1110 1110) (tab 2222234444444444 3333223322223333 2222222222220000 11111110000 1110 1110) Fr rfl rfl rfl (by decide +kernel) (far_row Y M c 10 (by decide)) ?_
  exact step_ret c (h)

theorem part30 (c : Dev nD) (v2 : BitVec 32) (v322 : BitVec 32) (v750 : BitVec 32) (Fr : sProp 𝕄) {Kt : (BitVec 32) → sProp 𝕄}
    (h : ∀ (u0 : BitVec 32), At Y M K c (tab 2222444444444444 3333333322223333 2222222222220000 111111110000 1110 1110) Fr ⊢ Kt (u0)) :
    At Y M K c (tab 2222234444444444 3333223322223333 2222222222220000 11111110000 1110 1110) Fr ⊢ run c (k1_part30 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c v2 (k1_pay2 (tabA M c)) v322 v750) Kt := by
  rw [k1_part30_eq_skeleton]
  unfold k1_part30_skel
  simp only [Prog.lift, Prog.bind_op, Prog.bind_ret, Prog.pure_eq_ret, Prog.bind_assoc]
  refine step_write Y M K c 10 (tab 2222234444444444 3333223322223333 2222222222220000 11111110000 1110 1110) (tab 2222244444444444 3333233322223333 2222222222220000 11111110000 1110 1110) Fr rfl (ySlice_eq c 10 _ (off3_at c 1 2 10 rfl rfl) _) rfl rfl rfl rfl rfl (by decide +kernel) ?_
  refine step_drWait Y M K c 11 (by decide) (tab 2222244444444444 3333233322223333 2222222222220000 11111110000 1110 1110) (tab 2222244444444444 3333233322223333 2222222222220000 111111110000 1110 1110) Fr rfl rfl rfl (by decide +kernel) (by decide +kernel) (by rfl) ?_
  refine step_rLoad Y M K c 11 (by decide) (tab 2222244444444444 3333233322223333 2222222222220000 111111110000 1110 1110) Fr rfl rfl ?_
  refine step_bLoad Y M K c 11 (tab 2222244444444444 3333233322223333 2222222222220000 111111110000 1110 1110) Fr rfl rfl ?_
  refine step_bStore Y M K c 11 (tab 2222244444444444 3333233322223333 2222222222220000 111111110000 1110 1110) (tab 2222344444444444 3333233322223333 2222222222220000 111111110000 1110 1110) Fr rfl rfl rfl (by decide +kernel) (far_row Y M c 11 (by decide)) ?_
  refine step_write Y M K c 11 (tab 2222344444444444 3333233322223333 2222222222220000 111111110000 1110 1110) (tab 2222444444444444 3333333322223333 2222222222220000 111111110000 1110 1110) Fr rfl (ySlice_eq c 11 _ (off3_at c 1 3 11 rfl rfl) _) rfl rfl rfl rfl rfl (by decide +kernel) ?_
  exact step_ret c (h _)

theorem part31 (c : Dev nD) (v436 : BitVec 32) (v845 : BitVec 32) (Fr : sProp 𝕄) {Kt : (BitVec 32) → sProp 𝕄}
    (h : ∀ (u0 : BitVec 32), At Y M K c (tab 2224444444444444 3333333322233333 2222222222220000 1111111110000 1110 1110) Fr ⊢ Kt (u0)) :
    At Y M K c (tab 2222444444444444 3333333322223333 2222222222220000 111111110000 1110 1110) Fr ⊢ run c (k1_part31 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v436 v845) Kt := by
  rw [k1_part31_eq_skeleton]
  unfold k1_part31_skel
  simp only [Prog.lift, Prog.bind_op, Prog.bind_ret, Prog.pure_eq_ret, Prog.bind_assoc]
  refine step_drWait Y M K c 12 (by decide) (tab 2222444444444444 3333333322223333 2222222222220000 111111110000 1110 1110) (tab 2222444444444444 3333333322223333 2222222222220000 1111111110000 1110 1110) Fr rfl rfl rfl (by decide +kernel) (by decide +kernel) (by rfl) ?_
  refine step_rLoad Y M K c 12 (by decide) (tab 2222444444444444 3333333322223333 2222222222220000 1111111110000 1110 1110) Fr rfl rfl ?_
  refine step_bLoad Y M K c 12 (tab 2222444444444444 3333333322223333 2222222222220000 1111111110000 1110 1110) Fr rfl rfl ?_
  refine step_bStore Y M K c 12 (tab 2222444444444444 3333333322223333 2222222222220000 1111111110000 1110 1110) (tab 2223444444444444 3333333322223333 2222222222220000 1111111110000 1110 1110) Fr rfl rfl rfl (by decide +kernel) (far_row Y M c 12 (by decide)) ?_
  refine step_write Y M K c 12 (tab 2223444444444444 3333333322223333 2222222222220000 1111111110000 1110 1110) (tab 2224444444444444 3333333322233333 2222222222220000 1111111110000 1110 1110) Fr rfl (ySlice_eq c 4 _ (off3_at c 2 0 4 rfl rfl) _) rfl rfl rfl rfl rfl (by decide +kernel) ?_
  exact step_ret c (h _)

theorem part32 (c : Dev nD) (v436 : BitVec 32) (v845 : BitVec 32) (v869 : BitVec 32) (Fr : sProp 𝕄) {Kt : PUnit → sProp 𝕄}
    (h : At Y M K c (tab 2244444444444444 3333333322333333 2222222222220000 11111111110000 1110 1110) Fr ⊢ Kt ⟨⟩) :
    At Y M K c (tab 2224444444444444 3333333322233333 2222222222220000 1111111110000 1110 1110) Fr ⊢ run c (k1_part32 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v436 v845 v869) Kt := by
  rw [k1_part32_eq_skeleton]
  unfold k1_part32_skel
  simp only [Prog.lift, Prog.bind_op, Prog.bind_ret, Prog.pure_eq_ret, Prog.bind_assoc]
  refine step_drWait Y M K c 13 (by decide) (tab 2224444444444444 3333333322233333 2222222222220000 1111111110000 1110 1110) (tab 2224444444444444 3333333322233333 2222222222220000 11111111110000 1110 1110) Fr rfl rfl rfl (by decide +kernel) (by decide +kernel) (by rfl) ?_
  refine step_rLoad Y M K c 13 (by decide) (tab 2224444444444444 3333333322233333 2222222222220000 11111111110000 1110 1110) Fr rfl rfl ?_
  refine step_bLoad Y M K c 13 (tab 2224444444444444 3333333322233333 2222222222220000 11111111110000 1110 1110) Fr rfl rfl ?_
  refine step_bStore Y M K c 13 (tab 2224444444444444 3333333322233333 2222222222220000 11111111110000 1110 1110) (tab 2234444444444444 3333333322233333 2222222222220000 11111111110000 1110 1110) Fr rfl rfl rfl (by decide +kernel) (far_row Y M c 13 (by decide)) ?_
  refine step_write Y M K c 13 (tab 2234444444444444 3333333322233333 2222222222220000 11111111110000 1110 1110) (tab 2244444444444444 3333333322333333 2222222222220000 11111111110000 1110 1110) Fr rfl (ySlice_eq c 5 _ (off3_at c 2 1 5 rfl rfl) _) rfl rfl rfl rfl rfl (by decide +kernel) ?_
  exact step_ret c (h)

theorem part33 (c : Dev nD) (v436 : BitVec 32) (v845 : BitVec 32) (Fr : sProp 𝕄) {Kt : PUnit → sProp 𝕄}
    (h : At Y M K c (tab 2444444444444444 3333333323333333 2222222222220000 1111111111110000 1110 1110) Fr ⊢ Kt ⟨⟩) :
    At Y M K c (tab 2244444444444444 3333333322333333 2222222222220000 11111111110000 1110 1110) Fr ⊢ run c (k1_part33 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v436 v845) Kt := by
  rw [k1_part33_eq_skeleton]
  unfold k1_part33_skel
  simp only [Prog.lift, Prog.bind_op, Prog.bind_ret, Prog.pure_eq_ret, Prog.bind_assoc]
  refine step_drWait Y M K c 14 (by decide) (tab 2244444444444444 3333333322333333 2222222222220000 11111111110000 1110 1110) (tab 2244444444444444 3333333322333333 2222222222220000 111111111110000 1110 1110) Fr rfl rfl rfl (by decide +kernel) (by decide +kernel) (by rfl) ?_
  refine step_rLoad Y M K c 14 (by decide) (tab 2244444444444444 3333333322333333 2222222222220000 111111111110000 1110 1110) Fr rfl rfl ?_
  refine step_bLoad Y M K c 14 (tab 2244444444444444 3333333322333333 2222222222220000 111111111110000 1110 1110) Fr rfl rfl ?_
  refine step_bStore Y M K c 14 (tab 2244444444444444 3333333322333333 2222222222220000 111111111110000 1110 1110) (tab 2344444444444444 3333333322333333 2222222222220000 111111111110000 1110 1110) Fr rfl rfl rfl (by decide +kernel) (far_row Y M c 14 (by decide)) ?_
  refine step_write Y M K c 14 (tab 2344444444444444 3333333322333333 2222222222220000 111111111110000 1110 1110) (tab 2444444444444444 3333333323333333 2222222222220000 111111111110000 1110 1110) Fr rfl (ySlice_eq c 6 _ (off3_at c 2 2 6 rfl rfl) _) rfl rfl rfl rfl rfl (by decide +kernel) ?_
  refine step_drWait Y M K c 15 (by decide) (tab 2444444444444444 3333333323333333 2222222222220000 111111111110000 1110 1110) (tab 2444444444444444 3333333323333333 2222222222220000 1111111111110000 1110 1110) Fr rfl rfl rfl (by decide +kernel) (by decide +kernel) (by rfl) ?_
  exact step_ret c (h)

theorem part34 (c : Dev nD) (v845 : BitVec 32) (Fr : sProp 𝕄) {Kt : PUnit → sProp 𝕄}
    (h : At Y M K c (tab 4444444444444455 3333333333333344 2222222222220000 1111111111110000 1110 1110) Fr ⊢ Kt ⟨⟩) :
    At Y M K c (tab 2444444444444444 3333333323333333 2222222222220000 1111111111110000 1110 1110) Fr ⊢ run c (k1_part34 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c (k1_pay2 (tabA M c)) v845) Kt := by
  rw [k1_part34_eq_skeleton]
  unfold k1_part34_skel
  simp only [Prog.lift, Prog.bind_op, Prog.bind_ret, Prog.pure_eq_ret, Prog.bind_assoc]
  refine step_rLoad Y M K c 15 (by decide) (tab 2444444444444444 3333333323333333 2222222222220000 1111111111110000 1110 1110) Fr rfl rfl ?_
  refine step_bLoad Y M K c 15 (tab 2444444444444444 3333333323333333 2222222222220000 1111111111110000 1110 1110) Fr rfl rfl ?_
  refine step_bStore Y M K c 15 (tab 2444444444444444 3333333323333333 2222222222220000 1111111111110000 1110 1110) (tab 3444444444444444 3333333323333333 2222222222220000 1111111111110000 1110 1110) Fr rfl rfl rfl (by decide +kernel) (far_row Y M c 15 (by decide)) ?_
  refine step_write Y M K c 15 (tab 3444444444444444 3333333323333333 2222222222220000 1111111111110000 1110 1110) (tab 4444444444444444 3333333333333333 2222222222220000 1111111111110000 1110 1110) Fr rfl (ySlice_eq c 7 _ (off3_at c 2 3 7 rfl rfl) _) rfl rfl rfl rfl rfl (by decide +kernel) ?_
  refine step_wrWait Y M K c 0 (tab 4444444444444444 3333333333333333 2222222222220000 1111111111110000 1110 1110) (tab 4444444444444445 3333333333333334 2222222222220000 1111111111110000 1110 1110) Fr rfl rfl rfl rfl rfl (by decide +kernel) (by rfl) ?_
  refine step_wrWait Y M K c 1 (tab 4444444444444445 3333333333333334 2222222222220000 1111111111110000 1110 1110) (tab 4444444444444455 3333333333333344 2222222222220000 1111111111110000 1110 1110) Fr rfl rfl rfl rfl rfl (by decide +kernel) (by rfl) ?_
  exact step_ret c (h)

end Cert.KernelIdeal.A2a

end
-- ==== Proof.A2a.PartsE.lean ====
/-
  The parts of the exchange kernel's body, waiting for what is in flight: each takes the device from one state to the next.
-/
module

public import proofs.«01_k».proof.Proof.A2a.States

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (Y : Fin 4 → Vec F S4096x2048 .f32) (M : Fin 4 → Vec F S8x128 .f32) (K : GSem nD τ sig → ℕ)
variable (arg1 : Memref sig .tc .vmem S8x128 .f32) (harg1 : arg1.IsWhole)

theorem part35 (c : Dev nD) (Fr : sProp 𝕄) {Kt : PUnit → sProp 𝕄}
    (h : At Y M K c (tab 4444444445555555 3444333333334444 2222222222220000 1111111111110000 1110 1110) Fr ⊢ Kt ⟨⟩) :
    At Y M K c (tab 4444444444444455 3333333333333344 2222222222220000 1111111111110000 1110 1110) Fr ⊢ run c (k1_part35 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c) Kt := by
  rw [k1_part35_eq_skeleton]
  unfold k1_part35_skel
  simp only [Prog.lift, Prog.bind_op, Prog.bind_ret, Prog.pure_eq_ret, Prog.bind_assoc]
  refine step_wrWait Y M K c 2 (tab 4444444444444455 3333333333333344 2222222222220000 1111111111110000 1110 1110) (tab 4444444444444555 3333333333333444 2222222222220000 1111111111110000 1110 1110) Fr rfl rfl rfl rfl rfl (by decide +kernel) (by rfl) ?_
  refine step_wrWait Y M K c 3 (tab 4444444444444555 3333333333333444 2222222222220000 1111111111110000 1110 1110) (tab 4444444444445555 3333333333334444 2222222222220000 1111111111110000 1110 1110) Fr rfl rfl rfl rfl rfl (by decide +kernel) (by rfl) ?_
  refine step_wrWait Y M K c 4 (tab 4444444444445555 3333333333334444 2222222222220000 1111111111110000 1110 1110) (tab 4444444444455555 3334333333334444 2222222222220000 1111111111110000 1110 1110) Fr rfl rfl rfl rfl rfl (by decide +kernel) (by rfl) ?_
  refine step_wrWait Y M K c 5 (tab 4444444444455555 3334333333334444 2222222222220000 1111111111110000 1110 1110) (tab 4444444444555555 3344333333334444 2222222222220000 1111111111110000 1110 1110) Fr rfl rfl rfl rfl rfl (by decide +kernel) (by rfl) ?_
  refine step_wrWait Y M K c 6 (tab 4444444444555555 3344333333334444 2222222222220000 1111111111110000 1110 1110) (tab 4444444445555555 3444333333334444 2222222222220000 1111111111110000 1110 1110) Fr rfl rfl rfl rfl rfl (by decide +kernel) (by rfl) ?_
  exact step_ret c (h)

theorem part36 (c : Dev nD) (Fr : sProp 𝕄) {Kt : PUnit → sProp 𝕄}
    (h : At Y M K c (tab 4444555555555555 4444444433334444 2222222222220000 1111111111110000 1110 1110) Fr ⊢ Kt ⟨⟩) :
    At Y M K c (tab 4444444445555555 3444333333334444 2222222222220000 1111111111110000 1110 1110) Fr ⊢ run c (k1_part36 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c) Kt := by
  rw [k1_part36_eq_skeleton]
  unfold k1_part36_skel
  simp only [Prog.lift, Prog.bind_op, Prog.bind_ret, Prog.pure_eq_ret, Prog.bind_assoc]
  refine step_wrWait Y M K c 7 (tab 4444444445555555 3444333333334444 2222222222220000 1111111111110000 1110 1110) (tab 4444444455555555 4444333333334444 2222222222220000 1111111111110000 1110 1110) Fr rfl rfl rfl rfl rfl (by decide +kernel) (by rfl) ?_
  refine step_wrWait Y M K c 8 (tab 4444444455555555 4444333333334444 2222222222220000 1111111111110000 1110 1110) (tab 4444444555555555 4444333433334444 2222222222220000 1111111111110000 1110 1110) Fr rfl rfl rfl rfl rfl (by decide +kernel) (by rfl) ?_
  refine step_wrWait Y M K c 9 (tab 4444444555555555 4444333433334444 2222222222220000 1111111111110000 1110 1110) (tab 4444445555555555 4444334433334444 2222222222220000 1111111111110000 1110 1110) Fr rfl rfl rfl rfl rfl (by decide +kernel) (by rfl) ?_
  refine step_wrWait Y M K c 10 (tab 4444445555555555 4444334433334444 2222222222220000 1111111111110000 1110 1110) (tab 4444455555555555 4444344433334444 2222222222220000 1111111111110000 1110 1110) Fr rfl rfl rfl rfl rfl (by decide +kernel) (by rfl) ?_
  refine step_wrWait Y M K c 11 (tab 4444455555555555 4444344433334444 2222222222220000 1111111111110000 1110 1110) (tab 4444555555555555 4444444433334444 2222222222220000 1111111111110000 1110 1110) Fr rfl rfl rfl rfl rfl (by decide +kernel) (by rfl) ?_
  exact step_ret c (h)

theorem part37 (c : Dev nD) (Fr : sProp 𝕄) {Kt : PUnit → sProp 𝕄}
    (h : At Y M K c (tab 5555555555555555 4444444444444444 2222222222220000 1111111111110000 1120 1110) Fr ⊢ Kt ⟨⟩) :
    At Y M K c (tab 4444555555555555 4444444433334444 2222222222220000 1111111111110000 1110 1110) Fr ⊢ run c (k1_part37 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 c) Kt := by
  rw [k1_part37_eq_skeleton]
  unfold k1_part37_skel
  simp only [Prog.lift, Prog.bind_op, Prog.bind_ret, Prog.pure_eq_ret, Prog.bind_assoc]
  refine step_wrWait Y M K c 12 (tab 4444555555555555 4444444433334444 2222222222220000 1111111111110000 1110 1110) (tab 4445555555555555 4444444433344444 2222222222220000 1111111111110000 1110 1110) Fr rfl rfl rfl rfl rfl (by decide +kernel) (by rfl) ?_
  refine step_wrWait Y M K c 13 (tab 4445555555555555 4444444433344444 2222222222220000 1111111111110000 1110 1110) (tab 4455555555555555 4444444433444444 2222222222220000 1111111111110000 1110 1110) Fr rfl rfl rfl rfl rfl (by decide +kernel) (by rfl) ?_
  refine step_wrWait Y M K c 14 (tab 4455555555555555 4444444433444444 2222222222220000 1111111111110000 1110 1110) (tab 4555555555555555 4444444434444444 2222222222220000 1111111111110000 1110 1110) Fr rfl rfl rfl rfl rfl (by decide +kernel) (by rfl) ?_
  refine step_wrWait Y M K c 15 (tab 4555555555555555 4444444434444444 2222222222220000 1111111111110000 1110 1110) (tab 5555555555555555 4444444444444444 2222222222220000 1111111111110000 1110 1110) Fr rfl rfl rfl rfl rfl (by decide +kernel) (by rfl) ?_
  refine step_asWait Y M K c 1 (by decide) (tab 5555555555555555 4444444444444444 2222222222220000 1111111111110000 1110 1110) (tab 5555555555555555 4444444444444444 2222222222220000 1111111111110000 1120 1110) Fr rfl rfl rfl (by decide +kernel) (by rfl) ?_
  exact step_ret c (h)

theorem part38 (c : Dev nD) (Fr : sProp 𝕄) {Kt : PUnit → sProp 𝕄}
    (h : At Y M K c (tab 5555555555555555 4444444444444444 2222222222230000 1111111111110000 2220 1110) Fr ⊢ Kt ⟨⟩) :
    At Y M K c (tab 5555555555555555 4444444444444444 2222222222220000 1111111111110000 1120 1110) Fr ⊢ run c (k1_part38 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 ) Kt := by
  rw [k1_part38_eq_skeleton]
  unfold k1_part38_skel
  simp only [Prog.lift, Prog.bind_op, Prog.bind_ret, Prog.pure_eq_ret, Prog.bind_assoc]
  refine step_asWait Y M K c 2 (by decide) (tab 5555555555555555 4444444444444444 2222222222220000 1111111111110000 1120 1110) (tab 5555555555555555 4444444444444444 2222222222220000 1111111111110000 1220 1110) Fr rfl rfl rfl (by decide +kernel) (by rfl) ?_
  refine step_asWait Y M K c 3 (by decide) (tab 5555555555555555 4444444444444444 2222222222220000 1111111111110000 1220 1110) (tab 5555555555555555 4444444444444444 2222222222220000 1111111111110000 2220 1110) Fr rfl rfl rfl (by decide +kernel) (by rfl) ?_
  refine step_dsWait Y M K c 4 (by decide) (tab 5555555555555555 4444444444444444 2222222222220000 1111111111110000 2220 1110) (tab 5555555555555555 4444444444444444 2222222222230000 1111111111110000 2220 1110) Fr rfl rfl rfl (by decide +kernel) (by rfl) ?_
  exact step_ret c (h)

theorem part39 (c : Dev nD) (Fr : sProp 𝕄) {Kt : PUnit → sProp 𝕄}
    (h : At Y M K c (tab 5555555555555555 4444444444444444 2222222333330000 1111111111110000 2220 1110) Fr ⊢ Kt ⟨⟩) :
    At Y M K c (tab 5555555555555555 4444444444444444 2222222222230000 1111111111110000 2220 1110) Fr ⊢ run c (k1_part39 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 ) Kt := by
  rw [k1_part39_eq_skeleton]
  unfold k1_part39_skel
  simp only [Prog.lift, Prog.bind_op, Prog.bind_ret, Prog.pure_eq_ret, Prog.bind_assoc]
  refine step_dsWait Y M K c 5 (by decide) (tab 5555555555555555 4444444444444444 2222222222230000 1111111111110000 2220 1110) (tab 5555555555555555 4444444444444444 2222222222330000 1111111111110000 2220 1110) Fr rfl rfl rfl (by decide +kernel) (by rfl) ?_
  refine step_dsWait Y M K c 6 (by decide) (tab 5555555555555555 4444444444444444 2222222222330000 1111111111110000 2220 1110) (tab 5555555555555555 4444444444444444 2222222223330000 1111111111110000 2220 1110) Fr rfl rfl rfl (by decide +kernel) (by rfl) ?_
  refine step_dsWait Y M K c 7 (by decide) (tab 5555555555555555 4444444444444444 2222222223330000 1111111111110000 2220 1110) (tab 5555555555555555 4444444444444444 2222222233330000 1111111111110000 2220 1110) Fr rfl rfl rfl (by decide +kernel) (by rfl) ?_
  refine step_dsWait Y M K c 8 (by decide) (tab 5555555555555555 4444444444444444 2222222233330000 1111111111110000 2220 1110) (tab 5555555555555555 4444444444444444 2222222333330000 1111111111110000 2220 1110) Fr rfl rfl rfl (by decide +kernel) (by rfl) ?_
  exact step_ret c (h)

theorem part40 (c : Dev nD) (Fr : sProp 𝕄) {Kt : PUnit → sProp 𝕄}
    (h : At Y M K c (tab 5555555555555555 4444444444444444 2222333333330000 1111111111110000 2220 1110) Fr ⊢ Kt ⟨⟩) :
    At Y M K c (tab 5555555555555555 4444444444444444 2222222333330000 1111111111110000 2220 1110) Fr ⊢ run c (k1_part40 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 ) Kt := by
  rw [k1_part40_eq_skeleton]
  unfold k1_part40_skel
  simp only [Prog.lift, Prog.bind_op, Prog.bind_ret, Prog.pure_eq_ret, Prog.bind_assoc]
  refine step_dsWait Y M K c 9 (by decide) (tab 5555555555555555 4444444444444444 2222222333330000 1111111111110000 2220 1110) (tab 5555555555555555 4444444444444444 2222223333330000 1111111111110000 2220 1110) Fr rfl rfl rfl (by decide +kernel) (by rfl) ?_
  refine step_dsWait Y M K c 10 (by decide) (tab 5555555555555555 4444444444444444 2222223333330000 1111111111110000 2220 1110) (tab 5555555555555555 4444444444444444 2222233333330000 1111111111110000 2220 1110) Fr rfl rfl rfl (by decide +kernel) (by rfl) ?_
  refine step_dsWait Y M K c 11 (by decide) (tab 5555555555555555 4444444444444444 2222233333330000 1111111111110000 2220 1110) (tab 5555555555555555 4444444444444444 2222333333330000 1111111111110000 2220 1110) Fr rfl rfl rfl (by decide +kernel) (by rfl) ?_
  exact step_ret c (h)

theorem part41 (c : Dev nD) (Fr : sProp 𝕄) {Kt : PUnit → sProp 𝕄}
    (h : At Y M K c (tab 5555555555555555 4444444444444444 2333333333330000 1111111111110000 2220 1110) Fr ⊢ Kt ⟨⟩) :
    At Y M K c (tab 5555555555555555 4444444444444444 2222333333330000 1111111111110000 2220 1110) Fr ⊢ run c (k1_part41 bufY (Memref.isWhole_whole _) arg1 harg1 bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9 ) Kt := by
  rw [k1_part41_eq_skeleton]
  unfold k1_part41_skel
  simp only [Prog.lift, Prog.bind_op, Prog.bind_ret, Prog.pure_eq_ret, Prog.bind_assoc]
  refine step_dsWait Y M K c 12 (by decide) (tab 5555555555555555 4444444444444444 2222333333330000 1111111111110000 2220 1110) (tab 5555555555555555 4444444444444444 2223333333330000 1111111111110000 2220 1110) Fr rfl rfl rfl (by decide +kernel) (by rfl) ?_
  refine step_dsWait Y M K c 13 (by decide) (tab 5555555555555555 4444444444444444 2223333333330000 1111111111110000 2220 1110) (tab 5555555555555555 4444444444444444 2233333333330000 1111111111110000 2220 1110) Fr rfl rfl rfl (by decide +kernel) (by rfl) ?_
  refine step_dsWait Y M K c 14 (by decide) (tab 5555555555555555 4444444444444444 2233333333330000 1111111111110000 2220 1110) (tab 5555555555555555 4444444444444444 2333333333330000 1111111111110000 2220 1110) Fr rfl rfl rfl (by decide +kernel) (by rfl) ?_
  exact step_ret c (h)

end Cert.KernelIdeal.A2a

end
-- ==== Proof.A2a.Body.lean ====
/-
  The run of the exchange kernel: its parts one after the other, then its last wait.
-/
module

public import proofs.«01_k».proof.Proof.A2a.Prologue
public import proofs.«01_k».proof.Proof.A2a.PartsA
public import proofs.«01_k».proof.Proof.A2a.PartsB
public import proofs.«01_k».proof.Proof.A2a.PartsC
public import proofs.«01_k».proof.Proof.A2a.PartsD
public import proofs.«01_k».proof.Proof.A2a.PartsE

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (Y : Fin 4 → Vec F S4096x2048 .f32) (M : Fin 4 → Vec F S8x128 .f32) (K : GSem nD τ sig → ℕ)

theorem run_bind (c : Dev nD) {α β : Type} {p : Prog (TpuEff nD τ sig (Elt F) Λ₀ .tc) α} {k : α → Prog (TpuEff nD τ sig (Elt F) Λ₀ .tc) β}
    {Kt : β → sProp 𝕄} {P : sProp 𝕄} (h : P ⊢ run c p (fun a => run c (k a) Kt)) : P ⊢ run c (p >>= k) Kt := by
  unfold run at h ⊢
  rw [wp_bind]
  exact h

/-- The program of the exchange on its buffers. -/
abbrev prog : Prog (TpuEff nD τ sig (Elt F) Λ₀ .tc) PUnit :=
  cc1_body bufY (Memref.isWhole_whole _) stg (Memref.isWhole_whole _) bufY (Memref.isWhole_whole _) bufB (Memref.isWhole_whole _) bufQ (Memref.isWhole_whole _) bufR (Memref.isWhole_whole _) bufA (Memref.isWhole_whole _) cc1_scratch4 cc1_scratch5 cc1_scratch6 cc1_scratch7 cc1_scratch8 cc1_scratch9

/-- The state at the end. -/
def done : State := tab 5555555555555555 4444444444444444 3333333333330000 1111111111110000 2220 1110

theorem body_run (c : Dev nD) (Fr : sProp 𝕄) {Kt : PUnit → sProp 𝕄} (h : At Y M K c done iprop(beside M c ∗ Fr) ⊢ iprop(|={Set.univ}=> Kt ⟨⟩)) :
    iprop(known Y M K c ∗ buffers Y c ∗ ghosts c ∗ barrier c ∗ (∃ W, owes (c : Thread nD τ) (owed0 c) W) ∗ stage M c ∗ Fr)
      ⊢ run c (prog (F := F)) Kt := by
  unfold prog
  rw [cc1_body_eq_skeleton]
  unfold cc1_body_skel
  refine run_bind c (part1 Y M K c Fr (fun u0 u1 u2 => ?_))
  refine run_bind c (part2 Y M K stg (Memref.isWhole_whole _) c _ _ _ iprop(beside M c ∗ Fr) (fun u0 u1 => ?_))
  refine run_bind c (part3 Y M K stg (Memref.isWhole_whole _) c _ iprop(beside M c ∗ Fr) (fun u0 => ?_))
  refine run_bind c (part4 Y M K stg (Memref.isWhole_whole _) c _ _ iprop(beside M c ∗ Fr) (fun u0 => ?_))
  refine run_bind c (part5 Y M K stg (Memref.isWhole_whole _) c _ _ iprop(beside M c ∗ Fr) (fun u0 u1 => ?_))
  refine run_bind c (part6 Y M K stg (Memref.isWhole_whole _) c _ _ _ iprop(beside M c ∗ Fr) (fun u0 => ?_))
  refine run_bind c (part7 Y M K stg (Memref.isWhole_whole _) c _ _ iprop(beside M c ∗ Fr) (?_))
  refine run_bind c (part8 Y M K stg (Memref.isWhole_whole _) c _ _ _ iprop(beside M c ∗ Fr) (fun u1 => ?_))
  refine run_bind c (part9 Y M K stg (Memref.isWhole_whole _) c _ iprop(beside M c ∗ Fr) (?_))
  refine run_bind c (part10 Y M K stg (Memref.isWhole_whole _) c _ iprop(beside M c ∗ Fr) (?_))
  refine run_bind c (part11 Y M K stg (Memref.isWhole_whole _) c _ iprop(beside M c ∗ Fr) (?_))
  refine run_bind c (part12 Y M K stg (Memref.isWhole_whole _) c _ _ iprop(beside M c ∗ Fr) (fun u0 => ?_))
  refine run_bind c (part13 Y M K stg (Memref.isWhole_whole _) c _ iprop(beside M c ∗ Fr) (?_))
  refine run_bind c (part14 Y M K stg (Memref.isWhole_whole _) c _ iprop(beside M c ∗ Fr) (?_))
  refine run_bind c (part15 Y M K stg (Memref.isWhole_whole _) c _ iprop(beside M c ∗ Fr) (?_))
  refine run_bind c (part16 Y M K stg (Memref.isWhole_whole _) c _ _ iprop(beside M c ∗ Fr) (fun u0 => ?_))
  refine run_bind c (part17 Y M K stg (Memref.isWhole_whole _) c _ iprop(beside M c ∗ Fr) (?_))
  refine run_bind c (part18 Y M K stg (Memref.isWhole_whole _) c _ iprop(beside M c ∗ Fr) (?_))
  refine run_bind c (part19 Y M K stg (Memref.isWhole_whole _) c _ iprop(beside M c ∗ Fr) (?_))
  refine run_bind c (part20 Y M K stg (Memref.isWhole_whole _) c _ _ iprop(beside M c ∗ Fr) (fun u0 u1 => ?_))
  refine run_bind c (part21 Y M K stg (Memref.isWhole_whole _) c _ _ _ iprop(beside M c ∗ Fr) (?_))
  refine run_bind c (part22 Y M K stg (Memref.isWhole_whole _) c _ iprop(beside M c ∗ Fr) (?_))
  refine run_bind c (part23 Y M K stg (Memref.isWhole_whole _) c _ _ iprop(beside M c ∗ Fr) (fun u0 u1 => ?_))
  refine run_bind c (part24 Y M K stg (Memref.isWhole_whole _) c _ _ _ iprop(beside M c ∗ Fr) (?_))
  refine run_bind c (part25 Y M K stg (Memref.isWhole_whole _) c _ _ iprop(beside M c ∗ Fr) (?_))
  refine run_bind c (part26 Y M K stg (Memref.isWhole_whole _) c _ _ iprop(beside M c ∗ Fr) (?_))
  refine run_bind c (part27 Y M K stg (Memref.isWhole_whole _) c _ _ _ iprop(beside M c ∗ Fr) (fun u0 => ?_))
  refine run_bind c (part28 Y M K stg (Memref.isWhole_whole _) c _ _ iprop(beside M c ∗ Fr) (?_))
  refine run_bind c (part29 Y M K stg (Memref.isWhole_whole _) c _ _ iprop(beside M c ∗ Fr) (?_))
  refine run_bind c (part30 Y M K stg (Memref.isWhole_whole _) c _ _ _ iprop(beside M c ∗ Fr) (fun u0 => ?_))
  refine run_bind c (part31 Y M K stg (Memref.isWhole_whole _) c _ _ iprop(beside M c ∗ Fr) (fun u0 => ?_))
  refine run_bind c (part32 Y M K stg (Memref.isWhole_whole _) c _ _ _ iprop(beside M c ∗ Fr) (?_))
  refine run_bind c (part33 Y M K stg (Memref.isWhole_whole _) c _ _ iprop(beside M c ∗ Fr) (?_))
  refine run_bind c (part34 Y M K stg (Memref.isWhole_whole _) c _ iprop(beside M c ∗ Fr) (?_))
  refine run_bind c (part35 Y M K stg (Memref.isWhole_whole _) c  iprop(beside M c ∗ Fr) (?_))
  refine run_bind c (part36 Y M K stg (Memref.isWhole_whole _) c  iprop(beside M c ∗ Fr) (?_))
  refine run_bind c (part37 Y M K stg (Memref.isWhole_whole _) c  iprop(beside M c ∗ Fr) (?_))
  refine run_bind c (part38 Y M K stg (Memref.isWhole_whole _) c  iprop(beside M c ∗ Fr) (?_))
  refine run_bind c (part39 Y M K stg (Memref.isWhole_whole _) c  iprop(beside M c ∗ Fr) (?_))
  refine run_bind c (part40 Y M K stg (Memref.isWhole_whole _) c  iprop(beside M c ∗ Fr) (?_))
  refine run_bind c (part41 Y M K stg (Memref.isWhole_whole _) c  iprop(beside M c ∗ Fr) (?_))
  simp only [Prog.lift, Prog.bind_op, Prog.bind_ret, Prog.pure_eq_ret, Prog.bind_assoc]
  refine step_dsWait Y M K c 15 (by decide) (tab 5555555555555555 4444444444444444 2333333333330000 1111111111110000 2220 1110) done iprop(beside M c ∗ Fr) rfl rfl rfl (by decide +kernel) (by rfl) ?_
  unfold run
  rw [wp_ret]
  exact h

end Cert.KernelIdeal.A2a

end
-- ==== Proof.A2a.Close.lean ====
/-
  The end of the exchange: every semaphore is closed, its counter back at zero, and the pieces are the whole buffers again.
-/
module

public import proofs.«01_k».proof.Proof.A2a.Body

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (Y : Fin 4 → Vec F S4096x2048 .f32) (M : Fin 4 → Vec F S8x128 .f32) (K : GSem nD τ sig → ℕ)

theorem close_cell (c : Dev nD) (s : DmaSem sig) (h : 7 ≤ s.val) (R : ℕ) (hR : ∀ r, R ≤ r → (sched Y M).duties ((c : Thread nD τ), .dma s) r = ∅) :
    iprop(known Y M K c ∗ atPos ER ((c : Thread nD τ), .dma s) R ∅ 0) ⊢ iprop(|={Set.univ}=> (semVal ((c : Thread nD τ), .dma s) 0 : sProp 𝕄)) := by
  iintro ⟨#Hk, Ha⟩
  iapply (Rounds.cell_close ER (sched Y M) (Set.mem_univ (K ((c : Thread nD τ), .dma s))) id hR)
  isplitr; · iapply (known_inv Y M K c c s h) $$ Hk
  iexact Ha

/-- The semaphore of a slot, in the order of the kernel's own. -/
def semOf : Slot → SemLoc sig
  | .inl (.inl (.inl i)) => .dma (copyS i)
  | .inl (.inl (.inr i)) => .dma (wrS i)
  | .inl (.inr (.inl i)) => .dma (dsS i)
  | .inl (.inr (.inr i)) => .dma (drS i)
  | .inr (.inl d) => .dma (asS d)
  | .inr (.inr d) => .dma (arS d)
def slotEquiv : Slot ≃ Fin 72 :=
  ((((finSumFinEquiv (m := 16) (n := 16)).sumCongr (finSumFinEquiv (m := 16) (n := 16))).trans (finSumFinEquiv (m := 32) (n := 32))).sumCongr
    (finSumFinEquiv (m := 4) (n := 4))).trans (finSumFinEquiv (m := 64) (n := 8))
theorem semOf_eq : ∀ k : Slot, osem1 (slotEquiv k) = semOf k := by decide +kernel

/-- All the counters of the exchange's own semaphores, by kind. -/
theorem own_sems (Φ : SemLoc sig → sProp 𝕄) : (bigSep Finset.univ fun k : Fin 72 => Φ (osem1 k))
    = iprop((((bigSep Finset.univ fun i => Φ (.dma (copyS i))) ∗ (bigSep Finset.univ fun i => Φ (.dma (wrS i))))
        ∗ ((bigSep Finset.univ fun i => Φ (.dma (dsS i))) ∗ (bigSep Finset.univ fun i => Φ (.dma (drS i)))))
        ∗ ((bigSep Finset.univ fun d => Φ (.dma (asS d))) ∗ (bigSep Finset.univ fun d => Φ (.dma (arS d))))) := by
  rw [bigSep_univ_equiv slotEquiv, show (fun k : Slot => Φ (osem1 (slotEquiv k))) = fun k => Φ (semOf k) from funext fun k => by rw [semOf_eq], slots]
  rfl

theorem in_two {ι : Type} [Fintype ι] (Φ Ψ : ι → sProp 𝕄) : (bigSep Finset.univ fun i => iprop(Φ i ∗ Ψ i)) ⊢ iprop(bigSep Finset.univ Φ ∗ bigSep Finset.univ Ψ) :=
  Entails.of_eq (bigSep_sep' _ _ _)
theorem fupd_all {ι : Type} [DecidableEq ι] [Fintype ι] {R : sProp 𝕄} [BI.Persistent R] {Φ Ψ : ι → sProp 𝕄}
    (h : ∀ i, iprop(R ∗ Φ i) ⊢ iprop(|={Set.univ}=> Ψ i)) : iprop(R ∗ bigSep Finset.univ Φ) ⊢ iprop(|={Set.univ}=> bigSep Finset.univ Ψ) :=
  (bigSep_with_persistent (S := Finset.univ) (R := R) (Φ := Φ) (Ψ := fun i => iprop(|={Set.univ}=> Ψ i)) fun i _ => h i).trans (bigSep_fupd _ _)

theorem copy_ge : ∀ i : Fin 16, 7 ≤ (copyS i).val := by decide
theorem wr_ge : ∀ i : Fin 16, 7 ≤ (wrS i).val := by decide
theorem ds_ge : ∀ i : Fin 16, 7 ≤ (dsS i).val := by decide
theorem as_ge : ∀ d : Fin 4, 7 ≤ (asS d).val := by decide

theorem end_b (c : Dev nD) : iprop(known Y M K c ∗ bigSep Finset.univ fun i => resB Y M c i 5)
    ⊢ iprop(|={Set.univ}=> bigSep Finset.univ fun i => iprop(bPt c i (writeB Y M c) ∗ semVal (copyCell c i) 0 ∗ semVal (wrCell c i) 0)) := by
  refine fupd_all fun i => ?_
  simp only [resB]
  iintro ⟨#Hk, B, A1, A2⟩
  imod (close_cell Y M K c (copyS i) (copy_ge i) 1 (sched_later Y M _)) $$ [A1] with S1
  · isplitr; · iexact Hk
    iexact A1
  imod (close_cell Y M K c (wrS i) (wr_ge i) 1 (sched_later Y M _)) $$ [A2] with S2
  · isplitr; · iexact Hk
    iexact A2
  imodintro
  isplitl [B]; · iexact B
  isplitl [S1]; · iexact S1
  iexact S2
theorem end_q (c : Dev nD) : iprop(known Y M K c ∗ bigSep Finset.univ fun i => resQ Y M c i 3)
    ⊢ iprop(|={Set.univ}=> bigSep Finset.univ fun i : Fin 16 => iprop((if 4 ≤ i.val then qPt c i (sendQ Y M c) else iprop(emp)) ∗ semVal (dsCell c i) 0)) := by
  refine fupd_all fun i => ?_
  simp only [resQ]
  by_cases hi : 4 ≤ i.val
  · rw [if_pos hi, if_pos hi]
    iintro ⟨#Hk, B, A1⟩
    imod (close_cell Y M K c (dsS i) (ds_ge i) 1 (sched_later Y M _)) $$ [A1] with S1
    · isplitr; · iexact Hk
      iexact A1
    imodintro
    isplitl [B]; · iexact B
    iexact S1
  · rw [if_neg hi, if_neg hi]
    iintro ⟨#Hk, A1⟩
    imod (close_cell Y M K c (dsS i) (ds_ge i) 0 (sched_none Y M c (.dma (dsS i)) (by rw [role_ds]; exact if_neg hi))) $$ [A1] with S1
    · isplitr; · iexact Hk
      iexact A1
    imodintro
    isplitr; · iempintro
    iexact S1
theorem end_r (c : Dev nD) : iprop(known Y M K c ∗ bigSep Finset.univ fun i => resR Y M c i 1)
    ⊢ iprop(|={Set.univ}=> bigSep Finset.univ fun i : Fin 16 => iprop((if 4 ≤ i.val then rPt c i (recvQ Y M c) else iprop(emp)) ∗ semVal (drCell c i) 0)) := by
  refine fupd_all fun i => ?_
  simp only [resR]
  by_cases hi : 4 ≤ i.val
  · rw [if_pos hi, if_pos hi]
    iintro ⟨#Hk, B, A1⟩
    imod (close_cell Y M K c (drS i) (dr_ge i) 1 (sched_later Y M _)) $$ [A1] with S1
    · isplitr; · iexact Hk
      iexact A1
    imodintro
    isplitl [B]; · iexact B
    iexact S1
  · rw [if_neg hi, if_neg hi]
    iintro ⟨#Hk, A1⟩
    imod (close_cell Y M K c (drS i) (dr_ge i) 0 (sched_none Y M c (.dma (drS i)) (by rw [role_dr]; exact if_neg hi))) $$ [A1] with S1
    · isplitr; · iexact Hk
      iexact A1
    imodintro
    isplitr; · iempintro
    iexact S1
/-- What a slot of maxima sent, or received, leaves. -/
def leftA (c : Dev nD) (d : Fin 4) : sProp 𝕄 := if d ≠ 0 then aPt c 0 (quarter d) (tabA M c) else iprop(emp)
def leftE (c : Dev nD) (d : Fin 4) : sProp 𝕄 := if d ≠ 0 then aPt c d fullShare (tabA M c) else aPt c 0 (quarter 0) (tabA M c)
theorem end_a (c : Dev nD) : iprop(known Y M K c ∗ bigSep Finset.univ fun d => resA M c d 2)
    ⊢ iprop(|={Set.univ}=> bigSep Finset.univ fun d : Fin 4 => iprop(leftA M c d ∗ semVal (asCell c d) 0)) := by
  refine fupd_all fun i => ?_
  simp only [resA, leftA]
  by_cases hi : i ≠ 0
  · rw [if_pos hi, if_pos hi]
    iintro ⟨#Hk, B, A1⟩
    imod (close_cell Y M K c (asS i) (as_ge i) 1 (sched_later Y M _)) $$ [A1] with S1
    · isplitr; · iexact Hk
      iexact A1
    imodintro
    isplitl [B]; · iexact B
    iexact S1
  · rw [if_neg hi, if_neg hi]
    iintro ⟨#Hk, A1⟩
    imod (close_cell Y M K c (asS i) (as_ge i) 0 (sched_none Y M c (.dma (asS i)) (by rw [role_as]; exact if_neg hi))) $$ [A1] with S1
    · isplitr; · iexact Hk
      iexact A1
    imodintro
    isplitr; · iempintro
    iexact S1
theorem end_e (c : Dev nD) : iprop(known Y M K c ∗ bigSep Finset.univ fun d => resE M c d 1)
    ⊢ iprop(|={Set.univ}=> bigSep Finset.univ fun d : Fin 4 => iprop(leftE M c d ∗ semVal (arCell c d) 0)) := by
  refine fupd_all fun i => ?_
  simp only [resE, leftE]
  by_cases hi : i ≠ 0
  · rw [if_pos hi, if_pos hi]
    iintro ⟨#Hk, B, A1⟩
    imod (close_cell Y M K c (arS i) (ar_ge i) 1 (sched_later Y M _)) $$ [A1] with S1
    · isplitr; · iexact Hk
      iexact A1
    imodintro
    isplitl [B]; · iexact B
    iexact S1
  · rw [if_neg hi, if_neg hi]
    iintro ⟨#Hk, B, A1⟩
    imod (close_cell Y M K c (arS i) (ar_ge i) 0 (sched_none Y M c (.dma (arS i)) (by rw [role_ar]; exact if_neg hi))) $$ [A1] with S1
    · isplitr; · iexact Hk
      iexact A1
    imodintro
    isplitl [B]; · iexact B
    iexact S1

theorem table_back (c : Dev nD) : iprop(bigSep Finset.univ (leftA M c) ∗ bigSep Finset.univ (leftE M c))
    ⊢ (bufA.view.loc (c : Thread nD τ) ↦[Finset.univ]{fullShare} tabA M c : sProp 𝕄) := by
  rw [aWhole, four, four, four, aPt_quarter c 0, show (Finset.univ.erase (0 : Fin 4)) = ({1, 2, 3} : Finset (Fin 4)) from by decide, three]
  unfold leftA leftE
  simp only [if_neg (by decide : ¬ (0 : Fin 4) ≠ 0), if_pos (by decide : (1 : Fin 4) ≠ 0), if_pos (by decide : (2 : Fin 4) ≠ 0), if_pos (by decide : (3 : Fin 4) ≠ 0)]
  iintro ⟨⟨-, Q1, Q2, Q3⟩, Q0, A1, A2, A3⟩
  isplitl [Q0 Q1 Q2 Q3]
  · isplitl [Q0]; · iexact Q0
    isplitl [Q1]; · iexact Q1
    isplitl [Q2]; · iexact Q2
    iexact Q3
  isplitl [A1]; · iexact A1
  isplitl [A2]; · iexact A2
  iexact A3

theorem done_b : ∀ i, done (kb i) = 5 := by decide +kernel
theorem done_y : ∀ i, done (ky i) = 4 := by decide +kernel
theorem done_q : ∀ i : Fin 16, 4 ≤ i.val → done (kq i) = 3 := by decide +kernel
theorem done_r : ∀ i : Fin 16, 4 ≤ i.val → done (kr i) = 1 := by decide +kernel
theorem done_a : ∀ d : Fin 4, d ≠ 0 → done (ka d) = 2 := by decide +kernel
theorem done_e : ∀ d : Fin 4, d ≠ 0 → done (ke d) = 1 := by decide +kernel

theorem owed_done (c : Dev nD) : owed c done = 0 := by
  refine Finset.sum_eq_zero fun k _ => ?_
  rcases k with ((i | i) | (i | i)) | (d | d)
  · rfl
  · rfl
  · exact if_neg fun h : 4 ≤ i.val ∧ done (kq i) ≤ 1 => absurd (done_q i h.1 ▸ h.2 : 3 ≤ 1) (by decide)
  · rfl
  · exact if_neg fun h : d ≠ 0 ∧ done (ka d) = 0 => absurd ((done_a d h.1).symm.trans h.2) (by decide)
  · rfl

/-- What device `c` has when the exchange is over. -/
def finished (c : Dev nD) : sProp 𝕄 :=
  iprop((∃ f : Vec F S4x1024x2048 .f32, bufB.view.loc (c : Thread nD τ) ↦[Finset.univ]{fullShare} f)
    ∗ (∃ f : Vec F S3x1024x2048 .i8, bufQ.view.loc (c : Thread nD τ) ↦[Finset.univ]{fullShare} f)
    ∗ (∃ f : Vec F S3x1024x2048 .i8, bufR.view.loc (c : Thread nD τ) ↦[Finset.univ]{fullShare} f)
    ∗ (∃ f : Vec F S4x8x128 .f32, bufA.view.loc (c : Thread nD τ) ↦[Finset.univ]{fullShare} f)
    ∗ (bufY.view.loc (c : Thread nD τ) ↦[Finset.univ]{fullShare} outY Y M c)
    ∗ (bigSep Finset.univ fun k : Fin 72 => semVal ((c : Thread nD τ), osem1 k) 0)
    ∗ semVal (barCell c) 0 ∗ stage M c ∗ ∃ W, owes (c : Thread nD τ) 0 W)

theorem close_all (c : Dev nD) (Fr : sProp 𝕄) : At Y M K c done iprop(beside M c ∗ Fr) ⊢ iprop(|={Set.univ}=> (finished Y M c ∗ Fr)) := by
  have eb : (fun i => res Y M c (kb i) (done (kb i))) = fun i => resB Y M c i 5 := funext fun i => by rw [done_b]; rfl
  have ey : (fun i => res Y M c (ky i) (done (ky i))) = fun i => yPt c i (outY Y M c) := funext fun i => by rw [done_y]; rfl
  have eq : (fun i => res Y M c (kq i) (done (kq i))) = fun i => resQ Y M c i 3 := funext fun i => by
    by_cases h : 4 ≤ i.val
    · rw [done_q i h]; rfl
    · simp only [res, resQ]; rw [if_neg h, if_neg h]
  have er : (fun i => res Y M c (kr i) (done (kr i))) = fun i => resR Y M c i 1 := funext fun i => by
    by_cases h : 4 ≤ i.val
    · rw [done_r i h]; rfl
    · simp only [res, resR]; rw [if_neg h, if_neg h]
  have ea : (fun i => res Y M c (ka i) (done (ka i))) = fun i => resA M c i 2 := funext fun i => by
    by_cases h : i ≠ 0
    · rw [done_a i h]; rfl
    · simp only [res, resA]; rw [if_neg h, if_neg h]
  have ee : (fun i => res Y M c (ke i) (done (ke i))) = fun i => resE M c i 1 := funext fun i => by
    by_cases h : i ≠ 0
    · rw [done_e i h]; rfl
    · simp only [res, resE]; rw [if_neg h, if_neg h]
  unfold At held
  rw [slots, eb, ey, eq, er, ea, ee, owed_done]
  unfold beside finished
  rw [own_sems (fun s => semVal ((c : Thread nD τ), s) 0)]
  iintro ⟨#Hk, ⟨⟨⟨⟨B, HY⟩, Q, R⟩, A, E⟩, HO⟩, ⟨Hst, HatB⟩, HFr⟩
  imod (end_b Y M K c) $$ [B] with B
  · isplitr; · iexact Hk
    iexact B
  imod (end_q Y M K c) $$ [Q] with Q
  · isplitr; · iexact Hk
    iexact Q
  imod (end_r Y M K c) $$ [R] with R
  · isplitr; · iexact Hk
    iexact R
  imod (end_a Y M K c) $$ [A] with A
  · isplitr; · iexact Hk
    iexact A
  imod (end_e Y M K c) $$ [E] with E
  · isplitr; · iexact Hk
    iexact E
  imod (Rounds.cell_close ER (sched Y M) (g := barCell c) (Set.mem_univ (K (barCell c))) id (sched_later Y M (barCell c))) $$ [HatB] with SB
  · isplitr; · iapply (known_bar Y M K c c) $$ Hk
    iexact HatB
  imodintro
  ihave B := (in_two _ _) $$ B
  icases B with ⟨B, S⟩
  ihave S := (in_two _ _) $$ S
  icases S with ⟨S1, S2⟩
  ihave Q := (in_two _ _) $$ Q
  icases Q with ⟨Q, S3⟩
  ihave R := (in_two _ _) $$ R
  icases R with ⟨R, S4⟩
  ihave A := (in_two _ _) $$ A
  icases A with ⟨A, S5⟩
  ihave E := (in_two _ _) $$ E
  icases E with ⟨E, S6⟩
  isplitr [HFr]
  · isplitl [B]
    · iexists writeB Y M c
      iapply (Entails.of_eq (bWhole c (writeB Y M c)).symm) $$ B
    isplitl [Q]
    · iexists sendQ Y M c
      iapply (Entails.of_eq (qWhole c (sendQ Y M c)).symm) $$ Q
    isplitl [R]
    · iexists recvQ Y M c
      iapply (Entails.of_eq (rWhole c (recvQ Y M c)).symm) $$ R
    isplitl [A E]
    · iexists tabA M c
      iapply (table_back M c)
      isplitl [A]; · iexact A
      iexact E
    isplitl [HY]
    · iapply (Entails.of_eq (yWhole c (outY Y M c)).symm) $$ HY
    isplitl [S1 S2 S3 S4 S5 S6]
    · isplitl [S1 S2 S3 S4]
      · isplitl [S1 S2]
        · isplitl [S1]; · iexact S1
          iexact S2
        isplitl [S3]; · iexact S3
        iexact S4
      isplitl [S5]; · iexact S5
      iexact S6
    isplitl [SB]; · iexact SB
    isplitl [Hst]; · iexact Hst
    iexact HO
  iexact HFr

/-- The whole run of the exchange on device `c`. -/
theorem exchange (c : Dev nD) (Fr : sProp 𝕄) {Kt : PUnit → sProp 𝕄} (h : iprop(finished Y M c ∗ Fr) ⊢ Kt ⟨⟩) :
    iprop(known Y M K c ∗ buffers Y c ∗ ghosts c ∗ barrier c ∗ (∃ W, owes (c : Thread nD τ) (owed0 c) W) ∗ stage M c ∗ Fr)
      ⊢ run c (prog (F := F)) Kt := by
  refine body_run Y M K c Fr ((close_all Y M K c Fr).trans ?_)
  iintro H
  imod H with H
  imodintro
  iapply h $$ H

end Cert.KernelIdeal.A2a

end
-- ==== Proof.A2a.Gemm.lean ====
/-
  The product kernel's body on one device, at its first grid point and at a later one.
-/
module

public import proofs.«01_k».proof.Proof.A2a.Close
public import Idealize.ShloMosaic.Lib.VecWindow

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig Unit (Elt F) ℕ UU ℕ

variable (x0 : Vec F S1024x4096 .f32) (x1 : Vec F S4096x1024 .f32) (x3 : Vec F S8x128 .f32)

set_option maxHeartbeats 1000000 in
/-- The body at the first point leaves the product of its blocks and the largest entry of it. -/
theorem first_run (c : Dev nD) (i : grid0.Coords) (arg1 : Memref sig .tc .vmem S1024x4096 .f32) (harg1 : arg1.IsWhole)
    (arg2 : Memref sig .tc .vmem S4096x1024 .f32) (harg2 : arg2.IsWhole) (arg3 : Memref sig .tc .vmem S1024x1024 .f32) (harg3 : arg3.IsWhole)
    (arg4 : Memref sig .tc .vmem S8x128 .f32) (harg4 : arg4.IsWhole) (hc0 : k0_cond1 i = 1#1) (hc1 : ¬ k0_cond2 i = 1#1) (Kt : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (k0_pay1 x0 x1)
          ∗ owns (c : Thread nD τ) arg4 fullShare (k0_pay2 x0 x1)) -∗ Kt ⟨⟩))
      ⊢ run c (cc0_body i arg1 harg1 arg2 harg2 arg3 harg3 arg4 harg4) Kt := by
  unfold run
  simp only [cc0_body_eq_skeleton]; unfold cc0_body_skel
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro; rw [View.read_writes_full, View.readAt_full, View.readAt_full, hf0, hf1]
  iexists _; isplitr; swap; · iexact H3
  ipureintro; rw [View.read_writes_full, View.readAt_full, View.readAt_full, hf0, hf1]

set_option maxHeartbeats 1000000 in
/-- The body at a later point leaves the product of its blocks and the largest entry so far. -/
theorem later_run (c : Dev nD) (i : grid0.Coords) (arg1 : Memref sig .tc .vmem S1024x4096 .f32) (harg1 : arg1.IsWhole)
    (arg2 : Memref sig .tc .vmem S4096x1024 .f32) (harg2 : arg2.IsWhole) (arg3 : Memref sig .tc .vmem S1024x1024 .f32) (harg3 : arg3.IsWhole)
    (arg4 : Memref sig .tc .vmem S8x128 .f32) (harg4 : arg4.IsWhole) (hc0 : ¬ k0_cond1 i = 1#1) (hc1 : k0_cond2 i = 1#1) (Kt : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare x3
        ∗ (iprop(owns (c : Thread nD τ) arg1 fullShare x0 ∗ owns (c : Thread nD τ) arg2 fullShare x1 ∗ owns (c : Thread nD τ) arg3 fullShare (k0_pay1 x0 x1)
          ∗ owns (c : Thread nD τ) arg4 fullShare (k0_pay3 x0 x1 x3)) -∗ Kt ⟨⟩))
      ⊢ run c (cc0_body i arg1 harg1 arg2 harg2 arg3 harg3 arg4 harg4) Kt := by
  unfold run
  simp only [cc0_body_eq_skeleton]; unfold cc0_body_skel
  unfold owns
  iintro ⟨⟨%f0, %hf0, H0⟩, ⟨%f1, %hf1, H1⟩, ⟨%d2, %f2, -, H2⟩, ⟨%f3, %hf3, H3⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro; rw [View.read_writes_full, View.readAt_full, View.readAt_full, hf0, hf1]
  iexists _; isplitr; swap; · iexact H3
  ipureintro; rw [View.read_writes_full, View.readAt_full, View.readAt_full, hf0, hf1, View.readAt_full, hf3]

end Cert.KernelIdeal.A2a

end
-- ==== Proof.A2a.GemmRegion.lean ====
/-
  The product's region: what its arrays and staging buffers hold from point to point.
-/
module

public import proofs.«01_k».proof.Proof.A2a.Gemm

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

open Idealize.ShloMosaic.Pipeline (Dat Cfg Window BodyObligation cellOf)

variable (m : (ℓ : Loc nD τ sig) → Buf (Elt F) ℓ)

/-! ## What is owed lies above every wait of the pipeline -/

theorem owed0_pos (c : Dev nD) (g : GSem nD τ sig) (u : Unit) (h : 0 < owed0 c g u) : u ∈ L g ∧ 0 < lv g u := by
  have hb : ∀ p : Dev nD, 0 < cBar p g u → u ∈ L g ∧ 0 < lv g u := by
    intro p hp
    rw [tallyAt_apply] at hp
    split at hp
    · next hg =>
      obtain ⟨rfl, -⟩ := hg
      exact ⟨by rw [L_tc]; exact Finset.mem_singleton_self _, Nat.one_pos⟩
    · exact absurd hp (Nat.lt_irrefl 0)
  unfold owed0 at h
  rw [Pi.add_apply, Finsupp.add_apply] at h
  rcases Nat.add_pos_iff_pos_or_pos.mp h with h | h
  swap; · exact hb _ h
  rw [Pi.add_apply, Finsupp.add_apply] at h
  rcases Nat.add_pos_iff_pos_or_pos.mp h with h | h
  swap; · exact hb _ h
  rw [Pi.add_apply, Finsupp.add_apply] at h
  rcases Nat.add_pos_iff_pos_or_pos.mp h with h | h
  swap; · exact hb _ h
  obtain ⟨k, -, hk⟩ := sum_pos_of _ _ g u h
  rcases due_pos hk with ⟨i, -, -, -, rfl⟩ | ⟨d, -, -, -, rfl⟩
  · refine ⟨by rw [L_tc]; exact Finset.mem_singleton_self _, ?_⟩
    show 0 < lvOf (roleOf (.dma (drS i)))
    rw [role_dr]; exact Nat.succ_pos 2
  · refine ⟨by rw [L_tc]; exact Finset.mem_singleton_self _, ?_⟩
    show 0 < lvOf (roleOf (.dma (arS d)))
    rw [role_ar]; exact Nat.succ_pos 1

/-! ## The blocks, and what the body leaves -/

/-- Window `w`'s block at point `t`, of the arrays as launched. -/
def blockIn (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- The largest entry of the product's blocks up to a point. -/
def largest (c : Dev nD) : ℕ → Vec F S8x128 .f32
  | 0 => k0_pay2 (blockIn m c 0 t0_0) (blockIn m c 1 t0_0)
  | n + 1 => if h : n + 1 < cfg0.N then k0_pay3 (blockIn m c 0 ⟨n + 1, h⟩) (blockIn m c 1 ⟨n + 1, h⟩) (largest c n) else largest c n

theorem largest_first (c : Dev nD) (t : Fin cfg0.N) (h : t.val = 0) : largest m c t.val = k0_pay2 (blockIn m c 0 t) (blockIn m c 1 t) := by
  obtain ⟨t, ht⟩ := t
  obtain rfl : t = 0 := h
  rfl
theorem largest_later (c : Dev nD) (t : Fin cfg0.N) (h : t.val ≠ 0) :
    largest m c t.val = k0_pay3 (blockIn m c 0 t) (blockIn m c 1 t) (largest m c (t.val - 1)) := by
  obtain ⟨t, ht⟩ := t
  obtain ⟨n, rfl⟩ := Nat.exists_eq_succ_of_ne_zero h
  show largest m c (n + 1) = _
  rw [largest, dif_pos ht]
  rfl

/-- The product's region: the exchange's dues are owed throughout. -/
def dat0 (c : Dev nD) : Dat τ (Elt F) Unit ℕ UU ℕ cfg0 c where
  A w := m ((c : Thread nD τ).loc (Pipeline.arrRef spec0 w))
  after w t := match w with
    | ⟨0, _⟩ => blockIn m c 0 t
    | ⟨1, _⟩ => blockIn m c 1 t
    | ⟨2, _⟩ => k0_pay1 (blockIn m c 0 t) (blockIn m c 1 t)
    | ⟨3, _⟩ => largest m c t.val
  Φ _ := Pipeline.scopedRest spec0 c
  q _ := fullShare
  owed _ := owed0 c

theorem A0 (c : Dev nD) (w : Fin cfg0.W) : (dat0 m c).A w = m ((c : Thread nD τ).loc (Pipeline.arrRef spec0 w)) := by dsimp only [dat0]
theorem after0_0 (c : Dev nD) (t : Fin cfg0.N) : (dat0 m c).after 0 t = blockIn m c 0 t := by dsimp only [dat0]
theorem after0_1 (c : Dev nD) (t : Fin cfg0.N) : (dat0 m c).after 1 t = blockIn m c 1 t := by dsimp only [dat0]
theorem after0_2 (c : Dev nD) (t : Fin cfg0.N) : (dat0 m c).after 2 t = k0_pay1 (blockIn m c 0 t) (blockIn m c 1 t) := by dsimp only [dat0]
theorem after0_3 (c : Dev nD) (t : Fin cfg0.N) : (dat0 m c).after 3 t = largest m c t.val := by dsimp only [dat0]

theorem before0_0 (c : Dev nD) (t : Fin cfg0.N) (d) : (dat0 m c).before 0 t d = blockIn m c 0 t :=
  ((dat0 m c).before_in_eq_fetched 0 rfl (fun _ => rfl) (fun _ _ _ => rfl) (fun t => by rw [after0_0]; unfold Dat.blockOf blockIn; rw [A0]) t d).trans
    (by unfold Dat.fetched Dat.blockOf blockIn; rw [A0]; rfl)
theorem before0_1 (c : Dev nD) (t : Fin cfg0.N) (d) : (dat0 m c).before 1 t d = blockIn m c 1 t :=
  ((dat0 m c).before_in_eq_fetched 1 rfl (fun _ => rfl) (fun _ _ _ => rfl) (fun t => by rw [after0_1]; unfold Dat.blockOf blockIn; rw [A0]) t d).trans
    (by unfold Dat.fetched Dat.blockOf blockIn; rw [A0]; rfl)
theorem live0_3 : ∀ i : grid0.Coords, idle0 3 i = false := by decide +kernel
theorem before0_3 (c : Dev nD) (t : Fin cfg0.N) (h : t.val ≠ 0) (d) : (dat0 m c).before 3 t d = largest m c (t.val - 1) := by
  rw [(dat0 m c).before_out_kept 3 rfl t h _ live0_3 (fun _ _ => rfl), after0_3]
  have hN : t.val < 8 := lt_of_lt_of_eq t.isLt N_0
  rw [Bool.eq_false_iff]
  intro hf
  have := (flush0_3 _).mp hf
  simp only at this
  omega

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val ≠ 0 :=
  (by decide +kernel : ∀ t : Fin grid0.N, k0_cond2 (grid0.coords t) = 1#1 ↔ t.val ≠ 0)

theorem leaves0 (c : Dev nD) (t : Fin cfg0.N) (w : Fin 4) (h : cfg0.idle w (grid0.coords t) = false) :
    (dat0 m c).leavesExact w t = owns (c : Thread nD τ) ((cfg0.win w).stage (cfg0.slots t w)) fullShare ((dat0 m c).after w t) := by
  unfold Dat.leavesExact
  rw [h]

/-- What the body is called with at a point, and what it returns. -/
def gemmPre (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d)))
def gemmPost (c : Dev nD) (t : Fin cfg0.N) : sProp 𝕄 :=
  iprop((dat0 m c).Φ t.succ ∗ (dat0 m c).owesAt () t.succ
    ∗ (dat0 m c).leavesExact 0 t ∗ (dat0 m c).leavesExact 1 t ∗ (dat0 m c).leavesExact 2 t ∗ (dat0 m c).leavesExact 3 t)

theorem gemm_body (c : Dev nD) (t : Fin cfg0.N) : gemmPre m c t ⊢ run c (bodyAt0 t) (fun _ => gemmPost m c t) := by
  unfold gemmPre gemmPost bodyAt0
  simp only [before0_0, before0_1]
  rw [show (dat0 m c).Φ t.succ = (dat0 m c).Φ t.castSucc from rfl,
    show (dat0 m c).owesAt () t.succ = (dat0 m c).owesAt () t.castSucc from rfl,
    leaves0 m c t 0 rfl, leaves0 m c t 1 rfl, leaves0 m c t 2 rfl, leaves0 m c t 3 (live0_3 _), after0_0, after0_1, after0_2, after0_3]
  iintro ⟨HΦ, Ho, ⟨%d0, H0⟩, ⟨%d1, H1⟩, ⟨%d2, H2⟩, ⟨%d3, H3⟩⟩
  by_cases h : t.val = 0
  · rw [largest_first m c t h]
    iapply (first_run (blockIn m c 0 t) (blockIn m c 1 t) c (grid0.coords t) _ _ _ _ _ _ _ _ ((cond1_iff t).mpr h) (fun h' => (cond2_iff t).mp h' h) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [largest_later m c t h, before0_3 m c t h]
    iapply (later_run (blockIn m c 0 t) (blockIn m c 1 t) (largest m c (t.val - 1)) c (grid0.coords t) _ _ _ _ _ _ _ _ (fun h' => h ((cond1_iff t).mp h')) ((cond2_iff t).mpr h) _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

theorem row0 (t : Fin cfg0.N) : defs₀ (F := F) .tc cfg0.body (cfg0.bodyArgs t (cfg0.slots t)) = bodyAt0 t := by
  unfold defs₀; rw [Defs.onTc_tc]

theorem body0 (c : Dev nD) : BodyObligation (dat0 m c) (defs₀ (F := F)) 𝒱₀ () Set.univ := fun t => by
  rw [bigSep_W0, bigSep_W0, row0]
  exact triple_restated (gemm_body m c t) rfl .rfl fun _ => .rfl

end Cert.KernelIdeal.A2a

end
-- ==== Proof.A2a.ExchangeRegion.lean ====
/-
  The exchange's region: what it holds before its one point and after it, and its body.
-/
module

public import proofs.«01_k».proof.Proof.A2a.GemmRegion
public import proofs.«01_k».proof.Proof.Gen.KernelIdeal.Regions

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

open Idealize.ShloMosaic.Pipeline (Dat Cfg Window BodyObligation cellOf)

variable (m : (ℓ : Loc nD τ sig) → Buf (Elt F) ℓ)

/-- The product on a device and the maxima beside it, as the first region leaves them. -/
def Yof (c : Dev nD) : Vec F S4096x2048 .f32 := (dat0 m c).arrAt 2 cfg0.N
def Mof (c : Dev nD) : Vec F S8x128 .f32 := (dat0 m c).arrAt 3 cfg0.N

/-- The buffers' contents: as launched, after the product, after the copy, after the exchange. -/
def W0 (c : Dev nD) : Valuation τ sig (Elt F) := fun b => m (c, b)
def W1 (c : Dev nD) : Valuation τ sig (Elt F) := Function.update (Function.update (W0 m c) main_v1_0 (Yof m c)) main_v1_1 (Mof m c)
def W2 (c : Dev nD) : Valuation τ sig (Elt F) := StableHlo.after hostOps1 (W1 m c)
def W3 (c : Dev nD) : Valuation τ sig (Elt F) := Function.update (W2 m c) main_v2 (outY (Yof m) (Mof m) c)

theorem W1_y (c : Dev nD) : W1 m c main_v1_0 = Yof m c := by
  unfold W1
  rw [Function.update_of_ne (StableHlo.devRef_ne_of_ne (by decide : main_v1_0 ≠ main_v1_1)), Function.update_self]
theorem W1_max (c : Dev nD) : W1 m c main_v1_1 = Mof m c := by unfold W1; rw [Function.update_self]
theorem W1_of (c : Dev nD) (r : Ref sig .tc) (h0 : r ≠ main_v1_0) (h1 : r ≠ main_v1_1) : W1 m c r = m ((c : Thread nD τ).loc r) := by
  unfold W1
  rw [Function.update_of_ne (StableHlo.devRef_ne_of_ne h1), Function.update_of_ne (StableHlo.devRef_ne_of_ne h0)]
  rfl
theorem W2_of (c : Dev nD) (r : Ref sig .tc) (h : r ≠ main_v2) : W2 m c r = W1 m c r :=
  StableHlo.after_of_writes_sub hostOps1 _ hostOps1_writes (by simpa using h)
theorem W2_out (c : Dev nD) : W2 m c main_v2 = Yof m c := by
  unfold W2 hostOps1
  rw [StableHlo.after_cons, StableHlo.after_nil]
  refine Eq.trans ?_ (W1_y m c)
  rfl
theorem W2_max (c : Dev nD) : W2 m c main_v1_1 = Mof m c := (W2_of m c main_v1_1 (by decide)).trans (W1_max m c)
theorem W3_out (c : Dev nD) : W3 m c main_v2 = outY (Yof m) (Mof m) c := by unfold W3; rw [Function.update_self]
theorem W3_of (c : Dev nD) (r : Ref sig .tc) (h : r ≠ main_v2) : W3 m c r = W2 m c r := by
  unfold W3; rw [Function.update_of_ne (StableHlo.devRef_ne_of_ne h)]

/-- What the region enters with beside its scoped buffers, and what it leaves. -/
def enters (c : Dev nD) : sProp 𝕄 :=
  iprop((∃ K, known (Yof m) (Mof m) K c) ∗ ghosts c ∗ barrier c)
def leaves (c : Dev nD) : sProp 𝕄 :=
  iprop((bigSep Finset.univ fun k : Fin 72 => semVal ((c : Thread nD τ), osem1 k) 0) ∗ semVal (barCell c) 0)
abbrev rowsAt (c : Dev nD) (f : Vec F S4096x2048 .f32) : sProp 𝕄 := bufY.view.loc (c : Thread nD τ) ↦[Finset.univ]{fullShare} f
def atEntry (c : Dev nD) : sProp 𝕄 :=
  iprop(enters m c ∗ rowsAt c (Yof m c) ∗ Pipeline.scopedRest spec1 c ∗ ∃ r, prngReg c r)
def atExit (c : Dev nD) : sProp 𝕄 :=
  iprop(leaves (F := F) c ∗ rowsAt c (outY (Yof m) (Mof m) c) ∗ Pipeline.scopedRest spec1 c ∗ ∃ r, prngReg c r)

/-- The exchange's region. -/
def dat1 (c : Dev nD) : Dat τ (Elt F) Unit ℕ UU ℕ cfg1 c where
  A w := W2 m c (Pipeline.arrRef spec1 w)
  after w t := match w with
    | ⟨0, _⟩ => Mof m c
  Φ t := if t.val = 0 then atEntry m c else atExit m c
  q _ := fullShare
  owed t := if t.val = 0 then owed0 c else 0

theorem after1_0 (c : Dev nD) (t : Fin cfg1.N) : (dat1 m c).after 0 t = Mof m c := by dsimp only [dat1]
theorem block1_0 (c : Dev nD) (t : Fin cfg1.N) : (dat1 m c).blockOf 0 t = Mof m c := by
  obtain rfl := fin_N1 t
  unfold Dat.blockOf
  rw [show (dat1 m c).A 0 = Mof m c from W2_max m c]
  funext j
  refine congrArg (Mof m c) (funext fun a => Fin.ext ?_)
  show 0 * _ + 1 * (j a).val = (j a).val
  omega
theorem before1_0 (c : Dev nD) (t : Fin cfg1.N) (d) : (dat1 m c).before 0 t d = Mof m c :=
  ((dat1 m c).before_in_eq_fetched 0 rfl (fun _ => rfl) (fun _ _ _ => rfl) (fun t => by rw [after1_0, block1_0]; rfl) t d).trans
    (by unfold Dat.fetched; rw [block1_0]; rfl)

theorem owed1_zero (c : Dev nD) : (dat1 m c).owed 0 = owed0 c := by
  show (if ((0 : Fin (cfg1.N + 1)).val = 0) then owed0 c else 0) = owed0 c
  exact if_pos rfl
theorem owed1_first (c : Dev nD) : (dat1 m c).owed t1_0.castSucc = owed0 c := by
  show (if (t1_0.castSucc : Fin (cfg1.N + 1)).val = 0 then owed0 c else 0) = owed0 c
  exact if_pos rfl
theorem owed1_succ (c : Dev nD) : (dat1 m c).owed t1_0.succ = 0 := by
  show (if (t1_0.succ : Fin (cfg1.N + 1)).val = 0 then owed0 c else 0) = 0
  exact if_neg (Nat.succ_ne_zero _)
theorem owed1_last (c : Dev nD) : (dat1 m c).owed (Fin.last _) = 0 := by
  show (if (Fin.last cfg1.N).val = 0 then owed0 c else 0) = 0
  rw [Fin.val_last, if_neg (by rw [show cfg1.N = 1 from N_1]; decide)]

theorem owes_in {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    iprop(∃ W, owes (c : Thread nD τ) O W) ⊢ (dat.owesAt () t : sProp 𝕄) := by
  unfold Dat.owesAt Pipeline.owesWithin Dat.bound
  rw [h0, hr]
  iintro ⟨%W, HO⟩
  iexists W
  isplitr
  · ipureintro; exact fun _ _ => Or.inl trivial
  iexact HO
theorem owes_out {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin
  rw [h0]
  iintro ⟨%W, -, HO⟩
  iexists W
  iexact HO

theorem stage_eq (c : Dev nD) (t : Fin cfg1.N) :
    (owns (c : Thread nD τ) ((cfg1.win 0).stage (cfg1.slots t 0)) fullShare (Mof m c) : sProp 𝕄) = stage (Mof m) c := by
  obtain rfl := fin_N1 t
  exact owns_whole (c : Thread nD τ) cc1_stg0_0 fullShare (Mof m c)

theorem exchange_body (c : Dev nD) :
    iprop(atEntry m c ∗ (dat1 m c).owesAt () t1_0.castSucc ∗ stage (Mof m) c)
      ⊢ run c (prog (F := F)) fun _ => iprop(atExit m c ∗ (dat1 m c).owesAt () t1_0.succ ∗ stage (Mof m) c) := by
  unfold atEntry enters
  rw [scopedRest1_eq]
  iintro ⟨⟨⟨⟨%K, #HK⟩, Hg, Hb⟩, Hy, ⟨H0, H1, H2, H3, H4, H5, HB, HQ, HR, HA⟩, Hp⟩, HO, HM⟩
  ihave HO := (owes_out (dat1 m c) _ (owed0 c) (owed1_first m c)) $$ HO
  iapply (exchange (Yof m) (Mof m) K c iprop((((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f))) ∗ ∃ r, prngReg c r) ?_)
  · unfold finished
    iintro ⟨⟨HB, HQ, HR, HA, Hy, Hs, Hbar, HM, HO⟩, ⟨H0, H1, H2, H3, H4, H5⟩, Hp⟩
    isplitr [HO HM]
    · unfold atExit leaves
      rw [scopedRest1_eq]
      isplitl [Hs Hbar]
      · isplitl [Hs]; · iexact Hs
        iexact Hbar
      isplitl [Hy]; · iexact Hy
      isplitr [Hp]
      · isplitl [H0]; · iexact H0
        isplitl [H1]; · iexact H1
        isplitl [H2]; · iexact H2
        isplitl [H3]; · iexact H3
        isplitl [H4]; · iexact H4
        isplitl [H5]; · iexact H5
        isplitl [HB]; · iexact HB
        isplitl [HQ]; · iexact HQ
        isplitl [HR]; · iexact HR
        iexact HA
      iexact Hp
    isplitl [HO]
    · iapply (owes_in (dat1 m c) t1_0.succ 0 (owed1_succ m c) rfl)
      iexact HO
    iexact HM
  · isplitr; · iexact HK
    isplitl [HB HQ HR HA Hy]
    · unfold buffers
      isplitl [HB]; · iexact HB
      isplitl [HQ]; · iexact HQ
      isplitl [HR]; · iexact HR
      isplitl [HA]; · iexact HA
      iexact Hy
    isplitl [Hg]; · iexact Hg
    isplitl [Hb]; · iexact Hb
    isplitl [HO]; · iexact HO
    isplitl [HM]; · iexact HM
    isplitr [Hp]
    · isplitl [H0]; · iexact H0
      isplitl [H1]; · iexact H1
      isplitl [H2]; · iexact H2
      isplitl [H3]; · iexact H3
      isplitl [H4]; · iexact H4
      iexact H5
    iexact Hp

theorem row1 (t : Fin cfg1.N) : defs₀ (F := F) .tc cfg1.body (cfg1.bodyArgs t (cfg1.slots t)) = prog (F := F) := by
  obtain rfl := fin_N1 t
  unfold defs₀; rw [Defs.onTc_tc]

/-- What the body is called with, and what it returns. -/
def exPre (c : Dev nD) : sProp 𝕄 :=
  iprop((dat1 m c).Φ t1_0.castSucc ∗ (dat1 m c).owesAt () t1_0.castSucc
    ∗ ∃ d, owns (c : Thread nD τ) ((cfg1.win 0).stage (cfg1.slots t1_0 0)) fullShare ((dat1 m c).before 0 t1_0 d))
def exPost (c : Dev nD) : sProp 𝕄 :=
  iprop((dat1 m c).Φ t1_0.succ ∗ (dat1 m c).owesAt () t1_0.succ ∗ (dat1 m c).leavesExact 0 t1_0)

theorem leaves1 (c : Dev nD) : (dat1 m c).leavesExact 0 t1_0 = stage (Mof m) c :=
  Eq.trans (b := owns (c : Thread nD τ) ((cfg1.win 0).stage (cfg1.slots t1_0 0)) fullShare ((dat1 m c).after 0 t1_0)) rfl
    ((congrArg _ (after1_0 m c t1_0)).trans (stage_eq m c t1_0))
theorem Φ1_first (c : Dev nD) : (dat1 m c).Φ t1_0.castSucc = atEntry m c := by
  show (if (t1_0.castSucc : Fin (cfg1.N + 1)).val = 0 then atEntry m c else atExit m c) = atEntry m c
  exact if_pos rfl
theorem Φ1_succ (c : Dev nD) : (dat1 m c).Φ t1_0.succ = atExit m c := by
  show (if (t1_0.succ : Fin (cfg1.N + 1)).val = 0 then atEntry m c else atExit m c) = atExit m c
  exact if_neg (Nat.succ_ne_zero _)

theorem ex_body (c : Dev nD) : exPre m c ⊢ run c (prog (F := F)) fun _ => exPost m c := by
  unfold exPre exPost
  rw [leaves1, Φ1_first, Φ1_succ]
  iintro ⟨HΦ, HO, ⟨%d, HM⟩⟩
  iapply (exchange_body m c)
  isplitl [HΦ]; · iexact HΦ
  isplitl [HO]; · iexact HO
  iapply (show (owns (c : Thread nD τ) ((cfg1.win 0).stage (cfg1.slots t1_0 0)) fullShare ((dat1 m c).before 0 t1_0 d) : sProp 𝕄) ⊢ stage (Mof m) c from by
    rw [before1_0, stage_eq])
  iexact HM

theorem body1 (c : Dev nD) : BodyObligation (dat1 m c) (defs₀ (F := F)) 𝒱₀ () Set.univ := fun t => by
  obtain rfl := fin_N1 t
  rw [bigSep_W1, bigSep_W1, row1]
  exact triple_restated (ex_body m c) rfl .rfl fun _ => .rfl

end Cert.KernelIdeal.A2a

end
-- ==== Proof.A2a.Segments.lean ====
/-
  The three segments of a run: the product's region, the copy, the exchange's region.
-/
module

public import proofs.«01_k».proof.Proof.A2a.ExchangeRegion

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

open Idealize.ShloMosaic.Pipeline (Dat Cfg Window BodyObligation cellOf arrRefs ucRefs)

variable (m : (ℓ : Loc nD τ sig) → Buf (Elt F) ℓ)

def pdats : (p : Fin 2) → (c : Dev nD) → Dat τ (Elt F) Unit ℕ UU ℕ (Pipeline.pin (pcfgs (F := F)) adm p) c
  | 0 => dat0 m
  | 1 => dat1 m

/-! ## What rides along until the exchange -/

/-- Every cell's invariant. -/
def invs (K : GSem nD τ sig → ℕ) : sProp 𝕄 :=
  iprop((bigSep Finset.univ fun p : Dev nD => cellInv ER (sched (Yof m) (Mof m)) (K (barCell p)) (barCell p))
    ∗ bigSep Finset.univ fun pk : Dev nD × Fin 72 =>
      cellInv ER (sched (Yof m) (Mof m)) (K ((pk.1 : Thread nD τ), osem1 pk.2)) ((pk.1 : Thread nD τ), osem1 pk.2))
instance invs_persistent (K : GSem nD τ sig → ℕ) : BI.Persistent (invs m K) := by unfold invs; infer_instance

/-- The tokens a device pays with. -/
def pays (c : Dev nD) : sProp 𝕄 :=
  iprop(((bigSep Finset.univ fun i : Fin 16 => dutyTok ER (copyCell c i) 0 (0 : Fin 4)) ∗ (bigSep Finset.univ fun i : Fin 16 => dutyTok ER (wrCell c i) 0 (0 : Fin 4)))
    ∗ ((bigSep Finset.univ fun i : Fin 16 => dutyTok ER (dsCell c i) 0 (0 : Fin 4)) ∗ (bigSep Finset.univ fun i : Fin 16 => dutyTok ER (drCell (c + dOf i) i) 0 (0 : Fin 4)))
    ∗ ((bigSep Finset.univ fun d : Fin 4 => dutyTok ER (asCell c d) 0 (0 : Fin 4)) ∗ (bigSep Finset.univ fun d : Fin 4 => dutyTok ER (arCell (c + d) d) 0 (0 : Fin 4))))
/-- The credits for what its peers send it. -/
def due_in (c : Dev nD) : sProp 𝕄 :=
  iprop((bigSep Finset.univ fun i : Fin 16 => if 4 ≤ i.val then (cred (tallyAt (drCell c i) () NQ) : sProp 𝕄) else iprop(emp))
    ∗ bigSep Finset.univ fun d : Fin 4 => if d ≠ 0 then (cred (tallyAt (arCell c d) () NA) : sProp 𝕄) else iprop(emp))
/-- What a device carries from the launch to the exchange. -/
def carries (c : Dev nD) : sProp 𝕄 :=
  iprop((∃ K, invs m K) ∗ (bigSep Finset.univ fun k : Fin 72 => openTok ER ((c : Thread nD τ), osem1 k)) ∗ pays c ∗ due_in c ∗ barrier c)

theorem both (P Q : sProp 𝕄) {ι : Type} [Fintype ι] (Φ Ψ Χ : ι → sProp 𝕄) (h : ∀ i, iprop(Φ i ∗ Ψ i) ⊢ Χ i) (hP : P ⊢ bigSep Finset.univ Φ)
    (hQ : Q ⊢ bigSep Finset.univ Ψ) : iprop(P ∗ Q) ⊢ bigSep Finset.univ Χ :=
  (BIClass.sep_mono hP hQ).trans ((Entails.of_eq (bigSep_sep' Finset.univ Φ Ψ).symm).trans (bigSep_mono fun i _ => h i))

theorem make_B (c : Dev nD) :
    iprop(((bigSep Finset.univ fun i : Fin 16 => dutyTok ER (copyCell c i) 0 (0 : Fin 4)) ∗ (bigSep Finset.univ fun i : Fin 16 => dutyTok ER (wrCell c i) 0 (0 : Fin 4)))
      ∗ ((bigSep Finset.univ fun i : Fin 16 => atPos ER (copyCell c i) 0 ∅ 0) ∗ (bigSep Finset.univ fun i : Fin 16 => atPos ER (wrCell c i) 0 ∅ 0)))
    ⊢ bigSep Finset.univ (tB (F := F) c) :=
  both _ _ _ _ _ (fun i => by
    show iprop((dutyTok ER (copyCell c i) 0 (0 : Fin 4) ∗ dutyTok ER (wrCell c i) 0 (0 : Fin 4)) ∗ atPos ER (copyCell c i) 0 ∅ 0 ∗ atPos ER (wrCell c i) 0 ∅ 0) ⊢ tB (F := F) c i
    unfold tB
    iintro ⟨⟨H1, H2⟩, H3, H4⟩
    isplitl [H1]; · iexact H1
    isplitl [H3]; · iexact H3
    isplitl [H2]; · iexact H2
    iexact H4) (Entails.of_eq (bigSep_sep' _ _ _).symm) (Entails.of_eq (bigSep_sep' _ _ _).symm)

theorem make_Q (c : Dev nD) :
    iprop(((bigSep Finset.univ fun i : Fin 16 => dutyTok ER (dsCell c i) 0 (0 : Fin 4)) ∗ (bigSep Finset.univ fun i : Fin 16 => dutyTok ER (drCell (c + dOf i) i) 0 (0 : Fin 4)))
      ∗ (bigSep Finset.univ fun i : Fin 16 => atPos ER (dsCell c i) 0 ∅ 0))
    ⊢ bigSep Finset.univ (tQ (F := F) c) :=
  both _ _ _ _ _ (fun i => by
    show iprop((dutyTok ER (dsCell c i) 0 (0 : Fin 4) ∗ dutyTok ER (drCell (c + dOf i) i) 0 (0 : Fin 4)) ∗ atPos ER (dsCell c i) 0 ∅ 0) ⊢ tQ (F := F) c i
    unfold tQ
    iintro ⟨⟨H1, H2⟩, H3⟩
    split
    · isplitl [H1]; · iexact H1
      isplitl [H2]; · iexact H2
      iexact H3
    · iexact H3) (Entails.of_eq (bigSep_sep' _ _ _).symm) .rfl

theorem make_A (c : Dev nD) :
    iprop(((bigSep Finset.univ fun d : Fin 4 => dutyTok ER (asCell c d) 0 (0 : Fin 4)) ∗ (bigSep Finset.univ fun d : Fin 4 => dutyTok ER (arCell (c + d) d) 0 (0 : Fin 4)))
      ∗ (bigSep Finset.univ fun d : Fin 4 => atPos ER (asCell c d) 0 ∅ 0))
    ⊢ bigSep Finset.univ (tA (F := F) c) :=
  both _ _ _ _ _ (fun i => by
    show iprop((dutyTok ER (asCell c i) 0 (0 : Fin 4) ∗ dutyTok ER (arCell (c + i) i) 0 (0 : Fin 4)) ∗ atPos ER (asCell c i) 0 ∅ 0) ⊢ tA (F := F) c i
    unfold tA
    iintro ⟨⟨H1, H2⟩, H3⟩
    split
    · isplitl [H1]; · iexact H1
      isplitl [H2]; · iexact H2
      iexact H3
    · iexact H3) (Entails.of_eq (bigSep_sep' _ _ _).symm) .rfl

theorem make_R (c : Dev nD) :
    iprop((bigSep Finset.univ fun i : Fin 16 => if 4 ≤ i.val then (cred (tallyAt (drCell c i) () NQ) : sProp 𝕄) else iprop(emp))
      ∗ (bigSep Finset.univ fun i : Fin 16 => atPos ER (drCell c i) 0 ∅ 0))
    ⊢ bigSep Finset.univ (tR (F := F) c) :=
  both _ _ _ _ _ (fun i => by
    show iprop((if 4 ≤ i.val then (cred (tallyAt (drCell c i) () NQ) : sProp 𝕄) else iprop(emp)) ∗ atPos ER (drCell c i) 0 ∅ 0) ⊢ tR (F := F) c i
    unfold tR
    split
    · exact .rfl
    · iintro ⟨-, H⟩; iexact H) .rfl .rfl

theorem make_E (c : Dev nD) :
    iprop((bigSep Finset.univ fun d : Fin 4 => if d ≠ 0 then (cred (tallyAt (arCell c d) () NA) : sProp 𝕄) else iprop(emp))
      ∗ (bigSep Finset.univ fun d : Fin 4 => atPos ER (arCell c d) 0 ∅ 0))
    ⊢ bigSep Finset.univ (tE (F := F) c) :=
  both _ _ _ _ _ (fun i => by
    show iprop((if i ≠ 0 then (cred (tallyAt (arCell c i) () NA) : sProp 𝕄) else iprop(emp)) ∗ atPos ER (arCell c i) 0 ∅ 0) ⊢ tE (F := F) c i
    unfold tE
    split
    · exact .rfl
    · iintro ⟨-, H⟩; iexact H) .rfl .rfl

theorem make_ghosts (c : Dev nD) :
    iprop(pays c ∗ due_in c ∗ bigSep Finset.univ fun k : Fin 72 => atPos ER ((c : Thread nD τ), osem1 k) 0 ∅ 0) ⊢ ghosts (F := F) c := by
  rw [own_sems fun sm => atPos ER ((c : Thread nD τ), sm) 0 ∅ 0]
  unfold pays due_in ghosts
  iintro ⟨⟨HB, HQ, HA⟩, ⟨HR, HE⟩, ⟨PB, ⟨PS, PR⟩⟩, PA, PE⟩
  isplitl [HB PB]
  · iapply (make_B c); isplitl [HB]; · iexact HB
    iexact PB
  isplitl [HQ PS]
  · iapply (make_Q c); isplitl [HQ]; · iexact HQ
    iexact PS
  isplitl [HR PR]
  · iapply (make_R c); isplitl [HR]; · iexact HR
    iexact PR
  isplitl [HA PA]
  · iapply (make_A c); isplitl [HA]; · iexact HA
    iexact PA
  iapply (make_E c); isplitl [HE]; · iexact HE
  iexact PE

/-! ## Opening the exchange's own semaphores -/

theorem open_one (K : GSem nD τ sig → ℕ) (c : Dev nD) (k : Fin 72) :
    iprop(invs m K ∗ openTok ER ((c : Thread nD τ), osem1 k) ∗ semVal ((c : Thread nD τ), osem1 k) 0)
      ⊢ iprop(|={Set.univ}=> (atPos ER ((c : Thread nD τ), osem1 k) 0 ∅ 0 ∗ reached ER ((c : Thread nD τ), osem1 k) 0)) := by
  have e := pick (F := F) (fun pk : Dev nD × Fin 72 =>
    cellInv ER (sched (Yof m) (Mof m)) (K ((pk.1 : Thread nD τ), osem1 pk.2)) ((pk.1 : Thread nD τ), osem1 pk.2)) (c, k)
  unfold invs
  iintro ⟨⟨-, #HI⟩, Ho, Hv⟩
  ihave #Hc := e $$ HI
  iapply (Rounds.cell_open ER (sched (Yof m) (Mof m)) (g := ((c : Thread nD τ), osem1 k)) (Set.mem_univ (K ((c : Thread nD τ), osem1 k))))
  isplitr; · iexact Hc
  isplitl [Ho] <;> iassumption

theorem open_all (K : GSem nD τ sig → ℕ) (c : Dev nD) :
    iprop(invs m K ∗ (bigSep Finset.univ fun k : Fin 72 => openTok ER ((c : Thread nD τ), osem1 k)) ∗ Pipeline.ownSems0 osem1 c)
      ⊢ iprop(|={Set.univ}=> ((bigSep Finset.univ fun k : Fin 72 => atPos ER ((c : Thread nD τ), osem1 k) 0 ∅ 0)
        ∗ bigSep Finset.univ fun k : Fin 72 => reached ER ((c : Thread nD τ), osem1 k) 0)) := by
  unfold Pipeline.ownSems0
  rw [← bigSep_sep', ← bigSep_sep']
  exact fupd_all (R := invs m K) fun k => open_one m K c k

theorem opens (c : Dev nD) : iprop(carries m c ∗ Pipeline.ownSems0 osem1 c ∗ levAts L lv) ⊢ iprop(|={Set.univ}=> enters m c) := by
  unfold carries enters
  iintro ⟨⟨⟨%K, #HI⟩, Ho, Hp, Hd, Hb⟩, Hs, #HL⟩
  imod (open_all m K c) $$ [Ho Hs] with ⟨Hat, #Hr⟩
  · isplitr; · iexact HI
    isplitl [Ho] <;> iassumption
  imodintro
  isplitr
  · iexists K
    unfold known
    unfold invs
    icases HI with ⟨#H1, #H2⟩
    isplitr; · iexact H1
    isplitr; · iexact H2
    isplitr; · iexact Hr
    iexact HL
  isplitl [Hp Hd Hat]
  · iapply (make_ghosts c)
    isplitl [Hp]; · iexact Hp
    isplitl [Hd] <;> iassumption
  iexact Hb

/-! ## The segments -/

def rides (c : Dev nD) : sProp 𝕄 := iprop((∃ r, prngReg c r) ∗ carries m c)
/-- Beside the buffers: what rides along, and what is owed. -/
def beside0 (c : Dev nD) : sProp 𝕄 := iprop(rides m c ∗ ∃ W, owes (c : Thread nD τ) (owed0 c) W)
def beside2 (c : Dev nD) : sProp 𝕄 := iprop(semVal (barCell c) 0 ∗ ∃ W, owes (c : Thread nD τ) (0 : CellTallies nD τ sig Unit) W)

theorem arr0_sub : arrRefs (τ := τ) spec0 ⊆ ucRefs τ sig := by decide +kernel
theorem arr1_sub : arrRefs (τ := τ) spec1 ⊆ ucRefs τ sig := by decide +kernel
def restRefs : Finset (DevRef τ sig) := ucRefs τ sig \ arrRefs spec1
def outRefs : Finset (DevRef τ sig) := {Proc.devRef .tc main_v2}
theorem outRefs_sub : outRefs ⊆ restRefs := by decide +kernel

theorem held_outRefs (c : Dev nD) (V : Valuation τ sig (Elt F)) :
    (StableHlo.held (c : Thread nD τ) outRefs V : sProp 𝕄) = rowsAt c (V main_v2) := bigSep_singleton

theorem W1_rest (c : Dev nD) : ∀ b ∈ ucRefs τ sig \ arrRefs spec0, W1 m c b = W0 m c b := by
  intro b hb
  have h : ∀ b ∈ ucRefs τ sig \ arrRefs spec0, b ≠ Proc.devRef .tc main_v1_0 ∧ b ≠ Proc.devRef .tc main_v1_1 := by decide +kernel
  unfold W1
  rw [Function.update_of_ne (h b hb).2, Function.update_of_ne (h b hb).1]
theorem W3_rest (c : Dev nD) : ∀ b ∈ restRefs \ outRefs, W3 m c b = W2 m c b := by
  intro b hb
  have h : ∀ b ∈ restRefs \ outRefs, b ≠ Proc.devRef .tc main_v2 := by decide +kernel
  unfold W3
  rw [Function.update_of_ne (h b hb)]

theorem stage_low0 : ∀ (w : Fin 4) (s : Fin (cfg0.win w).nbuf), lvOf (roleOf (.dma ((cfg0.win w).sem s))) ≤ 0 := by decide +kernel
theorem stage_low1 : ∀ (w : Fin 1) (s : Fin (cfg1.win w).nbuf), lvOf (roleOf (.dma ((cfg1.win w).sem s))) ≤ 0 := by decide +kernel

theorem share0 (c : Dev nD) (w : Fin 4) : (dat0 m c).share w = fullShare := by unfold Dat.share; exact ite_self _
theorem share1 (c : Dev nD) (w : Fin 1) : (dat1 m c).share w = fullShare := by unfold Dat.share; exact ite_self _
theorem enter0 (c : Dev nD) (w : Fin 4) : (dat0 m c).arrAt w 0 = W0 m c (Proc.devRef .tc (Pipeline.arrRef spec0 w)) := rfl
theorem leave0 (c : Dev nD) : ∀ w : Fin 4, (dat0 m c).arrAt w cfg0.N = W1 m c (Proc.devRef .tc (Pipeline.arrRef spec0 w))
  | 0 => ((dat0 m c).arrAt_in 0 rfl _).trans (W1_of m c main_arg0 (by decide) (by decide)).symm
  | 1 => ((dat0 m c).arrAt_in 1 rfl _).trans (W1_of m c main_arg1 (by decide) (by decide)).symm
  | 2 => (W1_y m c).symm
  | 3 => (W1_max m c).symm
theorem leave1 (c : Dev nD) : ∀ w : Fin 1, (dat1 m c).arrAt w cfg1.N = W3 m c (Proc.devRef .tc (Pipeline.arrRef spec1 w))
  | 0 => ((dat1 m c).arrAt_in 0 rfl _).trans (W3_of m c main_v1_1 (by decide)).symm

theorem into1 (c : Dev nD) : iprop(Pipeline.scopedRest spec1 c ∗ (∃ r, prngReg c r) ∗ StableHlo.held (c : Thread nD τ) outRefs (W2 m c) ∗ enters m c) ⊢ atEntry m c := by
  rw [held_outRefs, W2_out]
  unfold atEntry
  iintro ⟨Hs, Hp, Hh, HX⟩
  isplitl [HX]; · iexact HX
  isplitl [Hh]; · iexact Hh
  isplitl [Hs] <;> iassumption
theorem outof1 (c : Dev nD) : atExit m c
    ⊢ iprop(Pipeline.scopedRest spec1 c ∗ (∃ r, prngReg c r) ∗ StableHlo.held (c : Thread nD τ) outRefs (W3 m c) ∗ Pipeline.ownSems0 osem1 c ∗ semVal (barCell c) 0) := by
  rw [held_outRefs, W3_out]
  unfold atExit leaves Pipeline.ownSems0
  iintro ⟨⟨Hos, Hb⟩, Hh, Hs, Hp⟩
  isplitl [Hs]; · iexact Hs
  isplitl [Hp]; · iexact Hp
  isplitl [Hh]; · iexact Hh
  isplitl [Hos] <;> iassumption

set_option backward.isDefEq.respectTransparency.types false in
def reg0 : Pipeline.RegionSeg (pcfgs (F := F)) adm (pdats m) () defs₀ 𝒱₀ L lv 0 :=
  Pipeline.RegionSeg.ofHeld (pcfgs (F := F)) adm (pdats m) () defs₀ 𝒱₀ L lv 0 owed0 (fun _ => iprop(emp)) (fun _ => iprop(emp))
    launch0.toP rfl (fun c => (body0 m c).loose) (fun _ _ => rfl) (fun _ => rfl) (fun c w => share0 m c w)
    (fun c => (show iprop(Pipeline.scopedRest spec0 c ∗ emp) ⊢ (Pipeline.scopedRest spec0 c : sProp 𝕄) from by iintro ⟨H, -⟩; iexact H))
    (fun c => (show (Pipeline.scopedRest spec0 c : sProp 𝕄) ⊢ iprop(Pipeline.scopedRest spec0 c ∗ emp) from by
      iintro H; isplitl [H]; · iexact H
      iempintro))
    (fun _ => 0)
    ⟨fun c w s => by rw [L_tc]; exact Finset.mem_singleton_self _, fun c w s => stage_low0 w s, fun c g i h => owed0_pos c g i h⟩
    (fun c => iprop(StableHlo.held (c : Thread nD τ) (ucRefs τ sig \ arrRefs spec0) (W0 m c) ∗ rides m c))
    (W0 m) (W1 m) (enter0 m) (leave0 m)

set_option backward.isDefEq.respectTransparency.types false in
def reg1 : Pipeline.RegionSeg (pcfgs (F := F)) adm (pdats m) () defs₀ 𝒱₀ L lv 1 :=
  Pipeline.RegionSeg.ofTalk (pcfgs (F := F)) adm (pdats m) () defs₀ 𝒱₀ L lv 1 osem1 (by decide +kernel : Pipeline.OwnSemFacts spec1 osem1)
    outRefs restRefs outRefs_sub launch1.toP rfl (fun c => (body1 m c).loose)
    (fun _ => 0) owed0 (fun c => (owed1_zero m c).trans (zero_add _).symm) (owed1_last m) (fun _ => rfl) (fun c w => share1 m c w)
    (W2 m) (W3 m) (W3_rest m) (carries m) (fun c => semVal (barCell c) 0) (enters m) (fun c => semVal (barCell c) 0)
    (opens m) (into1 m) (outof1 m)
    (fun c => by iintro H; imodintro; iexact H)
    (fun _ => 0)
    ⟨fun c w s => by rw [L_tc]; exact Finset.mem_singleton_self _, fun c w s => stage_low1 w s, fun c t g i h => by
      have h' : 0 < (if t.val = 0 then owed0 c else 0) g i := h
      split at h'
      · exact owed0_pos c g i h'
      · exact absurd h' (Nat.lt_irrefl 0)⟩
    (fun _ => iprop(emp)) (fun _ _ => rfl) (leave1 m)

def seg1 : Pipeline.HostSeg (Name := ℕ) (U := UU) (pcfgs (F := F)) defs₀ 𝒱₀ L lv :=
  Pipeline.HostSeg.ofOps _ _ _ _ _ (ucRefs τ sig) hostOps1
    (fun op h => Pipeline.sub_ucRefs op ((List.forall_iff_forall_mem.mp hostOps1_sub) op h))
    (fun op h => (List.forall_iff_forall_mem.mp hostOps1_fresh) op h) (W1 m) (beside0 m)

theorem reg0_pre (c : Dev nD) : iprop(StableHlo.held (c : Thread nD τ) (ucRefs τ sig) (W0 m c) ∗ beside0 m c) ⊢ (reg0 m).pre c := by
  show _ ⊢ iprop(StableHlo.held (c : Thread nD τ) (arrRefs spec0) (W0 m c) ∗ emp
    ∗ (StableHlo.held (c : Thread nD τ) (ucRefs τ sig \ arrRefs spec0) (W0 m c) ∗ rides m c) ∗ ∃ W, owes (c : Thread nD τ) (owed0 c) W)
  rw [StableHlo.held_sub_split (c : Thread nD τ) arr0_sub (W0 m c)]
  unfold beside0
  iintro ⟨⟨Ha, Hr⟩, Hx, HO⟩
  isplitl [Ha]; · iexact Ha
  isplitr; · iempintro
  isplitr [HO]
  · isplitl [Hr] <;> iassumption
  iexact HO
theorem reg0_post (c : Dev nD) : (reg0 m).post c ⊢ iprop(StableHlo.held (c : Thread nD τ) (ucRefs τ sig) (W1 m c) ∗ beside0 m c) := by
  show iprop(StableHlo.held (c : Thread nD τ) (arrRefs spec0) (W1 m c) ∗ emp
    ∗ (StableHlo.held (c : Thread nD τ) (ucRefs τ sig \ arrRefs spec0) (W0 m c) ∗ rides m c) ∗ ∃ W, owes (c : Thread nD τ) (owed0 c) W) ⊢ _
  rw [StableHlo.held_sub_split (c : Thread nD τ) arr0_sub (W1 m c), StableHlo.held_congr (c := (c : Thread nD τ)) (W1_rest m c)]
  unfold beside0
  iintro ⟨Ha, -, ⟨Hr, Hx⟩, HO⟩
  isplitl [Ha Hr]
  · isplitl [Ha] <;> iassumption
  isplitl [Hx] <;> iassumption
theorem reg1_pre (c : Dev nD) : iprop(StableHlo.held (c : Thread nD τ) (ucRefs τ sig) (W2 m c) ∗ beside0 m c) ⊢ (reg1 m).pre c := by
  show _ ⊢ iprop(StableHlo.held (c : Thread nD τ) (arrRefs spec1) (W2 m c) ∗ (∃ r, prngReg c r)
    ∗ (StableHlo.held (c : Thread nD τ) restRefs (W2 m c) ∗ emp) ∗ carries m c ∗ ∃ W, owes (c : Thread nD τ) (0 + owed0 c) W)
  rw [StableHlo.held_sub_split (c : Thread nD τ) arr1_sub (W2 m c), zero_add]
  unfold beside0 rides restRefs
  iintro ⟨⟨Ha, Hr⟩, ⟨Hp, Hx⟩, HO⟩
  isplitl [Ha]; · iexact Ha
  isplitl [Hp]; · iexact Hp
  isplitl [Hr]
  · isplitl [Hr]; · iexact Hr
    iempintro
  isplitl [Hx] <;> iassumption
theorem reg1_post (c : Dev nD) : (reg1 m).post c ⊢ iprop(StableHlo.held (c : Thread nD τ) (ucRefs τ sig) (W3 m c) ∗ beside2 (F := F) c) := by
  show iprop(StableHlo.held (c : Thread nD τ) (arrRefs spec1) (W3 m c) ∗ (∃ r, prngReg c r)
    ∗ (StableHlo.held (c : Thread nD τ) restRefs (W3 m c) ∗ emp) ∗ semVal (barCell c) 0 ∗ ∃ W, owes (c : Thread nD τ) (0 : CellTallies nD τ sig Unit) W) ⊢ _
  rw [StableHlo.held_sub_split (c : Thread nD τ) arr1_sub (W3 m c)]
  unfold beside2 restRefs
  iintro ⟨Ha, -, ⟨Hr, -⟩, Hb, HO⟩
  isplitl [Ha Hr]
  · isplitl [Ha] <;> iassumption
  isplitl [Hb] <;> iassumption

end Cert.KernelIdeal.A2a

end
-- ==== Proof.A2a.Funds.lean ====
/-
  The launch of the exchange: every cell's invariant, and each token and credit dealt to the device that uses it.
-/
module

public import proofs.«01_k».proof.Proof.A2a.Segments

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

open Idealize.ShloMosaic.Pipeline (Dat Cfg Window BodyObligation cellOf arrRefs ucRefs)

variable (m : (ℓ : Loc nD τ sig) → Buf (Elt F) ℓ) (ρ : Dev nD → PrngReg)

/-! ## The cells and the tokens -/

theorem osem1_inj : Function.Injective osem1 := by
  intro a b h
  have h' : 7 + a.val = 7 + b.val := congrArg (fun s : SemLoc sig => match s with | .dma s => s.val | _ => 0) h
  exact Fin.ext (Nat.add_left_cancel h')

def barAt : Dev nD ↪ GSem nD τ sig := ⟨fun c => barCell c, fun _ _ h => congrArg (fun g : GSem nD τ sig => g.1.1) h⟩
def ownAt : Dev nD × Fin 72 ↪ GSem nD τ sig :=
  ⟨fun ck => ((ck.1 : Thread nD τ), osem1 ck.2), fun _ _ h =>
    Prod.ext (congrArg (fun g : GSem nD τ sig => g.1.1) h) (osem1_inj (congrArg Prod.snd h))⟩
abbrev barCells : Finset (GSem nD τ sig) := Finset.univ.map barAt
abbrev ownCells : Finset (GSem nD τ sig) := Finset.univ.map ownAt

theorem bar_dma (s : DmaSem sig) : (SemLoc.reg barS : SemLoc sig) ≠ .dma s := by intro h; cases h
theorem add_then_sub : ∀ a b : Fin 4, a + b - b = a := by decide
theorem sub_then_add : ∀ a b : Fin 4, a - b + b = a := by decide
theorem regroup (A B C : sProp 𝕄) : iprop(A ∗ B ∗ C) = iprop((A ∗ B) ∗ C) :=
  BI.Entails.antisymm
    (show iprop(A ∗ B ∗ C) ⊢ iprop((A ∗ B) ∗ C) from by
      iintro ⟨HA, HB, HC⟩
      isplitr [HC]
      · isplitl [HA] <;> iassumption
      iexact HC)
    (show iprop((A ∗ B) ∗ C) ⊢ iprop(A ∗ B ∗ C) from by
      iintro ⟨⟨HA, HB⟩, HC⟩
      isplitl [HA]; · iexact HA
      isplitl [HB] <;> iassumption)

/-- One duty of each cell of the exchange's own semaphores, four of each barrier. -/
abbrev dutyAt (c : Dev nD) : Fin 72 ⊕ Fin 4 → GSem nD τ sig × ℕ × Fin 4
  | .inl k => (((c : Thread nD τ), osem1 k), 0, 0)
  | .inr e => (barCell c, 0, e)
theorem dutyAt_inj (c c' : Dev nD) (k k' : Fin 72 ⊕ Fin 4) (h : dutyAt c k = dutyAt c' k') : c = c' ∧ k = k' := by
  rcases k with k | e <;> rcases k' with k' | e'
  · exact ⟨congrArg (fun t : GSem nD τ sig × ℕ × Fin 4 => t.1.1.1) h,
      congrArg Sum.inl (osem1_inj (congrArg (fun t : GSem nD τ sig × ℕ × Fin 4 => t.1.2) h))⟩
  · exact absurd (congrArg (fun t : GSem nD τ sig × ℕ × Fin 4 => t.1.2) h).symm (bar_dma _)
  · exact absurd (congrArg (fun t : GSem nD τ sig × ℕ × Fin 4 => t.1.2) h) (bar_dma _)
  · exact ⟨congrArg (fun t : GSem nD τ sig × ℕ × Fin 4 => t.1.1.1) h,
      congrArg Sum.inr (congrArg (fun t : GSem nD τ sig × ℕ × Fin 4 => t.2.2) h)⟩
def duties : Finset (GSem nD τ sig × ℕ × Fin 4) :=
  Finset.univ.map ⟨fun ck : Dev nD × (Fin 72 ⊕ Fin 4) => dutyAt ck.1 ck.2, fun _ _ h =>
    Prod.ext (dutyAt_inj _ _ _ _ h).1 (dutyAt_inj _ _ _ _ h).2⟩

theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact absurd (congrArg (fun g : GSem nD τ sig => g.2) h).symm (bar_dma _)

def u₀ : UU :=
  (initOf (Pipeline.cells (Pipeline.pin (pcfgs (F := F)) adm) cellOf_inj) (Pipeline.launchToks (Pipeline.pin (pcfgs (F := F)) adm) cellOf_inj),
    launchOf barCells ownCells duties)

/-- Something held by one device for all. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  have h0 : ∀ c ∈ Finset.univ.erase c₀, onDev (F := F) c₀ X c = BI.emp := fun c hc => by
    unfold onDev
    rw [if_neg (Finset.ne_of_mem_erase hc)]
    rfl
  rw [bigSep_univ_at _ c₀, bigSep_congr h0, BI.bigSep_emp_const]
  unfold onDev
  rw [if_pos rfl]
  exact BI.equiv_iff.mp sep_emp
def G : Dev nD → sProp 𝕄 := onDev 0 (BI.own (ER (launchOf barCells ownCells duties)))

/-! ## The tokens, each to the device that pays it -/

/-- A family indexed by a device and something else, read at the device shifted by an amount that depends on that thing. -/
def shift {ι : Type} (f : ι → Fin 4) : Dev nD × ι ≃ Dev nD × ι where
  toFun p := (p.1 + f p.2, p.2)
  invFun p := (p.1 - f p.2, p.2)
  left_inv p := Prod.ext (add_then_sub p.1 (f p.2)) rfl
  right_inv p := Prod.ext (sub_then_add p.1 (f p.2)) rfl
theorem shifted {ι : Type} [Fintype ι] [DecidableEq ι] (f : ι → Fin 4) (Φ : Dev nD → ι → sProp 𝕄) :
    (bigSep Finset.univ fun c : Dev nD => bigSep Finset.univ fun i : ι => Φ c i)
      = bigSep Finset.univ fun c : Dev nD => bigSep Finset.univ fun i : ι => Φ (c + f i) i :=
  (bigSep_univ_prod (fun p : Dev nD × ι => Φ p.1 p.2)).symm.trans
    ((bigSep_univ_equiv (shift f) (fun p : Dev nD × ι => Φ p.1 p.2)).trans (bigSep_univ_prod (fun p : Dev nD × ι => Φ (p.1 + f p.2) p.2)))

/-- A device's share of all the tokens, by cell and by payer. -/
def byCell (c : Dev nD) : sProp 𝕄 :=
  iprop((bigSep Finset.univ fun k : Fin 72 => dutyTok ER ((c : Thread nD τ), osem1 k) 0 (0 : Fin 4))
    ∗ bigSep Finset.univ fun e : Fin 4 => dutyTok ER (barCell c) 0 e)
def byPayer (c : Dev nD) : sProp 𝕄 := iprop(pays c ∗ bigSep Finset.univ fun e : Fin 4 => dutyTok ER (barCell (c + -e)) 0 e)

theorem duties_eq : bigSep duties (fun x => (dutyTok ER x.1 x.2.1 x.2.2 : sProp 𝕄)) = bigSep Finset.univ fun c : Dev nD => byCell c := by
  unfold duties
  rw [bigSep_map, bigSep_univ_prod]
  refine bigSep_congr fun c _ => ?_
  rw [bigSep_univ_sum]
  rfl

theorem dealt : (bigSep Finset.univ fun c : Dev nD => (byCell c : sProp 𝕄)) = bigSep Finset.univ fun c : Dev nD => byPayer c := by
  have e : (fun c : Dev nD => (byCell c : sProp 𝕄)) = fun c =>
      iprop(((((bigSep Finset.univ fun i => dutyTok ER (copyCell c i) 0 (0 : Fin 4)) ∗ (bigSep Finset.univ fun i => dutyTok ER (wrCell c i) 0 (0 : Fin 4)))
        ∗ ((bigSep Finset.univ fun i => dutyTok ER (dsCell c i) 0 (0 : Fin 4)) ∗ (bigSep Finset.univ fun i => dutyTok ER (drCell c i) 0 (0 : Fin 4))))
        ∗ ((bigSep Finset.univ fun d => dutyTok ER (asCell c d) 0 (0 : Fin 4)) ∗ (bigSep Finset.univ fun d => dutyTok ER (arCell c d) 0 (0 : Fin 4))))
        ∗ bigSep Finset.univ fun e : Fin 4 => dutyTok ER (barCell c) 0 e) := funext fun c => by
    unfold byCell
    rw [own_sems fun sm => dutyTok ER ((c : Thread nD τ), sm) 0 (0 : Fin 4)]
  have e' : (fun c : Dev nD => (byPayer c : sProp 𝕄)) = fun c =>
      iprop(((((bigSep Finset.univ fun i => dutyTok ER (copyCell c i) 0 (0 : Fin 4)) ∗ (bigSep Finset.univ fun i => dutyTok ER (wrCell c i) 0 (0 : Fin 4)))
        ∗ ((bigSep Finset.univ fun i => dutyTok ER (dsCell c i) 0 (0 : Fin 4)) ∗ (bigSep Finset.univ fun i => dutyTok ER (drCell (c + dOf i) i) 0 (0 : Fin 4))))
        ∗ ((bigSep Finset.univ fun d => dutyTok ER (asCell c d) 0 (0 : Fin 4)) ∗ (bigSep Finset.univ fun d => dutyTok ER (arCell (c + d) d) 0 (0 : Fin 4))))
        ∗ bigSep Finset.univ fun e : Fin 4 => dutyTok ER (barCell (c + -e)) 0 e) := funext fun c => by
    unfold byPayer pays
    rw [regroup]
  rw [e, e']
  simp only [bigSep_sep']
  rw [shifted dOf fun c i => dutyTok ER (drCell c i) 0 (0 : Fin 4), shifted (fun d : Fin 4 => d) fun c d => dutyTok ER (arCell c d) 0 (0 : Fin 4),
    shifted (fun e : Fin 4 => -e) fun c e => dutyTok ER (barCell c) 0 e]

/-! ## The credits -/

theorem tab0 : ∀ k : Slot, tab 0 0 0 0 0 0 k = 0
  | .inl (.inl (.inl _)) => by simp only [tab, Nat.zero_div, Nat.zero_mod]
  | .inl (.inl (.inr _)) => by simp only [tab, Nat.zero_div, Nat.zero_mod]
  | .inl (.inr (.inl _)) => by simp only [tab, Nat.zero_div, Nat.zero_mod]
  | .inl (.inr (.inr _)) => by simp only [tab, Nat.zero_div, Nat.zero_mod]
  | .inr (.inl _) => by simp only [tab, Nat.zero_div, Nat.zero_mod]
  | .inr (.inr _) => by simp only [tab, Nat.zero_div, Nat.zero_mod]

theorem from_left (sm : SemLoc sig) (e : Fin 4) (n : ℕ) (c : Dev nD) :
    (Pipeline.launchCred (fun d => tallyAt (((d + e : Fin 4) : Thread nD τ), sm) () n) c : sProp 𝕄) ⊢ cred (tallyAt ((c : Thread nD τ), sm) () n) :=
  Pipeline.launchCred_tallyAt sm (fun d => d + e) (fun d => d - e) (fun d => sub_then_add d e) (fun d => add_then_sub d e) () n c

theorem cred_dr (i : Fin 16) (c : Dev nD) :
    (Pipeline.launchCred (fun d => due d (kq i) 0) c : sProp 𝕄) ⊢ (if 4 ≤ i.val then (cred (tallyAt (drCell c i) () NQ) : sProp 𝕄) else iprop(emp)) := by
  by_cases h : 4 ≤ i.val
  · rw [if_pos h, show (fun d : Dev nD => due d (kq i) 0) = fun d => tallyAt (drCell (d + dOf i) i) () NQ from funext fun d => by
      unfold due; exact if_pos ⟨h, Nat.zero_le 1⟩]
    exact from_left _ _ _ _
  · rw [if_neg h]
    iintro -
    iempintro
theorem cred_ar (e : Fin 4) (c : Dev nD) :
    (Pipeline.launchCred (fun d => due d (ka e) 0) c : sProp 𝕄) ⊢ (if e ≠ 0 then (cred (tallyAt (arCell c e) () NA) : sProp 𝕄) else iprop(emp)) := by
  by_cases h : e ≠ 0
  · rw [if_pos h, show (fun d : Dev nD => due d (ka e) 0) = fun d => tallyAt (arCell (d + e) e) () NA from funext fun d => by
      unfold due; exact if_pos ⟨h, rfl⟩]
    exact from_left _ _ _ _
  · rw [if_neg h]
    iintro -
    iempintro
theorem all_dr (c : Dev nD) : (bigSep Finset.univ fun i : Fin 16 => (Pipeline.launchCred (fun d => due d (kq i) 0) c : sProp 𝕄))
    ⊢ bigSep Finset.univ fun i : Fin 16 => if 4 ≤ i.val then (cred (tallyAt (drCell c i) () NQ) : sProp 𝕄) else iprop(emp) :=
  bigSep_mono fun i _ => cred_dr i c
theorem all_ar (c : Dev nD) : (bigSep Finset.univ fun e : Fin 4 => (Pipeline.launchCred (fun d => due d (ka e) 0) c : sProp 𝕄))
    ⊢ bigSep Finset.univ fun e : Fin 4 => if e ≠ 0 then (cred (tallyAt (arCell c e) () NA) : sProp 𝕄) else iprop(emp) :=
  bigSep_mono fun e _ => cred_ar e c

theorem bar_three (c : Dev nD) :
    iprop(cred (tallyAt (barCell c) () 1) ∗ cred (tallyAt (barCell c) () 1) ∗ cred (tallyAt (barCell c) () 1)) ⊢ (cred (tallyAt (barCell c) () 3) : sProp 𝕄) := by
  rw [show (3 : ℕ) = 1 + (1 + 1) from rfl, ← tallyAt_add, ← tallyAt_add]
  iintro ⟨H1, H2, H3⟩
  iapply (cred_add _ _).2
  isplitl [H1]; · iexact H1
  iapply (cred_add _ _).2
  isplitl [H2] <;> iassumption

theorem creds (c : Dev nD) : (Pipeline.launchCred owed0 c : sProp 𝕄) ⊢ iprop(due_in c ∗ cred (tallyAt (barCell c) () 3)) := by
  have e : (owed0 : Dev nD → CellTallies nD τ sig Unit) = fun d => (((∑ k, due d k 0) + cBar (d + 3)) + cBar (d + 2)) + cBar (d + 1) := funext fun d => by
    unfold owed0 owed
    simp only [tab0]
  rw [e, Pipeline.launchCred_add, Pipeline.launchCred_add, Pipeline.launchCred_add,
    Pipeline.launchCred_sum Finset.univ (fun (k : Slot) d => due d k 0), slots]
  unfold due_in
  iintro ⟨⟨⟨⟨⟨-, HQ, -⟩, HA, -⟩, H3⟩, H2⟩, H1⟩
  ihave HQ := (all_dr c) $$ HQ
  ihave HA := (all_ar c) $$ HA
  ihave H1 := (from_left (F := F) (.reg barS) 1 1 c) $$ H1
  ihave H2 := (from_left (F := F) (.reg barS) 2 1 c) $$ H2
  ihave H3 := (from_left (F := F) (.reg barS) 3 1 c) $$ H3
  isplitl [HQ HA]
  · isplitl [HQ]; · iexact HQ
    iexact HA
  iapply (bar_three (F := F) c)
  isplitl [H1]; · iexact H1
  isplitl [H2] <;> iassumption

end Cert.KernelIdeal.A2a

end
-- ==== Proof.A2a.Run.lean ====
/-
  The run of the whole program: the launch, the three segments, and what every final memory holds.
-/
module

public import proofs.«01_k».proof.Proof.A2a.Funds

@[expose] public section

noncomputable section

namespace Cert.KernelIdeal.A2a

open Idealize.ShloMosaic
open Cert.KernelIdeal.Gen
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

open Idealize.ShloMosaic.Pipeline (Dat Cfg Window BodyObligation cellOf arrRefs ucRefs)

variable (m : (ℓ : Loc nD τ sig) → Buf (Elt F) ℓ) (ρ : Dev nD → PrngReg)

/-- What every device may consult: all the invariants under one map of names, and that every barrier is open. -/
def records (κ : GSem nD τ sig → ℕ) : sProp 𝕄 :=
  iprop((bigSep (barCells ∪ ownCells) fun g => cellInv ER (sched (Yof m) (Mof m)) (κ g) g) ∗ bigSep barCells fun g => reached ER g 0)
instance records_persistent (κ : GSem nD τ sig → ℕ) : BI.Persistent (records m κ) := by unfold records; infer_instance

/-- What the protocol deals a device, and what else it starts with. -/
def dealtTo (c : Dev nD) : sProp 𝕄 :=
  iprop(atPos ER (barCell c) 0 ∅ 0 ∗ (bigSep Finset.univ fun k : Fin 72 => openTok ER ((c : Thread nD τ), osem1 k)) ∗ byPayer c)
def startsWith (c : Dev nD) : sProp 𝕄 :=
  iprop(StableHlo.held (c : Thread nD τ) (ucRefs τ sig) (W0 m c) ∗ (due_in c ∗ cred (tallyAt (barCell c) () 3))
    ∗ owes (c : Thread nD τ) (owed0 c) ∅ ∗ ∃ r, prngReg c r)

theorem records_invs (κ : GSem nD τ sig → ℕ) :
    (bigSep (barCells ∪ ownCells) fun g => (cellInv ER (sched (Yof m) (Mof m)) (κ g) g : sProp 𝕄)) ⊢ invs m κ := by
  rw [bigSep_union disjoint_cells, bigSep_map, bigSep_map]
  exact .rfl
theorem records_open : (bigSep barCells fun g => (reached ER g 0 : sProp 𝕄)) ⊢ bigSep Finset.univ fun p : Dev nD => reached ER (barCell p) 0 := by
  rw [bigSep_map]
  exact .rfl

theorem minus_three : ∀ c : Fin 4, c + -3 = c + 1 := by decide
theorem minus_two : ∀ c : Fin 4, c + -2 = c + 2 := by decide
theorem minus_one : ∀ c : Fin 4, c + -1 = c + 3 := by decide

theorem begins (κ : GSem nD τ sig → ℕ) (c : Dev nD) :
    iprop(records m κ ∗ (dealtTo c ∗ startsWith m c)) ⊢ iprop(StableHlo.held (c : Thread nD τ) (ucRefs τ sig) (W0 m c) ∗ beside0 m c) := by
  unfold records dealtTo startsWith beside0 rides carries byPayer barrier
  rw [four, minus_three c, minus_two c, minus_one c]
  iintro ⟨⟨#HI, #HR⟩, ⟨Hat, Ho, Hp, ⟨-, H1, H2, H3⟩⟩, Hh, ⟨Hd, Hc⟩, HO, Hr⟩
  isplitl [Hh]; · iexact Hh
  isplitr [HO]
  · isplitl [Hr]; · iexact Hr
    isplitr
    · iexists κ
      iapply (records_invs m κ)
      iexact HI
    isplitl [Ho]; · iexact Ho
    isplitl [Hp]; · iexact Hp
    isplitl [Hd]; · iexact Hd
    isplitr
    · iapply (records_open (F := F))
      iexact HR
    isplitl [H3]; · iexact H3
    isplitl [H2]; · iexact H2
    isplitl [H1]; · iexact H1
    isplitl [Hat]; · iexact Hat
    iexact Hc
  iexists ∅
  iexact HO

theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

theorem core_start (c : Dev nD) :
    iprop(unscopedBufs c (fun b => m ((c : Thread nD τ).loc b)) ∗ unscopedSems0 c
        ∗ owes (c : Thread nD τ) (owed0 c) ∅ ∗ Pipeline.launchCred owed0 c ∗ prngReg c (ρ c) ∗ G c)
      ⊢ (iprop(startsWith m c ∗ (semVal (barCell c) 0 ∗ G c)) : sProp 𝕄) := by
  rw [show unscopedBufs c (fun b => m ((c : Thread nD τ).loc b)) = (StableHlo.held (c : Thread nD τ) (ucRefs τ sig) (W0 m c) : sProp 𝕄) from
    Pipeline.unscopedBufs_held c (W0 m c), unscoped_sems]
  unfold startsWith
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem apart {ι : Type} [Fintype ι] (Φ Ψ : ι → sProp 𝕄) :
    (bigSep Finset.univ fun c => iprop(Φ c ∗ Ψ c)) ⊢ iprop(bigSep Finset.univ Φ ∗ bigSep Finset.univ Ψ) := Entails.of_eq (bigSep_sep' _ _ _)
theorem together {ι : Type} [Fintype ι] (Φ Ψ : ι → sProp 𝕄) :
    iprop(bigSep Finset.univ Φ ∗ bigSep Finset.univ Ψ) ⊢ (bigSep Finset.univ fun c => iprop(Φ c ∗ Ψ c)) := Entails.of_eq (bigSep_sep' _ _ _).symm

theorem vals_bar : bigSep Finset.univ (fun c : Dev nD => (semVal (barCell c) 0 : sProp 𝕄)) ⊢ bigSep barCells (fun g => (semVal g 0 : sProp 𝕄)) := by
  rw [bigSep_map]; exact .rfl
theorem pos_bar : bigSep barCells (fun g => (atPos ER g 0 ∅ 0 : sProp 𝕄)) ⊢ bigSep Finset.univ (fun c : Dev nD => (atPos ER (barCell c) 0 ∅ 0 : sProp 𝕄)) := by
  rw [bigSep_map]; exact .rfl
theorem toks_own : bigSep ownCells (fun g => (openTok ER g : sProp 𝕄))
    ⊢ bigSep Finset.univ (fun c : Dev nD => bigSep Finset.univ fun k : Fin 72 => (openTok ER ((c : Thread nD τ), osem1 k) : sProp 𝕄)) := by
  rw [bigSep_map, bigSep_univ_prod]; exact .rfl
theorem toks_duty : bigSep duties (fun x => (dutyTok ER x.1 x.2.1 x.2.2 : sProp 𝕄)) ⊢ bigSep Finset.univ fun c : Dev nD => (byPayer c : sProp 𝕄) := by
  rw [duties_eq, dealt]

theorem dealt_all : iprop(bigSep barCells (fun g => (atPos ER g 0 ∅ 0 : sProp 𝕄)) ∗ bigSep ownCells (fun g => (openTok ER g : sProp 𝕄))
    ∗ bigSep duties (fun x => (dutyTok ER x.1 x.2.1 x.2.2 : sProp 𝕄))) ⊢ bigSep Finset.univ fun c : Dev nD => (dealtTo c : sProp 𝕄) := by
  unfold dealtTo
  iintro ⟨H1, H2, H3⟩
  ihave H1 := (pos_bar (F := F)) $$ H1
  ihave H2 := (toks_own (F := F)) $$ H2
  ihave H3 := (toks_duty (F := F)) $$ H3
  iapply (together _ _)
  isplitl [H1]; · iexact H1
  iapply (together _ _)
  isplitl [H2] <;> iassumption

theorem init :
    iprop((bigSep Finset.univ fun c : Dev nD => iprop(unscopedBufs c (fun b => m ((c : Thread nD τ).loc b)) ∗ unscopedSems0 c
          ∗ owes (c : Thread nD τ) (owed0 c) ∅ ∗ Pipeline.launchCred owed0 c ∗ prngReg c (ρ c) ∗ G c)) ∗ levAts L lv)
      ⊢ (|={Set.univ}=> bigSep Finset.univ (fun c : Dev nD => iprop(StableHlo.held (c : Thread nD τ) (ucRefs τ sig) (W0 m c) ∗ beside0 m c)) : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (owed0 c) ∅ ∗ Pipeline.launchCred owed0 c ∗ prngReg c (ρ c) ∗ G c))
      ⊢ (bigSep Finset.univ fun c : Dev nD => iprop(startsWith m c ∗ (semVal (barCell c) 0 ∗ G c)) : sProp 𝕄) from bigSep_mono fun c _ => core_start m ρ c) $$ H
  ihave H := (apart _ _) $$ H
  icases H with ⟨HB, H⟩
  ihave H := (apart _ _) $$ H
  icases H with ⟨Hv, HG⟩
  ihave Hv := (vals_bar (F := F)) $$ Hv
  ihave Hu := (show bigSep Finset.univ (G (F := F)) ⊢ BI.own (ER (launchOf barCells ownCells duties)) from
    Entails.of_eq (bigSep_onDev (F := F) 0 (BI.own (ER (launchOf barCells ownCells duties))))) $$ HG
  imod (Rounds.fund_launch ER (sched (Yof m) (Mof m)) disjoint_cells (fun g _ h => h) duties) $$ [Hv Hu] with ⟨%κ, -, #Hinv, #Hr, Hat, Hopen, Htok⟩
  · isplitl [Hv]; · iexact Hv
    iexact Hu
  imodintro
  iapply (bigSep_with_persistent (S := Finset.univ) (R := records m κ) (Φ := fun c => iprop(dealtTo c ∗ startsWith m c)) fun c _ => begins m κ c)
  isplitr
  · unfold records
    isplitr; · iexact Hinv
    iexact Hr
  iapply (together _ _)
  isplitr [HB]
  · iapply (dealt_all (F := F))
    isplitl [Hat]; · iexact Hat
    isplitl [Hopen] <;> iassumption
  iexact HB

/-! ## The run -/

theorem unscoped_only : ∀ sm : SemLoc sig, sm.isScoped .tc = false → sm = .reg barS := by decide +kernel

theorem W3_arg (c : Dev nD) (r : Ref sig .tc) (h0 : r ≠ main_v1_0) (h1 : r ≠ main_v1_1) (h2 : r ≠ main_v2) : W3 m c r = m ((c : Thread nD τ).loc r) :=
  (W3_of m c r h2).trans ((W2_of m c r h2).trans (W1_of m c r h0 h1))

/-- What a final memory holds on a device. -/
def holdsAt (c : Dev nD) (s : MemSt nD τ sig (Elt F)) : Prop :=
  (s.mem ((c : Thread nD τ).loc main_v2) = outY (Yof m) (Mof m) c
    ∧ s.mem ((c : Thread nD τ).loc main_arg0) = m ((c : Thread nD τ).loc main_arg0)
    ∧ s.mem ((c : Thread nD τ).loc main_arg1) = m ((c : Thread nD τ).loc main_arg1))
  ∧ s.sem (barCell c) = 0

theorem reads (c : Dev nD) (s' : Phys nD τ sig (Elt F)) :
    iprop((StableHlo.held (c : Thread nD τ) (ucRefs τ sig) (W3 m c) ∗ semVal (barCell c) 0) ∗ SI s')
      ⊢ iprop(|={Set.univ}=> (⌜holdsAt m c s'.mem⌝ ∗ SI s' : sProp 𝕄)) := by
  unfold StableHlo.held
  iintro ⟨⟨Hh, Hb⟩, HSI⟩
  icombine HSI Hb gives %hb
  ihave Hr := (pointsTo_read_all (ucRefs τ sig) (fun b => ((c : Thread nD τ).1, b)) (W3 m c) s') $$ [Hh HSI]
  · isplitl [Hh] <;> iassumption
  icases Hr with ⟨%h, HSI⟩
  imodintro
  isplitr
  · ipureintro
    refine ⟨⟨?_, ?_, ?_⟩, by simpa using hb⟩
    · exact (h (Proc.devRef .tc main_v2) (Finset.mem_filter.mpr ⟨StableHlo.devRef_mem_tcRefs main_v2, by decide⟩)).trans (W3_out m c)
    · exact (h (Proc.devRef .tc main_arg0) (Finset.mem_filter.mpr ⟨StableHlo.devRef_mem_tcRefs main_arg0, by decide⟩)).trans
        (W3_arg m c main_arg0 (by decide) (by decide) (by decide))
    · exact (h (Proc.devRef .tc main_arg1) (Finset.mem_filter.mpr ⟨StableHlo.devRef_mem_tcRefs main_arg1, by decide⟩)).trans
        (W3_arg m c main_arg1 (by decide) (by decide) (by decide))
  iexact HSI

def segs : List (Pipeline.Seg (pcfgs (F := F)) adm (pdats m) () defs₀ 𝒱₀ L lv) := [.region (reg0 m), .host (seg1 m), .region (reg1 m)]

set_option backward.isDefEq.respectTransparency.types false in
/-- From any memory with the counters at zero every fair execution ends; each device then holds the exchanged product, its
    arguments as launched, and every counter of the machine is zero. -/
theorem run_main : θ_run defs (onTc (τ := τ) (main (F := F))) ⟨m, fun _ => 0, ρ⟩
    (fun r => (∀ c : Dev nD, r.2.mem ((c : Thread nD τ).loc main_v2) = outY (Yof m) (Mof m) c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) () cellOf_inj EP defs₀ 𝒱₀ L lv m ρ main (segs m)
    (fun c Q => by
      rw [main_segs adm (pdats m) () 𝒱₀ L lv (seg1 m) (reg0 m) (reg1 m) rfl c]
      exact .rfl)
    (by
      simp only [segs, Pipeline.Seg.pipes_host, Pipeline.Seg.pipes_region, Pipeline.Seg.pipes_nil]
      decide)
    (O₀ := owed0) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := fun c => iprop(StableHlo.held (c : Thread nD τ) (ucRefs τ sig) (W0 m c) ∗ beside0 m c))
    (Tₙ := fun c => iprop(StableHlo.held (c : Thread nD τ) (ucRefs τ sig) (W3 m c) ∗ semVal (barCell c) 0))
    (hch := by
      refine ⟨fun c => reg0_pre m c, fun c => reg0_post m c, fun c => reg1_pre m c, fun c => (reg1_post m c).trans ?_⟩
      unfold beside2
      rw [regroup])
    (hinit := init m ρ)
    (QY := fun c s => holdsAt m c s)
    (hfin := fun c s' => reads m c s')
    (hQ := fun s h hs => ⟨fun c => (h c).1,
      sem_eq_zero hs fun c sm hsm => by
        obtain rfl := unscoped_only sm hsm
        exact (h c).2⟩)

end Cert.KernelIdeal.A2a

end
-- ==== Proof.A2a.Frames.lean ====
/-
  Every run of the three programs ends, with its arguments as they were and every semaphore counter at zero. The
  kernel's run is proved once, over any float values; the program as printed and its reading over the extended reals
  are the same text, so both take it.
-/
module

public import proofs.«01_k».proof.Defs
public import proofs.«01_k».proof.Proof.A2a.Run
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel over the extended reals. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.A2a.run_main m ρ)

set_option maxRecDepth 10000 in
/-- The two texts' first bodies are the same. -/
theorem body_gemm (t s) : Cert.Kernel.defs₀ (F := Bits) .tc 0 (t, s) = Cert.KernelIdeal.defs₀ (F := Bits) .tc 0 (t, s) := rfl

set_option maxRecDepth 10000 in
/-- The two texts' second bodies are the same. -/
theorem body_exchange (t s) : Cert.Kernel.defs₀ (F := Bits) .tc 1 (t, s) = Cert.KernelIdeal.defs₀ (F := Bits) .tc 1 (t, s) := rfl

/-- The two texts' body tables are the same. -/
theorem bodies : Cert.Kernel.defs₀ (F := Bits) = Cert.KernelIdeal.defs₀ (F := Bits) := by
  funext p l a
  cases p
  · match l, a with
    | 0, (t, s) => exact body_gemm t s
    | 1, (t, s) => exact body_exchange t s
  · rfl
  · rfl

/-- So are their tables with the pipelines' own entries. -/
theorem tables : Cert.Kernel.defs (F := Bits) = Cert.KernelIdeal.defs (F := Bits) :=
  congrArg (Pipeline.defs (Cert.KernelIdeal.pcfgs (F := Bits))) bodies

/-- The kernel over machine words. -/
theorem frame_kernel : Cert.quiescent_Kernel (hKernel := Cert.Kernel.Gen.facts) := by
  intro m ρ _
  rw [tables]
  exact (θ_run (Cert.KernelIdeal.defs (F := Bits)) (onTc (τ := Cert.KernelIdeal.τ) (Cert.KernelIdeal.main (F := Bits))) ⟨m, fun _ => 0, ρ⟩).mono
    (fun _ h => ⟨fun c => (h.1 c).2, h.2⟩) (Cert.KernelIdeal.A2a.run_main (F := Bits) m ρ)

/-- The reference over the extended reals; it has no semaphores. -/
theorem frame_referenceIdeal : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run m ρ)

end Cert.Proof

end
-- ==== Proof.A2a.Rounded.lean ====
/-
  A scaled value, rounded and clamped, survives the trip through eight bits: over the extended reals it is an integer
  between -127 and 127.
-/
module

public import proofs.«01_k».proof.Proof.A2a.Views
public import Idealize.ShloMosaic.PureOps.Ideal.Laws

@[expose] public section

noncomputable section

namespace Cert.KernelIdeal.A2a

open Idealize.ShloMosaic
open Cert.KernelIdeal.Gen
open Idealize.ShloMosaic.ValueIdx
open Idealize.ShloMosaic.TcCoe

/-- The two bounds as numbers. -/
theorem bound_up : (Scalar.ofBits .f32 0x42FE0000#32 : Ideal .f32) = ((127 : ℝ) : EReal) := by
  show Ideal.ofBits .f32 0x42FE0000#32 = _
  simp [Ideal.ofBits, Ideal.ieee]
  norm_num
  rw [← EReal.coe_mul]
  norm_num
theorem bound_down : (Scalar.ofBits .f32 0xC2FE0000#32 : Ideal .f32) = ((-127 : ℝ) : EReal) := by
  show Ideal.ofBits .f32 0xC2FE0000#32 = _
  simp [Ideal.ofBits, Ideal.ieee]
  norm_num
  rw [← EReal.coe_mul]
  norm_num

/-- A rounded, clamped value is an integer between the bounds. -/
theorem clamp_int (y : EReal) : ∃ z : ℤ, -127 ≤ z ∧ z ≤ 127 ∧
    min ((127 : ℝ) : EReal) (max ((-127 : ℝ) : EReal) (Ideal.liftRound Ideal.roundHalfEven y)) = ((z : ℝ) : EReal) := by
  induction y with
  | bot =>
    refine ⟨-127, by norm_num, by norm_num, ?_⟩
    show min _ (max _ ⊥) = _
    rw [max_eq_left bot_le, ← EReal.coe_strictMono.monotone.map_min]
    norm_num
  | top =>
    refine ⟨127, by norm_num, by norm_num, ?_⟩
    show min _ (max _ ⊤) = _
    rw [max_eq_right le_top, min_eq_left le_top]
    norm_num
  | coe r =>
    refine ⟨min 127 (max (-127) (Ideal.roundHalfEven r)), by omega, by omega, ?_⟩
    show min _ (max _ (((Ideal.roundHalfEven r : ℤ) : ℝ) : EReal)) = _
    rw [← EReal.coe_strictMono.monotone.map_max, ← EReal.coe_strictMono.monotone.map_min]
    push_cast
    rfl

/-- An integer between the bounds is kept by eight bits. -/
theorem keep_int (z : ℤ) (h1 : -127 ≤ z) (h2 : z ≤ 127) : (Ideal.fptosi 8 ((z : ℝ) : EReal)).toInt = z := by
  have hf : (if (0 : ℝ) ≤ (z : ℝ) then ⌊(z : ℝ)⌋ else ⌈(z : ℝ)⌉) = z := by
    split
    · exact Int.floor_intCast z
    · exact Int.ceil_intCast z
  unfold Ideal.fptosi
  rw [Ideal.toIntClamped_coe, hf, BitVec.toInt_ofInt]
  have : max (-((2 ^ (8 - 1) : ℕ) : ℤ)) (min (((2 ^ (8 - 1) : ℕ) : ℤ) - 1) z) = z := by norm_num; omega
  rw [this]
  norm_num [Int.bmod]
  omega

/-- So the value sent as eight bits is the value itself. -/
theorem keep_clampQ (s x : Ideal .f32) :
    FloatOps.sitofp (F := Ideal) .f32 (FloatOps.fptosi (F := Ideal) 8 (clampQ s x)) = clampQ s x := by
  have e : clampQ s x = min ((127 : ℝ) : EReal) (max ((-127 : ℝ) : EReal) (Ideal.liftRound Ideal.roundHalfEven (FloatOps.divf x s))) := by
    unfold clampQ
    rw [bound_up, bound_down]
    rfl
  obtain ⟨z, h1, h2, hz⟩ := clamp_int (FloatOps.divf x s)
  rw [e, hz]
  show (((Ideal.fptosi 8 ((z : ℝ) : EReal)).toInt : ℝ) : EReal) = _
  rw [keep_int z h1 h2]

end Cert.KernelIdeal.A2a

end
-- ==== Proof.A2a.OutValue.lean ====
/-
  The exchanged product entry by entry, once every device's scale is the same.
-/
module

public import proofs.«01_k».proof.Proof.A2a.Rounded
public import proofs.«01_k».proof.Proof.A2a.Contents

@[expose] public section

noncomputable section

namespace Cert.KernelIdeal.A2a

open Idealize.ShloMosaic
open Cert.KernelIdeal.Gen
open Idealize.ShloMosaic.ValueIdx
open Idealize.ShloMosaic.TcCoe

theorem reached (c e : Fin 4) : (e.val + (c - e).val) % 4 = c.val := by revert c e; decide
theorem near (c e : Fin 4) (h : (c - e).val = 0) : c = e := by revert c e; decide
theorem back (c e : Fin 4) : c - (c - e) = e := by revert c e; decide

/-- A sent block's entry, whole again as a float: the clamped entry of the sender's row for the receiver. -/
theorem out_at (Y : Fin 4 → Vec Ideal S4096x2048 .f32) (M : Fin 4 → Vec Ideal S8x128 .f32) (s : Ideal .f32) (hs : ∀ c, scaleOf M c = s)
    (c : Fin 4) (r : Fin 4096) (l : Fin 2048) :
    outY Y M c (ix2 r l) = FloatOps.mulf (clampQ s (Y ⟨r.val / 1024, by omega⟩ (ix2 ⟨c.val * 1024 + r.val % 1024, by omega⟩ l))) s := by
  have hr : r.val / 1024 < 4 := by omega
  have e0 : outY Y M c (ix2 r l) = writeB Y M c (ix3 (c - ⟨r.val / 1024, hr⟩) ⟨r.val % 1024, Nat.mod_lt _ (by decide)⟩ l) := rfl
  rw [e0]
  generalize he : (⟨r.val / 1024, hr⟩ : Fin 4) = e
  unfold writeB
  by_cases h : (c - e).val = 0
  · have hce := near c e h
    have hb : readB Y c (ix3 (c - e) ⟨r.val % 1024, Nat.mod_lt _ (by decide)⟩ l) = Y e (ix2 ⟨c.val * 1024 + r.val % 1024, by omega⟩ l) := by
      have hv : (c.val + (c - e).val) % 4 = c.val := by rw [h]; omega
      have ht : ∀ (n : ℕ) (hn : n < 4096), n = c.val * 1024 + r.val % 1024 →
          Y c (ix2 ⟨n, hn⟩ l) = Y e (ix2 ⟨c.val * 1024 + r.val % 1024, by omega⟩ l) := by
        intro n hn hh; subst hh; exact congrArg (fun d : Fin 4 => Y d (ix2 ⟨c.val * 1024 + r.val % 1024, hn⟩ l)) hce
      refine ht ((c.val + (c - e).val) % 4 * 1024 + r.val % 1024) (by omega) ?_
      rw [hv]
    rw [if_pos (show ((ix3 (c - e) (⟨r.val % 1024, Nat.mod_lt _ (by decide)⟩ : Fin 1024) l : S4x1024x2048.Idx) 0 : Fin 4).val = 0 from h), hs, hb]
  · rw [if_neg (show ¬ ((ix3 (c - e) (⟨r.val % 1024, Nat.mod_lt _ (by decide)⟩ : Fin 1024) l : S4x1024x2048.Idx) 0 : Fin 4).val = 0 from h), hs]
    congr 1
    have hlt := (c - e).isLt
    have hq : recvQ Y M c (ix3 ⟨(c - e).val - 1, by omega⟩ ⟨r.val % 1024, Nat.mod_lt _ (by decide)⟩ l)
        = FloatOps.fptosi 8 (clampQ s (Y e (ix2 ⟨c.val * 1024 + r.val % 1024, by omega⟩ l))) := by
      have hd : ∀ (n : ℕ) (hn : n < 4), n = (c - e).val →
          sendQ Y M (c - ⟨n, hn⟩) (ix3 ⟨(c - e).val - 1, by omega⟩ ⟨r.val % 1024, Nat.mod_lt _ (by decide)⟩ l)
            = FloatOps.fptosi 8 (clampQ s (Y e (ix2 ⟨c.val * 1024 + r.val % 1024, by omega⟩ l))) := by
        intro n hn hh
        subst hh
        rw [show (⟨(c - e).val, hn⟩ : Fin 4) = c - e from rfl, back]
        unfold sendQ
        rw [hs]
        congr 2
        have ht : ∀ (n : ℕ) (hn : n < 4096), n = c.val * 1024 + r.val % 1024 →
            Y e (ix2 ⟨n, hn⟩ l) = Y e (ix2 ⟨c.val * 1024 + r.val % 1024, by omega⟩ l) := by
          intro n hn hh; subst hh; rfl
        refine ht ((e.val + ((c - e).val - 1 + 1)) % 4 * 1024 + r.val % 1024) (by omega) ?_
        rw [show (c - e).val - 1 + 1 = (c - e).val by omega, reached]
      exact hd ((c - e).val - 1 + 1) (by omega) (by omega)
    refine Eq.trans (congrArg (FloatOps.sitofp (F := Ideal) .f32) hq) ?_
    exact keep_clampQ _ _

end Cert.KernelIdeal.A2a

end
-- ==== Proof.A2a.Largest.lean ====
/-
  The largest entry of a product, as the two calls take it: read over the extended reals, each of their reductions is
  at most a bound exactly when every entry below it is.
-/
module

public import proofs.«01_k».proof.Proof.A2a.GemmRegion
public import Idealize.ShloMosaic.PureOps.Ideal.Laws
public import Idealize.ShloMosaic.PureOps.Reduce

@[expose] public section

noncomputable section

namespace Cert.KernelIdeal.A2a

open Idealize.ShloMosaic
open Cert.KernelIdeal.Gen
open Idealize.ShloMosaic.ValueIdx
open Idealize.ShloMosaic.TcCoe

theorem lowest : (FloatOps.ofBits .f32 0xFF800000#32 : Ideal .f32) = ⊥ := by
  show Ideal.ofBits .f32 0xFF800000#32 = _
  simp [Ideal.ofBits, Ideal.ieee]

theorem one_at (i j : S1.Idx) : i = j := by
  funext a
  apply Fin.ext
  have hi : (i a : ℕ) < S1.size a := (i a).isLt
  have hj : (j a : ℕ) < S1.size a := (j a).isLt
  have hs : S1.size a = 1 := by fin_cases a; rfl
  omega

/-- A maximum over every entry is at most a bound exactly when each entry is. -/
theorem fold_all {s : Shape} {t : Type} (d : s.Idx → t) [DecidableEq t] (j : t) (hd : ∀ i, d i = j) (src : s.Idx → EReal) (b : EReal) :
    (Finset.univ.filter fun i => d i = j).fold (FloatOps.maximumf (F := Ideal) (φ := .f32)) (⊥ : EReal) src ≤ b ↔ ∀ i, src i ≤ b := by
  rw [Finset.filter_true_of_mem fun i _ => hd i]
  refine (Finset.fold_max_le (f := src) (s := Finset.univ) b (b := ⊥)).trans ?_
  simp

theorem block_le (v : FVec Ideal S1x1024x1024 .f32) (j : S1.Idx) (b : EReal) :
    ((multiReduction .maximumf [1, 2] S1 v 0xFF800000#32 reduces_S1x1024x1024_S1 (.inl rfl) rfl : FVec Ideal S1 .f32) j : EReal) ≤ b ↔ ∀ i, (v i : EReal) ≤ b := by
  refine (iff_of_eq (congrArg (fun a : EReal => a ≤ b) (multiReduction_maximumf_eq_fold (F := Ideal) v 0xFF800000#32 reduces_S1x1024x1024_S1 (.inl rfl) rfl j))).trans ?_
  rw [lowest]
  exact fold_all _ _ (fun i => one_at _ _) _ _

theorem table_le (v : FVec Ideal S1x4x8x128 .f32) (j : S1.Idx) (b : EReal) :
    ((multiReduction .maximumf [1, 2, 3] S1 v 0xFF800000#32 reduces_S1x4x8x128_S1 (.inl rfl) rfl : FVec Ideal S1 .f32) j : EReal) ≤ b ↔ ∀ i, (v i : EReal) ≤ b := by
  refine (iff_of_eq (congrArg (fun a : EReal => a ≤ b) (multiReduction_maximumf_eq_fold (F := Ideal) v 0xFF800000#32 reduces_S1x4x8x128_S1 (.inl rfl) rfl j))).trans ?_
  rw [lowest]
  exact fold_all _ _ (fun i => one_at _ _) _ _

/-- What is extracted from a reshaped vector is one of its entries. -/
theorem extract_cast {s t : Shape} {α : Type} (v : s.Idx → α) (h : s.ShapeCasts t) (p : Fin t.rank → ℕ) (hp : ∀ a, p a < t.size a) :
    extractAt p (shapeCast t v h) hp = v (Shape.reshapeEquiv h fun a => ⟨p a, hp a⟩) := rfl

/-- A bound on a reshaped vector is a bound on the vector. -/
theorem cast_le {s t : Shape} (v : s.Idx → EReal) (h : s.ShapeCasts t) (b : EReal) : (∀ i, shapeCast t v h i ≤ b) ↔ ∀ i, v i ≤ b :=
  ⟨fun H i => by
    have := H ((Shape.reshapeEquiv h).symm i)
    rwa [shapeCast, Equiv.apply_symm_apply] at this, fun H _ => H _⟩

theorem pay2_num (x : Vec Ideal S1024x4096 .f32) (w : Vec Ideal S4096x1024 .f32) : ∃ a : EReal, k0_pay2 x w = broadcast S8x128 a
    ∧ ∀ b : EReal, a ≤ b ↔ ∀ i, (k0_pay1 x w i : EReal) ≤ b := by
  refine ⟨extractAt ![0, 0, 0] (shapeCast S1x1x1 (multiReduction .maximumf [1, 2] S1 (shapeCast S1x1024x1024 (k0_pay1 x w) shapeCasts_S1024x1024_S1x1024x1024)
    0xFF800000#32 reduces_S1x1024x1024_S1 (.inl rfl) rfl : FVec Ideal S1 .f32) shapeCasts_S1_S1x1x1) inpos_S1x1x1_p0_0_0, ?_, fun b => ?_⟩
  · unfold k0_pay2
    rfl
  refine Iff.trans ?_ (cast_le (k0_pay1 x w) shapeCasts_S1024x1024_S1x1024x1024 b)
  generalize shapeCast S1x1024x1024 (k0_pay1 x w) shapeCasts_S1024x1024_S1x1024x1024 = v
  rw [extract_cast]
  exact block_le v _ b

theorem pay2_le (x : Vec Ideal S1024x4096 .f32) (w : Vec Ideal S4096x1024 .f32) (j : S8x128.Idx) (b : EReal) :
    (k0_pay2 x w j : EReal) ≤ b ↔ ∀ i, (k0_pay1 x w i : EReal) ≤ b := by
  obtain ⟨a, e, h⟩ := pay2_num x w
  rw [e]
  exact h b

theorem pay3_le (x : Vec Ideal S1024x4096 .f32) (w : Vec Ideal S4096x1024 .f32) (v : Vec Ideal S8x128 .f32) (j : S8x128.Idx) (b : EReal) :
    k0_pay3 x w v j ≤ b ↔ v j ≤ b ∧ k0_pay2 x w j ≤ b := by
  have e : k0_pay3 x w v j = max (v j) (k0_pay2 x w j) := by
    unfold k0_pay3
    rw [shapeCast_self]
    rfl
  rw [e]
  exact max_le_iff

/-- The scale's numerator: the largest entry of the table. -/
theorem scale_num (T : Vec Ideal S4x8x128 .f32) : ∃ a : EReal, k1_pay2 T = FloatOps.divf (F := Ideal) (φ := .f32) a (Scalar.ofBits .f32 0x42FE0000#32)
    ∧ ∀ b : EReal, a ≤ b ↔ ∀ k, (T k : EReal) ≤ b := by
  refine ⟨_, rfl, fun b => ?_⟩
  refine Iff.trans ?_ (cast_le T shapeCasts_S4x8x128_S1x4x8x128 b)
  exact table_le _ _ b

variable (m : (ℓ : Loc nD τ sig) → Buf (Elt Ideal) ℓ)

/-- The running maximum is at most a bound exactly when every block so far is. -/
theorem largest_le (c : Dev nD) (j : S8x128.Idx) (b : EReal) (n : ℕ) (hn : n < cfg0.N) :
    largest m c n j ≤ b ↔ ∀ t : Fin cfg0.N, t.val ≤ n → ∀ i, k0_pay1 (blockIn m c 0 t) (blockIn m c 1 t) i ≤ b := by
  induction n with
  | zero =>
    rw [largest, pay2_le]
    constructor
    · rintro h ⟨t, ht⟩ h0 i
      obtain rfl : t = 0 := Nat.le_zero.mp h0
      exact h i
    · intro h i
      exact h t0_0 (le_refl _) i
  | succ n ih =>
    rw [largest, dif_pos hn, pay3_le, ih (Nat.lt_of_succ_lt hn), pay2_le]
    constructor
    · rintro ⟨h1, h2⟩ t ht i
      rcases Nat.lt_or_ge t.val (n + 1) with h | h
      · exact h1 t (Nat.le_of_lt_succ h) i
      · obtain rfl : t = ⟨n + 1, hn⟩ := Fin.ext (le_antisymm ht h)
        exact h2 i
    · intro h
      exact ⟨fun t ht i => h t (Nat.le_succ_of_le ht) i, fun i => h ⟨n + 1, hn⟩ (le_refl _) i⟩

end Cert.KernelIdeal.A2a

end
-- ==== Proof.A2a.GemmValue.lean ====
/-
  The product's arrays after its region, over the extended reals: entry by entry, and the bound its maximum meets.
-/
module

public import proofs.«01_k».proof.Proof.A2a.Largest
public import proofs.«01_k».proof.Proof.A2a.ExchangeRegion
public import Idealize.ShloMosaic.Lib.MatmulPlain
public import Idealize.ShloMosaic.Lib.Pipeline.ValueKit.Geometry

@[expose] public section

noncomputable section

namespace Cert.KernelIdeal.A2a

open Idealize.ShloMosaic
open Cert.KernelIdeal.Gen
open Idealize.ShloMosaic.ValueIdx
open Idealize.ShloMosaic.TcCoe

open Idealize.ShloMosaic.Pipeline (Dat Cfg Window)

/-- One entry of a product, its negative part cut off. -/
def cut (n : ℕ) (f : Fin n → EReal) (g : Fin n → EReal) : EReal := max (∑ k, f k * g k) 0

theorem cut_pos (n : ℕ) (f g : Fin n → EReal) : 0 ≤ cut n f g := le_max_right _ _

theorem dims_plain : dot_S1024x4096_S4096x1024_S1024x1024_1_0_0_1_n_n = DotDims.plain 1024 4096 1024 := rfl

theorem pay1_at (x : Vec Ideal S1024x4096 .f32) (w : Vec Ideal S4096x1024 .f32) (r l : Fin 1024) :
    k0_pay1 x w (ix2 r l) = cut 4096 (fun k => x (ix2 r k)) (fun k => w (ix2 k l)) := by
  unfold k0_pay1
  rw [shapeCast_self, shapeCast_self, dims_plain]
  show max (FloatOps.matmul (F := Ideal) (DotDims.plain 1024 4096 1024) none x w _ (ix2 r l)) (Ideal.ofBits .f32 0x00000000#32) = _
  rw [Ideal.matmul_plain_apply, Ideal.ofBits_zero_f32]
  show max (Ideal.ofBits .f32 0x00000000#32 + _) 0 = _
  rw [Ideal.ofBits_zero_f32, zero_add]
  rfl

theorem index0 : ∀ t : Fin grid0.N, win0_0.index t = ![0, 0] := by decide +kernel
theorem index1 : ∀ t : Fin grid0.N, win0_1.index t = ![0, t.val] := by decide +kernel
theorem index2 : ∀ t : Fin grid0.N, win0_2.index t = ![t.val / 2, t.val % 2] := by decide +kernel

variable (m : (ℓ : Loc nD τ sig) → Buf (Elt Ideal) ℓ)

/-- The operands on a device. -/
def Xof (c : Dev nD) : Vec Ideal S1024x4096 .f32 := m ((c : Thread nD τ).loc main_arg0)
def Wof (c : Dev nD) : Vec Ideal S4096x8192 .f32 := m ((c : Thread nD τ).loc main_arg1)

/-- The product's entry on a device. -/
def entry (c : Dev nD) (r : Fin 1024) (C : Fin 8192) : EReal := cut 4096 (fun k => Xof m c (ix2 r k)) (fun k => Wof m c (ix2 k C))

theorem t_lt (t : Fin cfg0.N) : t.val < 8 := lt_of_lt_of_eq t.isLt N_0

theorem block_at (c : Dev nD) (t : Fin cfg0.N) (r l : Fin 1024) :
    k0_pay1 (blockIn m c 0 t) (blockIn m c 1 t) (ix2 r l)
      = entry m c r ⟨t.val * 1024 + l.val, by have := t_lt t; omega⟩ := by
  rw [pay1_at]
  unfold entry
  congr 1
  · funext k
    show Xof m c ((win0_0.blk t).view.emb (ix2 r k)) = _
    congr 1
    blk_ext [index0]
  · funext k
    show Wof m c ((win0_1.blk t).view.emb (ix2 k l)) = _
    congr 1
    blk_ext [index1]

/-- The product's array on a device: its column block first, then its rows. -/
theorem Yof_at (c : Dev nD) :
    Yof m c = fun i : S4096x2048.Idx => entry m c ⟨(i 0 : Fin 4096).val % 1024, Nat.mod_lt _ (by decide)⟩
      ⟨(i 0 : Fin 4096).val / 1024 * 2048 + (i 1 : Fin 2048).val, by
        have h0 : (i 0 : Fin 4096).val < 4096 := (i 0 : Fin 4096).isLt
        have h1 : (i 1 : Fin 2048).val < 2048 := (i 1 : Fin 2048).isLt
        omega⟩ := by
  unfold Yof
  refine (dat0 m c).arrAt_eq_of_covers 2 _ (by decide +kernel) fun t hf y => ?_
  blk_simp
  rw [after0_2]
  obtain ⟨r, l, rfl⟩ : ∃ (r l : Fin 1024), y = ix2 r l := ⟨y 0, y 1, eq_ix2 y⟩
  have ht := t_lt t
  have e0 : win0_2.index t 0 = t.val / 2 := by rw [index2]; rfl
  have e1 : win0_2.index t 1 = t.val % 2 := by rw [index2]; rfl
  refine (block_at m c t r l).trans ?_
  congr 1
  · apply Fin.ext
    show r.val = (win0_2.index t 0 * 1024 + r.val) % 1024
    have := r.isLt
    omega
  · apply Fin.ext
    show t.val * 1024 + l.val = (win0_2.index t 0 * 1024 + r.val) / 1024 * 2048 + (win0_2.index t 1 * 1024 + l.val)
    have := r.isLt
    omega

end Cert.KernelIdeal.A2a

end
-- ==== Proof.A2a.GemmMax.lean ====
/-
  The maximum the product's region leaves.
-/
module

public import proofs.«01_k».proof.Proof.A2a.GemmValue

@[expose] public section

noncomputable section

namespace Cert.KernelIdeal.A2a

open Idealize.ShloMosaic
open Cert.KernelIdeal.Gen
open Idealize.ShloMosaic.ValueIdx
open Idealize.ShloMosaic.TcCoe

open Idealize.ShloMosaic.Pipeline (Dat Cfg Window)
variable (m : (ℓ : Loc nD τ sig) → Buf (Elt Ideal) ℓ)

theorem index3 : ∀ t : Fin grid0.N, win0_3.index t = ![0, 0] := by decide +kernel

/-- The maximum is the last running maximum. -/
theorem Mof_last (c : Dev nD) : Mof m c = largest m c 7 := by
  unfold Mof
  generalize hL : largest m c 7 = L
  refine (dat0 m c).arrAt_eq_of_covers 3 _ (by decide +kernel) fun t hf y => ?_
  blk_simp
  rw [after0_3]
  have h7 : t.val = 7 := by
    have h := (flush0_3 t).mp hf
    have := t_lt t
    omega
  have hy : (win0_3.blk t).view.emb y = y := by
    have e0 : win0_3.index t 0 = 0 := by rw [index3]; rfl
    have e1 : win0_3.index t 1 = 0 := by rw [index3]; rfl
    blk_ext [index3]
  rw [h7, hL, hy]

/-- It is at most a bound exactly when every entry is. -/
theorem Mof_le (c : Dev nD) (j : S8x128.Idx) (b : EReal) :
    (Mof m c j : EReal) ≤ b ↔ ∀ (r : Fin 1024) (C : Fin 8192), entry m c r C ≤ b := by
  rw [Mof_last, largest_le m c j b 7 (lt_of_lt_of_eq (by decide) N_0.symm)]
  constructor
  · intro h r C
    have hC := C.isLt
    have := h ⟨C.val / 1024, lt_of_lt_of_eq (by omega) N_0.symm⟩ (by show C.val / 1024 ≤ 7; omega) (ix2 r ⟨C.val % 1024, Nat.mod_lt _ (by decide)⟩)
    rw [block_at] at this
    convert this using 2
    apply Fin.ext
    show C.val = C.val / 1024 * 1024 + C.val % 1024
    omega
  · intro h t _ i
    obtain ⟨r, l, rfl⟩ : ∃ (r l : Fin 1024), i = ix2 r l := ⟨i 0, i 1, eq_ix2 i⟩
    rw [block_at]
    exact h _ _

end Cert.KernelIdeal.A2a

end
-- ==== Proof.A2a.RefValue.lean ====
/-
  What the reference computes, entry by entry: the product cut below at zero, and that entry rounded in steps of one
  over 127 of the largest.
-/
module

public import proofs.«01_k».proof.Proof.Gen.ReferenceIdeal
public import proofs.«01_k».proof.Proof.Gen.ReferenceIdeal.Run
public import proofs.«01_k».proof.Proof.A2a.GemmMax
public import Idealize.ShloMosaic.Lib.StackMember

@[expose] public section

noncomputable section

namespace Cert.ReferenceIdeal.A2a

open Idealize.ShloMosaic
open Cert.ReferenceIdeal Cert.ReferenceIdeal.Gen
open Idealize.ShloMosaic.ValueIdx
open Idealize.ShloMosaic.TcCoe
open Cert.KernelIdeal.A2a (cut cut_pos clampQ fold_all lowest)

variable (x : FVec Ideal S4096x4096 .f32) (w : FVec Ideal S4096x8192 .f32)

/-- The reference's product, cut below at zero. -/
def prod : FVec Ideal S4096x8192 .f32 :=
  maximumf (Host.dotGeneral dot_S4096x4096_S4096x8192_S4096x8192_1_0_0_1_n_n none x w)
    (broadcastInDim S4096x8192 ![] bcast_S_S4096x8192 (constant S_ .f32 0x00000000#32))

theorem plain : dot_S4096x4096_S4096x8192_S4096x8192_1_0_0_1_n_n = DotDims.plain 4096 4096 8192 := rfl

theorem prod_at (R : Fin 4096) (C : Fin 8192) :
    prod x w (ix2 R C) = cut 4096 (fun k => x (ix2 R k)) (fun k => w (ix2 k C)) := by
  unfold prod cut
  show FloatOps.maximumf (F := Ideal) (φ := .f32) (Host.dotGeneral dot_S4096x4096_S4096x8192_S4096x8192_1_0_0_1_n_n none x w (ix2 R C)) (Ideal.ofBits .f32 0x00000000#32) = _
  rw [plain, StackMember.dotGeneral_plain_apply, Ideal.ofBits_zero_f32]
  rfl

/-- The reference's largest entry, a scalar. -/
def top (Z : FVec Ideal S4096x8192 .f32) : FVec Ideal S_ .f32 :=
  Host.reduce FloatOps.maximumf (Host.absf Z) (constant S_ .f32 0xFF800000#32) reducesTo_S4096x8192_S_d0_1 h_S_

theorem alone (i j : S_.Idx) : i = j := by
  funext a
  exact a.elim0

/-- A bound on the largest entry is a bound on every entry, none of them being negative. -/
theorem top_le (Z : FVec Ideal S4096x8192 .f32) (hZ : ∀ i, (0 : EReal) ≤ Z i) (j : S_.Idx) (b : EReal) :
    (top Z j : EReal) ≤ b ↔ ∀ i, (Z i : EReal) ≤ b := by
  unfold top
  refine (iff_of_eq (congrArg (fun a : EReal => a ≤ b) (Host.reduce_eq_fold (FloatOps.maximumf (F := Ideal) (φ := .f32)) (Host.absf Z) (constant S_ .f32 0xFF800000#32) reducesTo_S4096x8192_S_d0_1 h_S_ j))).trans ?_
  have hb : (constant (F := Ideal) S_ .f32 0xFF800000#32 (Shape.Idx.first h_S_) : EReal) = ⊥ := lowest
  refine (iff_of_eq (congrArg (fun a : EReal => (Finset.univ.filter fun i => reducesTo_S4096x8192_S_d0_1.drop i = j).fold (FloatOps.maximumf (F := Ideal) (φ := .f32)) a (Host.absf Z) ≤ b) hb)).trans ?_
  refine (fold_all _ j (fun i => alone _ _) _ b).trans ?_
  refine forall_congr' fun i => ?_
  have ha : (Host.absf Z i : EReal) = Z i := by
    show max (Z i : EReal) (-(Z i : EReal)) = Z i
    refine max_eq_left ?_
    exact (EReal.neg_le_neg_iff.mpr (hZ i)).trans (by simpa using hZ i)
  rw [ha]

/-- The one place of a scalar. -/
def only : S_.Idx := fun a => a.elim0

/-- The reference's scale. -/
def scale : Ideal .f32 := FloatOps.divf (top (prod x w) only) (Scalar.ofBits .f32 0x42FE0000#32)

/-- The reference's result. -/
def result : FVec Ideal S4096x8192 .f32 := fun i => FloatOps.mulf (clampQ (scale x w) (prod x w i)) (scale x w)

theorem prod_pos (i : S4096x8192.Idx) : (0 : EReal) ≤ prod x w i := by
  have h : i = ix2 (i 0 : Fin 4096) (i 1 : Fin 8192) := by funext a; fin_cases a <;> rfl
  rw [h]
  exact (cut_pos _ _ _).trans_eq (prod_at x w (i 0) (i 1)).symm

open Idealize.SL.Sem in
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v11) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Cert.ReferenceIdeal.Value.run m ρ)
  funext i
  have hj : ∀ j : S_.Idx, j = only := fun j => alone _ _
  show FloatOps.mulf (FloatOps.minimumf _ (FloatOps.maximumf _ (FloatOps.roundeven (FloatOps.divf (prod _ _ i) (FloatOps.divf (top (prod _ _) _) _))))) (FloatOps.divf (top (prod _ _) _) _) = _
  unfold result clampQ scale
  simp only [hj]
  rfl

end Cert.ReferenceIdeal.A2a

end
-- ==== Proof.A2a.Value.lean ====
/-
  The kernel's result is the reference's, over the extended reals: the same product, the same largest entry and so the
  same scale, and each entry rounded in the same steps.
-/
module

public import proofs.«01_k».proof.Defs
public import proofs.«01_k».proof.Proof.A2a.Run
public import proofs.«01_k».proof.Proof.A2a.OutValue
public import proofs.«01_k».proof.Proof.A2a.RefValue
public import proofs.«01_k».proof.Proof.A2a.Largest

@[expose] public section

noncomputable section

namespace Cert.Proof

open Idealize.ShloMosaic Idealize.SL.Sem
open Idealize.ShloMosaic.ValueIdx
open Idealize.ShloMosaic.TcCoe
open Cert.KernelIdeal.A2a Cert.ReferenceIdeal.A2a
open Cert.KernelIdeal (nD τ sig S4x8x128 S8x128 S1024x4096 S4096x2048)

variable (m : (ℓ : Loc nD τ sig) → Buf (Elt Ideal) ℓ)
variable (x : FVec Ideal Cert.ReferenceIdeal.S4096x4096 .f32) (w : FVec Ideal Cert.ReferenceIdeal.S4096x8192 .f32)

/-- Every device holds its block of the rows and the whole of the other factor. -/
def Held : Prop :=
  (∀ (c : Fin 4) (r : Fin 1024) (k : Fin 4096), Xof m c (ix2 r k) = x (ix2 (⟨c.val * 1024 + r.val, by omega⟩ : Fin 4096) k))
  ∧ ∀ c : Fin 4, Wof m c = w

/-- A device's entry of the product is the reference's, its rows counted from the device's own first. -/
theorem entry_ref (h : Held m x w) (c : Fin 4) (r : Fin 1024) (C : Fin 8192) (R : Fin 4096) (hR : R.val = c.val * 1024 + r.val) :
    entry m c r C = (prod x w (ix2 R C) : EReal) := by
  refine Eq.trans ?_ (prod_at x w R C).symm
  have e : R = (⟨c.val * 1024 + r.val, by omega⟩ : Fin 4096) := Fin.ext hR
  unfold entry
  rw [h.2 c, e]
  congr 1
  funext k
  exact h.1 c r k

/-- A bound on every device's entries is a bound on the reference's. -/
theorem entries_le (h : Held m x w) (b : EReal) :
    (∀ (c : Fin 4) (r : Fin 1024) (C : Fin 8192), entry m c r C ≤ b) ↔ ∀ i, (prod x w i : EReal) ≤ b := by
  constructor
  · intro hb i
    have hi : i = ix2 (i 0 : Fin 4096) (i 1 : Fin 8192) := by funext a; fin_cases a <;> rfl
    have h0 : (i 0 : Fin 4096).val < 4096 := (i 0 : Fin 4096).isLt
    rw [hi]
    refine le_of_eq_of_le ?_ (hb ⟨(i 0 : Fin 4096).val / 1024, by omega⟩ ⟨(i 0 : Fin 4096).val % 1024, by omega⟩ (i 1 : Fin 8192))
    exact (entry_ref m x w h _ _ _ _ (by show (i 0 : Fin 4096).val = (i 0 : Fin 4096).val / 1024 * 1024 + (i 0 : Fin 4096).val % 1024; omega)).symm
  · intro hb c r C
    exact le_of_eq_of_le (entry_ref m x w h c r C ⟨c.val * 1024 + r.val, by omega⟩ rfl) (hb _)

theorem turn (c e : Fin 4) : c - (c - e) = e := by revert c e; decide

/-- A bound on a device's table is a bound on every device's entries. -/
theorem tabA_le (c : Fin 4) (b : EReal) :
    (∀ k, (tabA (Mof m) c k : EReal) ≤ b) ↔ ∀ (e : Fin 4) (r : Fin 1024) (C : Fin 8192), entry m e r C ≤ b := by
  constructor
  · intro hb e
    have hk := hb (ix3 (c - e) (0 : Fin 8) (0 : Fin 128))
    have hv : tabA (Mof m) c (ix3 (c - e) (0 : Fin 8) (0 : Fin 128)) = Mof m (c - (c - e)) (ix2 (0 : Fin 8) (0 : Fin 128)) := rfl
    rw [hv, turn] at hk
    exact (Mof_le m e _ b).mp hk
  · intro hb k
    exact (Mof_le m _ _ b).mpr (hb _)

/-- Every device's scale is the reference's. -/
theorem scale_ref (h : Held m x w) (c : Fin 4) : scaleOf (Mof m) c = scale x w := by
  obtain ⟨a, ha, hb⟩ := scale_num (tabA (Mof m) c)
  have e : a = (top (prod x w) only : EReal) := by
    refine eq_of_forall_ge_iff fun b => ?_
    exact (hb b).trans ((tabA_le m c b).trans ((entries_le m x w h b).trans (top_le _ (prod_pos x w) only b).symm))
  unfold scaleOf scale
  rw [ha, e]

/-- Each device's result is its block of columns of the reference's. -/
theorem out_ref (h : Held m x w) (c : Fin 4) (r : Fin 4096) (l : Fin 2048) :
    outY (Yof m) (Mof m) c (ix2 r l) = result x w (ix2 r (⟨c.val * 2048 + l.val, by omega⟩ : Fin 8192)) := by
  rw [out_at (Yof m) (Mof m) (scale x w) (scale_ref m x w h) c r l, Yof_at]
  unfold result
  congr 2
  have he : ∀ (q : Fin 1024) (C D : Fin 8192), q.val = r.val % 1024 → C = D →
      entry m (⟨r.val / 1024, by omega⟩ : Fin 4) q C = (prod x w (ix2 r D) : EReal) := by
    intro q C D hq hC
    subst hC
    exact entry_ref m x w h _ q C r (by show r.val = r.val / 1024 * 1024 + q.val; omega)
  refine he _ _ _ ?_ ?_
  · show (c.val * 1024 + r.val % 1024) % 1024 = r.val % 1024
    omega
  · apply Fin.ext
    show (c.val * 1024 + r.val % 1024) / 1024 * 2048 + l.val = c.val * 2048 + l.val
    omega

theorem algebraic : Cert.algebraic_KernelIdeal_ReferenceIdeal (hKernelIdeal := Cert.KernelIdeal.Gen.facts) (hReferenceIdeal := Cert.ReferenceIdeal.Gen.facts) := by
  intro m g m' g' _ hin
  have held : Held m (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)) := by
    refine ⟨fun c r k => ?_, fun c => (hin c).2⟩
    refine (congrFun (hin c).1 (ix2 r k)).trans ?_
    unfold Layout.block
    congr 1
    funext a
    fin_cases a <;> rfl
  refine ⟨_, ?_, (θ_run _ _ _).mono (fun r h => h 0) (run_result m' g')⟩
  refine (θ_run _ _ _).mono (fun r h c => ⟨(h.1 c).1.trans ?_, (h.1 c).2⟩) (run_main m g)
  funext i
  have hi : i = ix2 (i 0 : Fin 4096) (i 1 : Fin 2048) := by funext a; fin_cases a <;> rfl
  rw [hi]
  refine (out_ref m _ _ held c (i 0) (i 1)).trans ?_
  unfold Layout.block
  congr 1
  funext a
  fin_cases a <;> rfl

end Cert.Proof

end
-- ==== Proof.lean ====
/-
  The certificate's claims, assembled from the modules under Proof/A2a.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.A2a.Frames
public import proofs.«01_k».proof.Proof.A2a.Value

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
